-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_attention [hPre_finite_attention : Cert.Pre_finite_attention.Facts] (m : (ℓ : Loc Cert.MergeIdeal.nD Cert.MergeIdeal.τ Cert.MergeIdeal.sig) → Buf (Elt Ideal) ℓ) : Prop :=
  ∀ c : Dev Cert.MergeIdeal.nD,
    (Cert.Pre_finite_attention.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).1 = (fun _ => 1#1)
    ∧ (Cert.Pre_finite_attention.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2 = (fun _ => 1#1)

def Pre_RefMergeIdeal (m : (ℓ : Loc Cert.RefMergeIdeal.nD Cert.RefMergeIdeal.τ Cert.RefMergeIdeal.sig) → Buf (Elt Ideal) ℓ) : Prop :=
  True

def Pre_RefMergeIdeal_finite_attention [hPre_finite_attention : Cert.Pre_finite_attention.Facts] (m : (ℓ : Loc Cert.RefMergeIdeal.nD Cert.RefMergeIdeal.τ Cert.RefMergeIdeal.sig) → Buf (Elt Ideal) ℓ) : Prop :=
  ∀ c : Dev Cert.RefMergeIdeal.nD,
    (Cert.Pre_finite_attention.fn (F := Ideal) (m ((c.tc : Thread Cert.RefMergeIdeal.nD Cert.RefMergeIdeal.τ).loc Cert.RefMergeIdeal.main_arg0)) (m ((c.tc : Thread Cert.RefMergeIdeal.nD Cert.RefMergeIdeal.τ).loc Cert.RefMergeIdeal.main_arg1)) (m ((c.tc : Thread Cert.RefMergeIdeal.nD Cert.RefMergeIdeal.τ).loc Cert.RefMergeIdeal.main_arg2)) (m ((c.tc : Thread Cert.RefMergeIdeal.nD Cert.RefMergeIdeal.τ).loc Cert.RefMergeIdeal.main_arg3)) (m ((c.tc : Thread Cert.RefMergeIdeal.nD Cert.RefMergeIdeal.τ).loc Cert.RefMergeIdeal.main_arg4)) (m ((c.tc : Thread Cert.RefMergeIdeal.nD Cert.RefMergeIdeal.τ).loc Cert.RefMergeIdeal.main_arg5)) (m ((c.tc : Thread Cert.RefMergeIdeal.nD Cert.RefMergeIdeal.τ).loc Cert.RefMergeIdeal.main_arg6)) (m ((c.tc : Thread Cert.RefMergeIdeal.nD Cert.RefMergeIdeal.τ).loc Cert.RefMergeIdeal.main_arg7))).1 = (fun _ => 1#1)
    ∧ (Cert.Pre_finite_attention.fn (F := Ideal) (m ((c.tc : Thread Cert.RefMergeIdeal.nD Cert.RefMergeIdeal.τ).loc Cert.RefMergeIdeal.main_arg0)) (m ((c.tc : Thread Cert.RefMergeIdeal.nD Cert.RefMergeIdeal.τ).loc Cert.RefMergeIdeal.main_arg1)) (m ((c.tc : Thread Cert.RefMergeIdeal.nD Cert.RefMergeIdeal.τ).loc Cert.RefMergeIdeal.main_arg2)) (m ((c.tc : Thread Cert.RefMergeIdeal.nD Cert.RefMergeIdeal.τ).loc Cert.RefMergeIdeal.main_arg3)) (m ((c.tc : Thread Cert.RefMergeIdeal.nD Cert.RefMergeIdeal.τ).loc Cert.RefMergeIdeal.main_arg4)) (m ((c.tc : Thread Cert.RefMergeIdeal.nD Cert.RefMergeIdeal.τ).loc Cert.RefMergeIdeal.main_arg5)) (m ((c.tc : Thread Cert.RefMergeIdeal.nD Cert.RefMergeIdeal.τ).loc Cert.RefMergeIdeal.main_arg6)) (m ((c.tc : Thread Cert.RefMergeIdeal.nD Cert.RefMergeIdeal.τ).loc Cert.RefMergeIdeal.main_arg7))).2 = (fun _ => 1#1)

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_latent [hPre_finite_latent : Cert.Pre_finite_latent.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_latent.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3))).1 = (fun _ => 1#1)
    ∧ (Cert.Pre_finite_latent.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3))).2.1 = (fun _ => 1#1)
    ∧ (Cert.Pre_finite_latent.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3))).2.2 = (fun _ => 1#1)

def Pre_RefAttnBIdeal (m : (ℓ : Loc Cert.RefAttnBIdeal.nD Cert.RefAttnBIdeal.τ Cert.RefAttnBIdeal.sig) → Buf (Elt Ideal) ℓ) : Prop :=
  True

def Pre_RefAttnBIdeal_finite_latent [hPre_finite_latent : Cert.Pre_finite_latent.Facts] (m : (ℓ : Loc Cert.RefAttnBIdeal.nD Cert.RefAttnBIdeal.τ Cert.RefAttnBIdeal.sig) → Buf (Elt Ideal) ℓ) : Prop :=
  ∀ c : Dev Cert.RefAttnBIdeal.nD,
    (Cert.Pre_finite_latent.fn (F := Ideal) (m ((c.tc : Thread Cert.RefAttnBIdeal.nD Cert.RefAttnBIdeal.τ).loc Cert.RefAttnBIdeal.main_arg0)) (m ((c.tc : Thread Cert.RefAttnBIdeal.nD Cert.RefAttnBIdeal.τ).loc Cert.RefAttnBIdeal.main_arg1)) (m ((c.tc : Thread Cert.RefAttnBIdeal.nD Cert.RefAttnBIdeal.τ).loc Cert.RefAttnBIdeal.main_arg2)) (m ((c.tc : Thread Cert.RefAttnBIdeal.nD Cert.RefAttnBIdeal.τ).loc Cert.RefAttnBIdeal.main_arg3))).1 = (fun _ => 1#1)
    ∧ (Cert.Pre_finite_latent.fn (F := Ideal) (m ((c.tc : Thread Cert.RefAttnBIdeal.nD Cert.RefAttnBIdeal.τ).loc Cert.RefAttnBIdeal.main_arg0)) (m ((c.tc : Thread Cert.RefAttnBIdeal.nD Cert.RefAttnBIdeal.τ).loc Cert.RefAttnBIdeal.main_arg1)) (m ((c.tc : Thread Cert.RefAttnBIdeal.nD Cert.RefAttnBIdeal.τ).loc Cert.RefAttnBIdeal.main_arg2)) (m ((c.tc : Thread Cert.RefAttnBIdeal.nD Cert.RefAttnBIdeal.τ).loc Cert.RefAttnBIdeal.main_arg3))).2.1 = (fun _ => 1#1)
    ∧ (Cert.Pre_finite_latent.fn (F := Ideal) (m ((c.tc : Thread Cert.RefAttnBIdeal.nD Cert.RefAttnBIdeal.τ).loc Cert.RefAttnBIdeal.main_arg0)) (m ((c.tc : Thread Cert.RefAttnBIdeal.nD Cert.RefAttnBIdeal.τ).loc Cert.RefAttnBIdeal.main_arg1)) (m ((c.tc : Thread Cert.RefAttnBIdeal.nD Cert.RefAttnBIdeal.τ).loc Cert.RefAttnBIdeal.main_arg2)) (m ((c.tc : Thread Cert.RefAttnBIdeal.nD Cert.RefAttnBIdeal.τ).loc Cert.RefAttnBIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1)
      ∧ r.2.mem ((c.tc : Thread Cert.RefMemKvIdeal.nD Cert.RefMemKvIdeal.τ).loc Cert.RefMemKvIdeal.main_arg2) = m ((c.tc : Thread Cert.RefMemKvIdeal.nD Cert.RefMemKvIdeal.τ).loc Cert.RefMemKvIdeal.main_arg2)
      ∧ r.2.mem ((c.tc : Thread Cert.RefMemKvIdeal.nD Cert.RefMemKvIdeal.τ).loc Cert.RefMemKvIdeal.main_arg3) = m ((c.tc : Thread Cert.RefMemKvIdeal.nD Cert.RefMemKvIdeal.τ).loc Cert.RefMemKvIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_finite_attention [hMergeIdeal : Cert.MergeIdeal.Facts] [hPre_finite_attention : Cert.Pre_finite_attention.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_attention m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7))
      ∧ r.2.sem = fun _ => 0)

def quiescent_RefMergeIdeal_pre_finite_attention [hRefMergeIdeal : Cert.RefMergeIdeal.Facts] [hPre_finite_attention : Cert.Pre_finite_attention.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal_finite_attention m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ r.2.sem = fun _ => 0)

def quiescent_AttnBIdeal_pre_finite_latent [hAttnBIdeal : Cert.AttnBIdeal.Facts] [hPre_finite_latent : Cert.Pre_finite_latent.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_latent m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ r.2.sem = fun _ => 0)

def quiescent_RefAttnBIdeal [hRefAttnBIdeal : Cert.RefAttnBIdeal.Facts] : Prop :=
  ∀ (m : (ℓ : Loc Cert.RefAttnBIdeal.nD Cert.RefAttnBIdeal.τ Cert.RefAttnBIdeal.sig) → Buf (Elt Ideal) ℓ) (g : Dev Cert.RefAttnBIdeal.nD → PrngReg), Pre_RefAttnBIdeal m →
    θ_run (Cert.RefAttnBIdeal.defs (F := Ideal)) (onTc (τ := Cert.RefAttnBIdeal.τ) (Cert.RefAttnBIdeal.main (F := Ideal))) ⟨m, fun _ => 0, g⟩ (fun r => (∀ c : Dev Cert.RefAttnBIdeal.nD,
      r.2.mem ((c.tc : Thread Cert.RefAttnBIdeal.nD Cert.RefAttnBIdeal.τ).loc Cert.RefAttnBIdeal.main_arg0) = m ((c.tc : Thread Cert.RefAttnBIdeal.nD Cert.RefAttnBIdeal.τ).loc Cert.RefAttnBIdeal.main_arg0)
      ∧ r.2.mem ((c.tc : Thread Cert.RefAttnBIdeal.nD Cert.RefAttnBIdeal.τ).loc Cert.RefAttnBIdeal.main_arg1) = m ((c.tc : Thread Cert.RefAttnBIdeal.nD Cert.RefAttnBIdeal.τ).loc Cert.RefAttnBIdeal.main_arg1)
      ∧ r.2.mem ((c.tc : Thread Cert.RefAttnBIdeal.nD Cert.RefAttnBIdeal.τ).loc Cert.RefAttnBIdeal.main_arg2) = m ((c.tc : Thread Cert.RefAttnBIdeal.nD Cert.RefAttnBIdeal.τ).loc Cert.RefAttnBIdeal.main_arg2)
      ∧ r.2.mem ((c.tc : Thread Cert.RefAttnBIdeal.nD Cert.RefAttnBIdeal.τ).loc Cert.RefAttnBIdeal.main_arg3) = m ((c.tc : Thread Cert.RefAttnBIdeal.nD Cert.RefAttnBIdeal.τ).loc Cert.RefAttnBIdeal.main_arg3))
      ∧ r.2.sem = fun _ => 0)

def quiescent_RefAttnBIdeal_pre_finite_latent [hRefAttnBIdeal : Cert.RefAttnBIdeal.Facts] [hPre_finite_latent : Cert.Pre_finite_latent.Facts] : Prop :=
  ∀ (m : (ℓ : Loc Cert.RefAttnBIdeal.nD Cert.RefAttnBIdeal.τ Cert.RefAttnBIdeal.sig) → Buf (Elt Ideal) ℓ) (g : Dev Cert.RefAttnBIdeal.nD → PrngReg), Pre_RefAttnBIdeal_finite_latent m →
    θ_run (Cert.RefAttnBIdeal.defs (F := Ideal)) (onTc (τ := Cert.RefAttnBIdeal.τ) (Cert.RefAttnBIdeal.main (F := Ideal))) ⟨m, fun _ => 0, g⟩ (fun r => (∀ c : Dev Cert.RefAttnBIdeal.nD,
      r.2.mem ((c.tc : Thread Cert.RefAttnBIdeal.nD Cert.RefAttnBIdeal.τ).loc Cert.RefAttnBIdeal.main_arg0) = m ((c.tc : Thread Cert.RefAttnBIdeal.nD Cert.RefAttnBIdeal.τ).loc Cert.RefAttnBIdeal.main_arg0)
      ∧ r.2.mem ((c.tc : Thread Cert.RefAttnBIdeal.nD Cert.RefAttnBIdeal.τ).loc Cert.RefAttnBIdeal.main_arg1) = m ((c.tc : Thread Cert.RefAttnBIdeal.nD Cert.RefAttnBIdeal.τ).loc Cert.RefAttnBIdeal.main_arg1)
      ∧ r.2.mem ((c.tc : Thread Cert.RefAttnBIdeal.nD Cert.RefAttnBIdeal.τ).loc Cert.RefAttnBIdeal.main_arg2) = m ((c.tc : Thread Cert.RefAttnBIdeal.nD Cert.RefAttnBIdeal.τ).loc Cert.RefAttnBIdeal.main_arg2)
      ∧ r.2.mem ((c.tc : Thread Cert.RefAttnBIdeal.nD Cert.RefAttnBIdeal.τ).loc Cert.RefAttnBIdeal.main_arg3) = m ((c.tc : Thread Cert.RefAttnBIdeal.nD Cert.RefAttnBIdeal.τ).loc Cert.RefAttnBIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_arg0) = m' ((c.tc : Thread Cert.Reference.nD Cert.Reference.τ).loc Cert.Reference.main_arg0))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v18) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)
      ∧ m' ((c.tc : Thread Cert.RefMemKvIdeal.nD Cert.RefMemKvIdeal.τ).loc Cert.RefMemKvIdeal.main_arg2) = m ((c.tc : Thread Cert.MemKvIdeal.nD Cert.MemKvIdeal.τ).loc Cert.MemKvIdeal.main_arg2)
      ∧ m' ((c.tc : Thread Cert.RefMemKvIdeal.nD Cert.RefMemKvIdeal.τ).loc Cert.RefMemKvIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v6)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v36) = v0 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1)
          ∧ r.2.mem ((c.tc : Thread Cert.RefMemKvIdeal.nD Cert.RefMemKvIdeal.τ).loc Cert.RefMemKvIdeal.main_arg2) = m' ((c.tc : Thread Cert.RefMemKvIdeal.nD Cert.RefMemKvIdeal.τ).loc Cert.RefMemKvIdeal.main_arg2)
          ∧ r.2.mem ((c.tc : Thread Cert.RefMemKvIdeal.nD Cert.RefMemKvIdeal.τ).loc Cert.RefMemKvIdeal.main_arg3) = m' ((c.tc : Thread Cert.RefMemKvIdeal.nD Cert.RefMemKvIdeal.τ).loc Cert.RefMemKvIdeal.main_arg3))

def preserves_Merge_MergeIdeal : Prop :=
  True

def algebraic_MergeIdeal_RefMergeIdeal_pre_finite_attention [hMergeIdeal : Cert.MergeIdeal.Facts] [hRefMergeIdeal : Cert.RefMergeIdeal.Facts] [hPre_finite_attention : Cert.Pre_finite_attention.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal_finite_attention m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v53) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7))

def preserves_AttnB_AttnBIdeal : Prop :=
  IdealRules.named_const.Statement Cert.AttnBIdeal.κ "mask" .f32 0xF149F2CA#32 ⊥

def algebraic_AttnBIdeal_RefAttnBIdeal_pre_finite_latent [hAttnBIdeal : Cert.AttnBIdeal.Facts] [hRefAttnBIdeal : Cert.RefAttnBIdeal.Facts] [hPre_finite_latent : Cert.Pre_finite_latent.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.RefAttnBIdeal.nD Cert.RefAttnBIdeal.τ Cert.RefAttnBIdeal.sig) → Buf (Elt Ideal) ℓ) (g' : Dev Cert.RefAttnBIdeal.nD → PrngReg), Pre_AttnBIdeal_finite_latent m →
    (∀ c : Dev Cert.AttnBIdeal.nD,
      m' ((c.tc : Thread Cert.RefAttnBIdeal.nD Cert.RefAttnBIdeal.τ).loc Cert.RefAttnBIdeal.main_arg0) = m ((c.tc : Thread Cert.AttnBIdeal.nD Cert.AttnBIdeal.τ).loc Cert.AttnBIdeal.main_arg0)
      ∧ m' ((c.tc : Thread Cert.RefAttnBIdeal.nD Cert.RefAttnBIdeal.τ).loc Cert.RefAttnBIdeal.main_arg1) = m ((c.tc : Thread Cert.AttnBIdeal.nD Cert.AttnBIdeal.τ).loc Cert.AttnBIdeal.main_arg1)
      ∧ m' ((c.tc : Thread Cert.RefAttnBIdeal.nD Cert.RefAttnBIdeal.τ).loc Cert.RefAttnBIdeal.main_arg2) = m ((c.tc : Thread Cert.AttnBIdeal.nD Cert.AttnBIdeal.τ).loc Cert.AttnBIdeal.main_arg2)
      ∧ m' ((c.tc : Thread Cert.RefAttnBIdeal.nD Cert.RefAttnBIdeal.τ).loc Cert.RefAttnBIdeal.main_arg3) = m ((c.tc : Thread Cert.AttnBIdeal.nD Cert.AttnBIdeal.τ).loc Cert.AttnBIdeal.main_arg3)) →
    ∃ (v0 : (c : Dev Cert.AttnBIdeal.nD) → Buf (Elt Ideal) ((c.tc : Thread Cert.AttnBIdeal.nD Cert.AttnBIdeal.τ).loc Cert.AttnBIdeal.main_v4)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v4) = v0 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ θ_run (Cert.RefAttnBIdeal.defs (F := Ideal)) (onTc (τ := Cert.RefAttnBIdeal.τ) (Cert.RefAttnBIdeal.main (F := Ideal))) ⟨m', fun _ => 0, g'⟩ (fun r => ∀ c : Dev Cert.RefAttnBIdeal.nD,
          r.2.mem ((c.tc : Thread Cert.RefAttnBIdeal.nD Cert.RefAttnBIdeal.τ).loc Cert.RefAttnBIdeal.main_v28) = v0 c
          ∧ r.2.mem ((c.tc : Thread Cert.RefAttnBIdeal.nD Cert.RefAttnBIdeal.τ).loc Cert.RefAttnBIdeal.main_arg0) = m' ((c.tc : Thread Cert.RefAttnBIdeal.nD Cert.RefAttnBIdeal.τ).loc Cert.RefAttnBIdeal.main_arg0)
          ∧ r.2.mem ((c.tc : Thread Cert.RefAttnBIdeal.nD Cert.RefAttnBIdeal.τ).loc Cert.RefAttnBIdeal.main_arg1) = m' ((c.tc : Thread Cert.RefAttnBIdeal.nD Cert.RefAttnBIdeal.τ).loc Cert.RefAttnBIdeal.main_arg1)
          ∧ r.2.mem ((c.tc : Thread Cert.RefAttnBIdeal.nD Cert.RefAttnBIdeal.τ).loc Cert.RefAttnBIdeal.main_arg2) = m' ((c.tc : Thread Cert.RefAttnBIdeal.nD Cert.RefAttnBIdeal.τ).loc Cert.RefAttnBIdeal.main_arg2)
          ∧ r.2.mem ((c.tc : Thread Cert.RefAttnBIdeal.nD Cert.RefAttnBIdeal.τ).loc Cert.RefAttnBIdeal.main_arg3) = m' ((c.tc : Thread Cert.RefAttnBIdeal.nD Cert.RefAttnBIdeal.τ).loc Cert.RefAttnBIdeal.main_arg3))

def Claim : Prop :=
  ∃ (hKernel : Cert.Kernel.Facts) (hKernelIdeal : Cert.KernelIdeal.Facts) (hReferenceIdeal : Cert.ReferenceIdeal.Facts) (hReference : Cert.Reference.Facts) (hInProj : Cert.InProj.Facts) (hInProjIdeal : Cert.InProjIdeal.Facts) (hRefInProjIdeal : Cert.RefInProjIdeal.Facts) (hMemKv : Cert.MemKv.Facts) (hMemKvIdeal : Cert.MemKvIdeal.Facts) (hRefMemKvIdeal : Cert.RefMemKvIdeal.Facts) (hMerge : Cert.Merge.Facts) (hMergeIdeal : Cert.MergeIdeal.Facts) (hRefMergeIdeal : Cert.RefMergeIdeal.Facts) (hAttnB : Cert.AttnB.Facts) (hAttnBIdeal : Cert.AttnBIdeal.Facts) (hRefAttnBIdeal : Cert.RefAttnBIdeal.Facts) (hPre_finite_attention : Cert.Pre_finite_attention.Facts) (hPre_finite_latent : Cert.Pre_finite_latent.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_InProj (hInProj := hInProj)
    ∧ quiescent_InProjIdeal (hInProjIdeal := hInProjIdeal)
    ∧ quiescent_RefInProjIdeal (hRefInProjIdeal := hRefInProjIdeal)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_Merge (hMerge := hMerge)
    ∧ quiescent_MergeIdeal (hMergeIdeal := hMergeIdeal)
    ∧ quiescent_MergeIdeal_pre_finite_attention (hMergeIdeal := hMergeIdeal) (hPre_finite_attention := hPre_finite_attention)
    ∧ quiescent_RefMergeIdeal (hRefMergeIdeal := hRefMergeIdeal)
    ∧ quiescent_RefMergeIdeal_pre_finite_attention (hRefMergeIdeal := hRefMergeIdeal) (hPre_finite_attention := hPre_finite_attention)
    ∧ quiescent_AttnB (hAttnB := hAttnB)
    ∧ quiescent_AttnBIdeal (hAttnBIdeal := hAttnBIdeal)
    ∧ quiescent_AttnBIdeal_pre_finite_latent (hAttnBIdeal := hAttnBIdeal) (hPre_finite_latent := hPre_finite_latent)
    ∧ quiescent_RefAttnBIdeal (hRefAttnBIdeal := hRefAttnBIdeal)
    ∧ quiescent_RefAttnBIdeal_pre_finite_latent (hRefAttnBIdeal := hRefAttnBIdeal) (hPre_finite_latent := hPre_finite_latent)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_InProj_InProjIdeal
    ∧ algebraic_InProjIdeal_RefInProjIdeal (hInProjIdeal := hInProjIdeal) (hRefInProjIdeal := hRefInProjIdeal)
    ∧ preserves_MemKv_MemKvIdeal
    ∧ algebraic_MemKvIdeal_RefMemKvIdeal (hMemKvIdeal := hMemKvIdeal) (hRefMemKvIdeal := hRefMemKvIdeal)
    ∧ preserves_Merge_MergeIdeal
    ∧ algebraic_MergeIdeal_RefMergeIdeal_pre_finite_attention (hMergeIdeal := hMergeIdeal) (hRefMergeIdeal := hRefMergeIdeal) (hPre_finite_attention := hPre_finite_attention)
    ∧ preserves_AttnB_AttnBIdeal
    ∧ algebraic_AttnBIdeal_RefAttnBIdeal_pre_finite_latent (hAttnBIdeal := hAttnBIdeal) (hRefAttnBIdeal := hRefAttnBIdeal) (hPre_finite_latent := hPre_finite_latent)
-- ==== Pre_finite_attention.lean ====
abbrev S1x8192x2048 : Shape := ⟨3, ![1, 8192, 2048]⟩
abbrev S8192x1024 : Shape := ⟨2, ![8192, 1024]⟩
abbrev S256x2048 : Shape := ⟨2, ![256, 2048]⟩
abbrev S8192x13824 : Shape := ⟨2, ![8192, 13824]⟩
abbrev S1x3x1024x2048 : Shape := ⟨4, ![1, 3, 1024, 2048]⟩
abbrev S1x2048x2048 : Shape := ⟨3, ![1, 2048, 2048]⟩
abbrev S256x1024 : Shape := ⟨2, ![256, 1024]⟩
abbrev S_ : Shape := ⟨0, ![]⟩

class Facts : Prop where
  bitsLt_bf16_f32 : FTy.bits .bf16 < FTy.bits .f32
  slices_S256x2048_S256x1024_0_0 : S256x2048.Slices ![0, 0] S256x1024
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S1x8192x2048 .f32) (main_arg1 : FVec F S8192x1024 .bf16) (main_arg2 : FVec F S8192x1024 .bf16) (main_arg3 : FVec F S8192x1024 .bf16) (main_arg4 : FVec F S256x2048 .bf16) (main_arg5 : FVec F S8192x13824 .bf16) (main_arg6 : FVec F S1x3x1024x2048 .f32) (main_arg7 : FVec F S1x2048x2048 .f32) : IVec S8192x1024 1 × IVec S256x1024 1 :=
  let main_v0 : FVec F S8192x1024 .f32 := (extf .f32 · bitsLt_bf16_f32) main_arg3
  let main_v1 : FVec F S256x1024 .bf16 := (extractStridedSlice S256x1024 ![0, 0] · slices_S256x2048_S256x1024_0_0) main_arg4
  let main_v2 : FVec F S256x1024 .f32 := (extf .f32 · bitsLt_bf16_f32) main_v1
  let main_v3 : FVec F S8192x1024 .f32 := Host.absf main_v0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_v6 : FVec F S256x1024 .f32 := Host.absf main_v2
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v5, main_v8)
-- ==== Pre_finite_latent.lean ====
abbrev S8192x2048 : Shape := ⟨2, ![8192, 2048]⟩
abbrev S8192x1024 : Shape := ⟨2, ![8192, 1024]⟩
abbrev S16x128 : Shape := ⟨2, ![16, 128]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S16x128 : S_.BroadcastsInDim S16x128 (![] : Fin 0 → Fin S16x128.rank)

variable [Facts]

def fn {F : FTy → Type} [FloatOps F] (main_arg0 : FVec F S8192x2048 .bf16) (main_arg1 : FVec F S8192x2048 .bf16) (main_arg2 : FVec F S8192x1024 .bf16) (main_arg3 : FVec F S16x128 .f32) : IVec S8192x2048 1 × IVec S8192x2048 1 × IVec S16x128 1 :=
  let main_v0 : FVec F S8192x2048 .f32 := (extf .f32 · bitsLt_bf16_f32) main_arg0
  let main_v1 : FVec F S8192x2048 .f32 := (extf .f32 · bitsLt_bf16_f32) main_arg1
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S8192x2048 .f32 := Host.absf main_v1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_cst_1 : FVec F S_ .f32 := constant S_ .f32 0x00000000#32
  let main_v8 : FVec F S16x128 .f32 := broadcastInDim S16x128 ![] bcast_S_S16x128 main_cst_1
  let main_v9 : IVec S16x128 1 := cmpf .oge main_arg3 main_v8
  (main_v4, main_v7, main_v9)
-- ==== Kernel.lean ====
abbrev S1x2048x13712 : Shape := ⟨3, ![1, 2048, 13712]⟩
abbrev S108 : Shape := ⟨1, ![108]⟩
abbrev S2048x13712 : Shape := ⟨2, ![2048, 13712]⟩
abbrev S13712x2048 : Shape := ⟨2, ![13712, 2048]⟩
abbrev S13824x2048 : Shape := ⟨2, ![13824, 2048]⟩
abbrev S128x2048 : Shape := ⟨2, ![128, 2048]⟩
abbrev S1 : Shape := ⟨1, ![1]⟩
abbrev S512x2048 : Shape := ⟨2, ![512, 2048]⟩

abbrev nBuf : Space → Nat
  | .hbm => 4
  | .vmem => 10
  | .smem => 2
  | _ => 0

abbrev bufTy : (tb : Table) → Fin (tcTables nBuf tb) → BufTy
  | .hbm, ⟨0, _⟩ => ⟨S1x2048x13712, .f32⟩
  | .hbm, ⟨1, _⟩ => ⟨S2048x13712, .f32⟩
  | .hbm, ⟨2, _⟩ => ⟨S13712x2048, .f32⟩
  | .hbm, ⟨3, _⟩ => ⟨S13824x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S512x2048, .bf16⟩
  | .local _ .vmem, ⟨9, _⟩ => ⟨S512x2048, .bf16⟩
  | .local _ .smem, ⟨0, _⟩ => ⟨S108, .i32⟩
  | .local _ .smem, ⟨1, _⟩ => ⟨S108, .i32⟩
  | _, _ => ⟨S1x2048x13712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![27], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def k0_mult1 (pf : pre0.Contents (Elt F)) (i : grid0.Coords) : BitVec 32 :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.atD 0 ![v2.toNat]
  let c16_i32 : BitVec 32 := 16#32
  let v4 : BitVec 32 := Scalar.muli v3 c16_i32
  v4

def k0_mult2 (pf : pre0.Contents (Elt F)) (i : grid0.Coords) : BitVec 32 :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.atD 0 ![v2.toNat]
  let c16_i32 : BitVec 32 := 16#32
  let v4 : BitVec 32 := Scalar.muli v3 c16_i32
  v4

def k0_mult3 (pf : pre0.Contents (Elt F)) (i : grid0.Coords) : BitVec 32 :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.atD 0 ![v2.toNat]
  let c16_i32 : BitVec 32 := 16#32
  let v4 : BitVec 32 := Scalar.muli v3 c16_i32
  v4

def k0_mult4 (pf : pre0.Contents (Elt F)) (i : grid0.Coords) : BitVec 32 :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.atD 0 ![v2.toNat]
  let c16_i32 : BitVec 32 := 16#32
  let v4 : BitVec 32 := Scalar.muli v3 c16_i32
  v4

def cc0_transform_0 (k0_off1_inb : ∀ i : grid0.Coords, ∀ (r : Fin 4), ∀ a, (k0_off1 i (BitVec.ofNat 32 r.val)) a + S1.size a ≤ S108.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S108) ![v2.toNat] S1.size (k0_off1_inb i 0)) numel1_S1
  let c16_i32 : BitVec 32 := 16#32
  let v4 : BitVec 32 := Scalar.muli v3 c16_i32
  let v5 : BitVec 32 := v4
  let c0_i32_0 : BitVec 32 := 0#32
  let c0_i32_1 : BitVec 32 := 0#32
  ![v5.toNat, c0_i32_0.toNat]

def cc0_transform_1 (k0_off1_inb : ∀ i : grid0.Coords, ∀ (r : Fin 4), ∀ a, (k0_off1 i (BitVec.ofNat 32 r.val)) a + S1.size a ≤ S108.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S108) ![v2.toNat] S1.size (k0_off1_inb i 1)) numel1_S1
  let c16_i32 : BitVec 32 := 16#32
  let v4 : BitVec 32 := Scalar.muli v3 c16_i32
  let v5 : BitVec 32 := v4
  let c0_i32 : BitVec 32 := 0#32
  let c0_i32_0 : BitVec 32 := 0#32
  ![v5.toNat, c0_i32.toNat]

def cc0_transform_2 (k0_off1_inb : ∀ i : grid0.Coords, ∀ (r : Fin 4), ∀ a, (k0_off1 i (BitVec.ofNat 32 r.val)) a + S1.size a ≤ S108.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S108) ![v2.toNat] S1.size (k0_off1_inb i 2)) numel1_S1
  let c16_i32 : BitVec 32 := 16#32
  let v4 : BitVec 32 := Scalar.muli v3 c16_i32
  let v5 : BitVec 32 := v4
  let c0_i32 : BitVec 32 := 0#32
  let c0_i32_0 : BitVec 32 := 0#32
  ![v5.toNat, c0_i32.toNat]

def cc0_transform_3 (k0_off1_inb : ∀ i : grid0.Coords, ∀ (r : Fin 4), ∀ a, (k0_off1 i (BitVec.ofNat 32 r.val)) a + S1.size a ≤ S108.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S108) ![v2.toNat] S1.size (k0_off1_inb i 3)) numel1_S1
  let c16_i32 : BitVec 32 := 16#32
  let v4 : BitVec 32 := Scalar.muli v3 c16_i32
  let v5 : BitVec 32 := v4
  let c0_i32 : BitVec 32 := 0#32
  let c0_i32_0 : BitVec 32 := 0#32
  ![v5.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference.lean ====
abbrev S1x2048x13712 : Shape := ⟨3, ![1, 2048, 13712]⟩
abbrev S2048x13712 : Shape := ⟨2, ![2048, 13712]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x512 : Shape := ⟨2, ![2048, 512]⟩
abbrev S2048x6144 : Shape := ⟨2, ![2048, 6144]⟩
abbrev S_ : Shape := ⟨0, ![]⟩
abbrev S2048x48 : Shape := ⟨2, ![2048, 48]⟩
abbrev S2048x13824 : Shape := ⟨2, ![2048, 13824]⟩
abbrev S13824x2048 : Shape := ⟨2, ![13824, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x2048x13712, .f32⟩
  | .hbm, ⟨1, _⟩ => ⟨S2048x13712, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x1024, .f32⟩
  | .hbm, ⟨6, _⟩ => ⟨S2048x1024, .f32⟩
  | .hbm, ⟨7, _⟩ => ⟨S2048x64, .f32⟩
  | .hbm, ⟨8, _⟩ => ⟨S2048x16, .f32⟩
  | .hbm, ⟨9, _⟩ => ⟨S2048x512, .f32⟩
  | .hbm, ⟨10, _⟩ => ⟨S2048x256, .f32⟩
  | .hbm, ⟨11, _⟩ => ⟨S2048x64, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x6144, .f32⟩
  | .hbm, ⟨16, _⟩ => ⟨S_, .f32⟩
  | .hbm, ⟨17, _⟩ => ⟨S2048x48, .f32⟩
  | .hbm, ⟨18, _⟩ => ⟨S_, .f32⟩
  | .hbm, ⟨19, _⟩ => ⟨S2048x64, .f32⟩
  | .hbm, ⟨20, _⟩ => ⟨S2048x13824, .f32⟩
  | .hbm, ⟨21, _⟩ => ⟨S13824x2048, .f32⟩
  | .hbm, ⟨22, _⟩ => ⟨S13824x2048, .bf16⟩
  | _, _ => ⟨S1x2048x13712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== InProj.lean ====
abbrev S1x8192x2048 : Shape := ⟨3, ![1, 8192, 2048]⟩
abbrev S1x2048 : Shape := ⟨2, ![1, 2048]⟩
abbrev S13824x2048 : Shape := ⟨2, ![13824, 2048]⟩
abbrev S8192x2048 : Shape := ⟨2, ![8192, 2048]⟩
abbrev S2048 : Shape := ⟨1, ![2048]⟩
abbrev S8192x13824 : Shape := ⟨2, ![8192, 13824]⟩
abbrev S1024x2048 : Shape := ⟨2, ![1024, 2048]⟩
abbrev S2304x2048 : Shape := ⟨2, ![2304, 2048]⟩
abbrev S1024x2304 : Shape := ⟨2, ![1024, 2304]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S13824x2048, .bf16⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x13824, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2304x2048, .bf16⟩
  | .local _ .vmem, ⟨4, _⟩ => ⟨S2304x2048, .bf16⟩
  | .local _ .vmem, ⟨5, _⟩ => ⟨S1024x2304, .bf16⟩
  | .local _ .vmem, ⟨6, _⟩ => ⟨S1024x2304, .bf16⟩
  | .local _ .vmem, ⟨7, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2304x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInProjIdeal.lean ====
abbrev S1x8192x2048 : Shape := ⟨3, ![1, 8192, 2048]⟩
abbrev S1x2048 : Shape := ⟨2, ![1, 2048]⟩
abbrev S13824x2048 : Shape := ⟨2, ![13824, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x13824 : Shape := ⟨2, ![2048, 13824]⟩
abbrev S8192x13824 : Shape := ⟨2, ![8192, 13824]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S13824x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S13824x2048, .f32⟩
  | .hbm, ⟨22, _⟩ => ⟨S2048x13824, .f32⟩
  | .hbm, ⟨23, _⟩ => ⟨S8192x13824, .f32⟩
  | .hbm, ⟨24, _⟩ => ⟨S8192x13824, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MemKv.lean ====
abbrev S1x256x2048 : Shape := ⟨3, ![1, 256, 2048]⟩
abbrev S1x2048 : Shape := ⟨2, ![1, 2048]⟩
abbrev S1x2048x2048 : Shape := ⟨3, ![1, 2048, 2048]⟩
abbrev S1x256 : Shape := ⟨2, ![1, 256]⟩
abbrev S256x2048 : Shape := ⟨2, ![256, 2048]⟩
abbrev S2048 : Shape := ⟨1, ![2048]⟩
abbrev S2048x2048 : Shape := ⟨2, ![2048, 2048]⟩
abbrev S256 : Shape := ⟨1, ![256]⟩
abbrev S2048x256 : Shape := ⟨2, ![2048, 256]⟩
abbrev S256x256 : Shape := ⟨2, ![256, 256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x2048, .f32⟩
  | .hbm, ⟨3, _⟩ => ⟨S1x256, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S256, .f32⟩
  | .hbm, ⟨9, _⟩ => ⟨S1x256, .f32⟩
  | .hbm, ⟨10, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S256x256, .bf16⟩
  | .local _ .vmem, ⟨6, _⟩ => ⟨S256x256, .bf16⟩
  | .local _ .vmem, ⟨7, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v8 : BitVec 1 := Scalar.cmpi .slt arg0 c4_i32
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c4_i32_5 : BitVec 32 := 4#32
  let v11 : BitVec 1 := Scalar.cmpi .sge arg0 c4_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefMemKvIdeal.lean ====
abbrev S1x256x2048 : Shape := ⟨3, ![1, 256, 2048]⟩
abbrev S1x2048 : Shape := ⟨2, ![1, 2048]⟩
abbrev S1x2048x2048 : Shape := ⟨3, ![1, 2048, 2048]⟩
abbrev S1x256 : Shape := ⟨2, ![1, 256]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x2048 : Shape := ⟨2, ![2048, 2048]⟩
abbrev S256x1024 : Shape := ⟨2, ![256, 1024]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x2048, .f32⟩
  | .hbm, ⟨3, _⟩ => ⟨S1x256, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S2048x2048, .f32⟩
  | .hbm, ⟨23, _⟩ => ⟨S256x2048, .f32⟩
  | .hbm, ⟨24, _⟩ => ⟨S256x1024, .f32⟩
  | .hbm, ⟨25, _⟩ => ⟨S256x4x256, .f32⟩
  | .hbm, ⟨26, _⟩ => ⟨S256, .f32⟩
  | .hbm, ⟨27, _⟩ => ⟨S256x4x256, .f32⟩
  | .hbm, ⟨28, _⟩ => ⟨S_, .f32⟩
  | .hbm, ⟨29, _⟩ => ⟨S256x4, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S_, .f32⟩
  | .hbm, ⟨35, _⟩ => ⟨S256x4x1, .f32⟩
  | .hbm, ⟨36, _⟩ => ⟨S256x4x1, .f32⟩
  | .hbm, ⟨37, _⟩ => ⟨S256x4x1, .f32⟩
  | .hbm, ⟨38, _⟩ => ⟨S256x4x256, .f32⟩
  | .hbm, ⟨39, _⟩ => ⟨S256x4x256, .f32⟩
  | .hbm, ⟨40, _⟩ => ⟨S1x1x256, .f32⟩
  | .hbm, ⟨41, _⟩ => ⟨S256x4x256, .f32⟩
  | .hbm, ⟨42, _⟩ => ⟨S256x4x256, .f32⟩
  | .hbm, ⟨43, _⟩ => ⟨S256x1024, .f32⟩
  | .hbm, ⟨44, _⟩ => ⟨S256x1024, .f32⟩
  | .hbm, ⟨45, _⟩ => ⟨S256x2048, .f32⟩
  | .hbm, ⟨46, _⟩ => ⟨S256x2048, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Merge.lean ====
abbrev S1x8192x2048 : Shape := ⟨3, ![1, 8192, 2048]⟩
abbrev S8192x1024 : Shape := ⟨2, ![8192, 1024]⟩
abbrev S256x2048 : Shape := ⟨2, ![256, 2048]⟩
abbrev S8192x13824 : Shape := ⟨2, ![8192, 13824]⟩
abbrev S1x3x1024x2048 : Shape := ⟨4, ![1, 3, 1024, 2048]⟩
abbrev S1x2048x2048 : Shape := ⟨3, ![1, 2048, 2048]⟩
abbrev S3x1024x2048 : Shape := ⟨3, ![3, 1024, 2048]⟩
abbrev S2048x2048 : Shape := ⟨2, ![2048, 2048]⟩
abbrev S8192x2048 : Shape := ⟨2, ![8192, 2048]⟩
abbrev S256x1024 : Shape := ⟨2, ![256, 1024]⟩
abbrev S1x1024x2048 : Shape := ⟨3, ![1, 1024, 2048]⟩
abbrev S1024x2048 : Shape := ⟨2, ![1024, 2048]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 25
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S256x2048, .bf16⟩
  | .hbm, ⟨5, _⟩ => ⟨S8192x13824, .bf16⟩
  | .hbm, ⟨6, _⟩ => ⟨S1x3x1024x2048, .f32⟩
  | .hbm, ⟨7, _⟩ => ⟨S1x2048x2048, .f32⟩
  | .hbm, ⟨8, _⟩ => ⟨S3x1024x2048, .f32⟩
  | .hbm, ⟨9, _⟩ => ⟨S3x1024x2048, .bf16⟩
  | .hbm, ⟨10, _⟩ => ⟨S2048x2048, .f32⟩
  | .hbm, ⟨11, _⟩ => ⟨S2048x2048, .bf16⟩
  | .hbm, ⟨12, _⟩ => ⟨S8192x2048, .f32⟩
  | .hbm, ⟨13, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S3x1024x2048, .bf16⟩
  | .local _ .vmem, ⟨22, _⟩ => ⟨S2048x2048, .bf16⟩
  | .local _ .vmem, ⟨23, _⟩ => ⟨S256x2048, .f32⟩
  | .local _ .vmem, ⟨24, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefMergeIdeal.lean ====
abbrev S1x8192x2048 : Shape := ⟨3, ![1, 8192, 2048]⟩
abbrev S8192x1024 : Shape := ⟨2, ![8192, 1024]⟩
abbrev S256x2048 : Shape := ⟨2, ![256, 2048]⟩
abbrev S8192x13824 : Shape := ⟨2, ![8192, 13824]⟩
abbrev S1x3x1024x2048 : Shape := ⟨4, ![1, 3, 1024, 2048]⟩
abbrev S1x2048x2048 : Shape := ⟨3, ![1, 2048, 2048]⟩
abbrev S8192x6144 : Shape := ⟨2, ![8192, 6144]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S8192x1x1024 : Shape := ⟨3, ![8192, 1, 1024]⟩
abbrev S8192x3x1024 : Shape := ⟨3, ![8192, 3, 1024]⟩
abbrev S3x1024x2048 : Shape := ⟨3, ![3, 1024, 2048]⟩
abbrev S3x2048x8192 : Shape := ⟨3, ![3, 2048, 8192]⟩
abbrev S8192x3x2048 : Shape := ⟨3, ![8192, 3, 2048]⟩
abbrev S8192x2048 : Shape := ⟨2, ![8192, 2048]⟩
abbrev S2048x2048 : Shape := ⟨2, ![2048, 2048]⟩

abbrev nBuf : Space → Nat
  | .hbm => 91
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S256x2048, .bf16⟩
  | .hbm, ⟨5, _⟩ => ⟨S8192x13824, .bf16⟩
  | .hbm, ⟨6, _⟩ => ⟨S1x3x1024x2048, .f32⟩
  | .hbm, ⟨7, _⟩ => ⟨S1x2048x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S256x2048, .f32⟩
  | .hbm, ⟨12, _⟩ => ⟨S8192x13824, .f32⟩
  | .hbm, ⟨13, _⟩ => ⟨S8192x6144, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x4x256, .f32⟩
  | .hbm, ⟨18, _⟩ => ⟨S256x1024, .f32⟩
  | .hbm, ⟨19, _⟩ => ⟨S256x4x256, .f32⟩
  | .hbm, ⟨20, _⟩ => ⟨S256x1024, .f32⟩
  | .hbm, ⟨21, _⟩ => ⟨S256x4x256, .f32⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192x1, .f32⟩
  | .hbm, ⟨29, _⟩ => ⟨S4x8192x256, .f32⟩
  | .hbm, ⟨30, _⟩ => ⟨S4x8192x256, .f32⟩
  | .hbm, ⟨31, _⟩ => ⟨S4x8192x256, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x256, .f32⟩
  | .hbm, ⟨36, _⟩ => ⟨S4x8192x256, .f32⟩
  | .hbm, ⟨37, _⟩ => ⟨S4x256x8192, .f32⟩
  | .hbm, ⟨38, _⟩ => ⟨S8192x4x256, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1x1024, .f32⟩
  | .hbm, ⟨71, _⟩ => ⟨S8192x1x1024, .f32⟩
  | .hbm, ⟨72, _⟩ => ⟨S8192x1x1024, .f32⟩
  | .hbm, ⟨73, _⟩ => ⟨S8192x3x1024, .f32⟩
  | .hbm, ⟨74, _⟩ => ⟨S3x1024x2048, .f32⟩
  | .hbm, ⟨75, _⟩ => ⟨S3x2048x8192, .f32⟩
  | .hbm, ⟨76, _⟩ => ⟨S8192x3x2048, .f32⟩
  | .hbm, ⟨77, _⟩ => ⟨S8192x3x2048, .f32⟩
  | .hbm, ⟨78, _⟩ => ⟨S8192x3x2048, .f32⟩
  | .hbm, ⟨79, _⟩ => ⟨S8192x3x2048, .f32⟩
  | .hbm, ⟨80, _⟩ => ⟨S_, .f32⟩
  | .hbm, ⟨81, _⟩ => ⟨S8192x3x2048, .f32⟩
  | .hbm, ⟨82, _⟩ => ⟨S8192x3x2048, .f32⟩
  | .hbm, ⟨83, _⟩ => ⟨S_, .f32⟩
  | .hbm, ⟨84, _⟩ => ⟨S8192x3x2048, .f32⟩
  | .hbm, ⟨85, _⟩ => ⟨S8192x3x2048, .f32⟩
  | .hbm, ⟨86, _⟩ => ⟨S8192x2048, .f32⟩
  | .hbm, ⟨87, _⟩ => ⟨S8192x2048, .f32⟩
  | .hbm, ⟨88, _⟩ => ⟨S2048x2048, .f32⟩
  | .hbm, ⟨89, _⟩ => ⟨S8192x2048, .f32⟩
  | .hbm, ⟨90, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v31 : Ref sig .tc := ⟨.hbm, 58, rfl⟩
abbrev main_v32 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_2 : Ref sig .tc := ⟨.hbm, 80, rfl⟩
abbrev main_v45 : Ref sig .tc := ⟨.hbm, 81, rfl⟩
abbrev main_v46 : Ref sig .tc := ⟨.hbm, 82, rfl⟩
abbrev main_cst_3 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩

abbrev nD : Nat := 1
abbrev τ : Topo := Topo.v7x

variable {F : FTy → Type} [FloatOps F]
-- ==== AttnB.lean ====
abbrev S8192x2048 : Shape := ⟨2, ![8192, 2048]⟩
abbrev S8192x1024 : Shape := ⟨2, ![8192, 1024]⟩
abbrev S16x128 : Shape := ⟨2, ![16, 128]⟩
abbrev S16x512x8x128 : Shape := ⟨4, ![16, 512, 8, 128]⟩
abbrev S8x16x128x512 : Shape := ⟨4, ![8, 16, 128, 512]⟩
abbrev S_ : Shape := ⟨0, ![]⟩
abbrev S8x16x16x512 : Shape := ⟨4, ![8, 16, 16, 512]⟩
abbrev S8x16x144x512 : Shape := ⟨4, ![8, 16, 144, 512]⟩
abbrev S512x512 : Shape := ⟨2, ![512, 512]⟩
abbrev S8192x512 : Shape := ⟨2, ![8192, 512]⟩
abbrev S2x16x144x512 : Shape := ⟨4, ![2, 16, 144, 512]⟩
abbrev S512x256 : Shape := ⟨2, ![512, 256]⟩
abbrev S2x512x512 : Shape := ⟨3, ![2, 512, 512]⟩
abbrev S2x1x512 : Shape := ⟨3, ![2, 1, 512]⟩
abbrev S2x144x512 : Shape := ⟨3, ![2, 144, 512]⟩
abbrev S1x512x512 : Shape := ⟨3, ![1, 512, 512]⟩
abbrev S1x1 : Shape := ⟨2, ![1, 1]⟩
abbrev S8x256 : Shape := ⟨2, ![8, 256]⟩
abbrev S8x512 : Shape := ⟨2, ![8, 512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S1x1x144x512 : Shape := ⟨4, ![1, 1, 144, 512]⟩
abbrev S144x512 : Shape := ⟨2, ![144, 512]⟩
abbrev S1x144x512 : Shape := ⟨3, ![1, 144, 512]⟩
abbrev S64x8x512 : Shape := ⟨3, ![64, 8, 512]⟩
abbrev S32x8x512 : Shape := ⟨3, ![32, 8, 512]⟩
abbrev S16x8x512 : Shape := ⟨3, ![16, 8, 512]⟩
abbrev S8x8x512 : Shape := ⟨3, ![8, 8, 512]⟩
abbrev S4x8x512 : Shape := ⟨3, ![4, 8, 512]⟩
abbrev S2x8x512 : Shape := ⟨3, ![2, 8, 512]⟩
abbrev S1x8x512 : Shape := ⟨3, ![1, 8, 512]⟩
abbrev S512 : Shape := ⟨1, ![512]⟩
abbrev S128x512 : Shape := ⟨2, ![128, 512]⟩
abbrev S512x128 : Shape := ⟨2, ![512, 128]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S16x128, .f32⟩
  | .hbm, ⟨4, _⟩ => ⟨S16x512x8x128, .bf16⟩
  | .hbm, ⟨5, _⟩ => ⟨S8x16x128x512, .bf16⟩
  | .hbm, ⟨6, _⟩ => ⟨S_, .bf16⟩
  | .hbm, ⟨7, _⟩ => ⟨S8x16x16x512, .bf16⟩
  | .hbm, ⟨8, _⟩ => ⟨S8x16x144x512, .bf16⟩
  | .hbm, ⟨9, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S2x16x144x512, .bf16⟩
  | .local _ .vmem, ⟨5, _⟩ => ⟨S2x16x144x512, .bf16⟩
  | .local _ .vmem, ⟨6, _⟩ => ⟨S16x128, .f32⟩
  | .local _ .vmem, ⟨7, _⟩ => ⟨S512x256, .bf16⟩
  | .local _ .vmem, ⟨8, _⟩ => ⟨S512x256, .bf16⟩
  | .local _ .vmem, ⟨9, _⟩ => ⟨S2x512x512, .f32⟩
  | .local _ .vmem, ⟨10, _⟩ => ⟨S2x512x512, .f32⟩
  | .local _ .vmem, ⟨11, _⟩ => ⟨S2x1x512, .f32⟩
  | .local _ .vmem, ⟨12, _⟩ => ⟨S2x144x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 : BitVec 32 :=
  let c0_i32_11 : BitVec 32 := 0#32
  c0_i32_11
def k0_off1 (i : grid0.Coords) (c0_i32_26 : BitVec 32) : Fin 2 → Nat :=
  let arg0 : BitVec 32 := BitVec.ofNat 32 (i 0).val
  let c2_i32 : BitVec 32 := 2#32
  let v42 : BitVec 32 := Scalar.muli arg0 c2_i32
  let v43 : BitVec 32 := Scalar.addi v42 c0_i32_26
  let v44 : Index := Scalar.indexCast v43
  let c0_27 : Index := 0#32
  ![v44.toNat, 0]
@[reducible] def k0_t1_loop (i : grid0.Coords) : Scf.Loop 32 :=
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_63 : BitVec 32 := 1#32
  ⟨c0_i32_61, v125, c1_i32_63⟩
def k0_mult2 (i : grid0.Coords) (k0_t1 : Fin (k0_t1_loop i).trips) : BitVec 32 :=
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let c1_i32_76 : BitVec 32 := 1#32
  let v143 : BitVec 32 := Scalar.addi v142 c1_i32_76
  let c512_i32_77 : BitVec 32 := 512#32
  let v144 : BitVec 32 := Scalar.muli v143 c512_i32_77
  v144
def k0_off2 (i : grid0.Coords) (k0_t1 : Fin (k0_t1_loop i).trips) (c1_i32_76 : BitVec 32) : Fin 2 → Nat :=
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v146 : Index := Scalar.indexCast v145
  let c0_78 : Index := 0#32
  ![v146.toNat, 0]
def k0_off3 (i : grid0.Coords) (k0_t1 : Fin (k0_t1_loop i).trips) (c1_i32_76 : BitVec 32) : Fin 2 → Nat :=
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v153 : Index := Scalar.indexCast v145
  let c256_85 : Index := 256#32
  ![v153.toNat, 256]
def k0_off4 (i : grid0.Coords) (k0_t1 : Fin (k0_t1_loop i).trips) : Fin 4 → Nat :=
  let c0_95 : Index := 0#32
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let v162 : Index := Scalar.indexCast v142
  let c0_96 : Index := 0#32
  let c0_97 : Index := 0#32
  ![0, v162.toNat, 0, 0]
def k0_off5 (i : grid0.Coords) (k0_t1 : Fin (k0_t1_loop i).trips) : Fin 4 → Nat :=
  let c1_108 : Index := 1#32
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let v178 : Index := Scalar.indexCast v142
  let c0_109 : Index := 0#32
  let c0_110 : Index := 0#32
  ![1, v178.toNat, 0, 0]
def k0_mult3 (i : grid0.Coords) (k0_t1 : Fin (k0_t1_loop i).trips) : BitVec 32 :=
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let c2_i32_118 : BitVec 32 := 2#32
  let v192 : BitVec 32 := Scalar.addi v142 c2_i32_118
  let c512_i32_119 : BitVec 32 := 512#32
  let v193 : BitVec 32 := Scalar.muli v192 c512_i32_119
  v193
def k0_off6 (i : grid0.Coords) (k0_t1 : Fin (k0_t1_loop i).trips) : Fin 4 → Nat :=
  let c0_138 : Index := 0#32
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let c1_i32_134 : BitVec 32 := 1#32
  let v209 : BitVec 32 := Scalar.addi v142 c1_i32_134
  let v212 : Index := Scalar.indexCast v209
  let c0_139 : Index := 0#32
  let c0_140 : Index := 0#32
  ![0, v212.toNat, 0, 0]
def k0_off7 (i : grid0.Coords) (k0_t1 : Fin (k0_t1_loop i).trips) : Fin 4 → Nat :=
  let c1_151 : Index := 1#32
  let c2_i32_75 : BitVec 32 := 2#32
  let c0_i32_61 : BitVec 32 := 0#32
  let c1_i32_63 : BitVec 32 := 1#32
  let arg11 : BitVec 32 := Scf.iv c0_i32_61 c1_i32_63 k0_t1
  let v142 : BitVec 32 := Scalar.muli c2_i32_75 arg11
  let c1_i32_134 : BitVec 32 := 1#32
  let v209 : BitVec 32 := Scalar.addi v142 c1_i32_134
  let v228 : Index := Scalar.indexCast v209
  let c0_152 : Index := 0#32
  let c0_153 : Index := 0#32
  ![1, v228.toNat, 0, 0]
@[reducible] def k0_t2_loop (i : grid0.Coords) : Scf.Loop 32 :=
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let v122 : BitVec 32 := Scalar.addi c0_i32_61 v121
  let c1_i32_64 : BitVec 32 := 1#32
  ⟨v125, v122, c1_i32_64⟩
def k0_mult4 (i : grid0.Coords) (k0_t2 : Fin (k0_t2_loop i).trips) : BitVec 32 :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let c1_i32_76 : BitVec 32 := 1#32
  let v143 : BitVec 32 := Scalar.addi v142 c1_i32_76
  let c512_i32_77 : BitVec 32 := 512#32
  let v144 : BitVec 32 := Scalar.muli v143 c512_i32_77
  v144
def k0_off8 (i : grid0.Coords) (k0_t2 : Fin (k0_t2_loop i).trips) (c1_i32_76 : BitVec 32) : Fin 2 → Nat :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v146 : Index := Scalar.indexCast v145
  let c0_78 : Index := 0#32
  ![v146.toNat, 0]
def k0_off9 (i : grid0.Coords) (k0_t2 : Fin (k0_t2_loop i).trips) (c1_i32_76 : BitVec 32) : Fin 2 → Nat :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v153 : Index := Scalar.indexCast v145
  let c256_85 : Index := 256#32
  ![v153.toNat, 256]
def k0_off10 (i : grid0.Coords) (k0_t2 : Fin (k0_t2_loop i).trips) : Fin 4 → Nat :=
  let c0_95 : Index := 0#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let v162 : Index := Scalar.indexCast v142
  let c0_96 : Index := 0#32
  let c0_97 : Index := 0#32
  ![0, v162.toNat, 0, 0]
def k0_off11 (i : grid0.Coords) (k0_t2 : Fin (k0_t2_loop i).trips) : Fin 4 → Nat :=
  let c1_108 : Index := 1#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let v178 : Index := Scalar.indexCast v142
  let c0_109 : Index := 0#32
  let c0_110 : Index := 0#32
  ![1, v178.toNat, 0, 0]
def k0_mult5 (i : grid0.Coords) (k0_t2 : Fin (k0_t2_loop i).trips) : BitVec 32 :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let c2_i32_118 : BitVec 32 := 2#32
  let v192 : BitVec 32 := Scalar.addi v142 c2_i32_118
  let c512_i32_119 : BitVec 32 := 512#32
  let v193 : BitVec 32 := Scalar.muli v192 c512_i32_119
  v193
def k0_off12 (i : grid0.Coords) (k0_t2 : Fin (k0_t2_loop i).trips) : Fin 4 → Nat :=
  let c0_138 : Index := 0#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let c1_i32_134 : BitVec 32 := 1#32
  let v209 : BitVec 32 := Scalar.addi v142 c1_i32_134
  let v212 : Index := Scalar.indexCast v209
  let c0_139 : Index := 0#32
  let c0_140 : Index := 0#32
  ![0, v212.toNat, 0, 0]
def k0_off13 (i : grid0.Coords) (k0_t2 : Fin (k0_t2_loop i).trips) : Fin 4 → Nat :=
  let c1_151 : Index := 1#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t2
  let v142 : BitVec 32 := Scalar.muli c2_i32_75 arg11
  let c1_i32_134 : BitVec 32 := 1#32
  let v209 : BitVec 32 := Scalar.addi v142 c1_i32_134
  let v228 : Index := Scalar.indexCast v209
  let c0_152 : Index := 0#32
  let c0_153 : Index := 0#32
  ![1, v228.toNat, 0, 0]
def k0_cond2 (i : grid0.Coords) : BitVec 1 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c2_i32_65 : BitVec 32 := 2#32
  let c0_i32_66 : BitVec 32 := 0#32
  let v126 : BitVec 1 := Scalar.cmpi .eq c2_i32_65 c0_i32_66
  let c1_i32_67 : BitVec 32 := 1#32
  let v127 : BitVec 32 := Scalar.select v126 c1_i32_67 c2_i32_65
  let v128 : BitVec 32 := Scalar.remsi v25 v127
  let c0_i32_69 : BitVec 32 := 0#32
  let v130 : BitVec 1 := Scalar.cmpi .slt v128 c0_i32_69
  let c0_i32_70 : BitVec 32 := 0#32
  let v131 : BitVec 1 := Scalar.cmpi .slt v127 c0_i32_70
  let v132 : BitVec 1 := Scalar.xori v130 v131
  let c0_i32_68 : BitVec 32 := 0#32
  let v129 : BitVec 1 := Scalar.cmpi .ne v128 c0_i32_68
  let v133 : BitVec 1 := Scalar.andi v132 v129
  let v134 : BitVec 32 := Scalar.addi v128 v127
  let v135 : BitVec 32 := Scalar.select v133 v134 v128
  let c1_i32_71 : BitVec 32 := 1#32
  let v136 : BitVec 1 := Scalar.cmpi .eq v135 c1_i32_71
  let v137 : BitVec 32 := Scalar.extui v136
  let c0_i32_72 : BitVec 32 := 0#32
  let v138 : BitVec 1 := Scalar.cmpi .ne v137 c0_i32_72
  v138

def k0_mult6 (i : grid0.Coords) : BitVec 32 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c512_i32_75 : BitVec 32 := 512#32
  let v142 : BitVec 32 := Scalar.muli v25 c512_i32_75
  v142
def k0_off14 (i : grid0.Coords) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c512_i32_75 : BitVec 32 := 512#32
  let v142 : BitVec 32 := Scalar.muli v25 c512_i32_75
  let v143 : BitVec 32 := v142
  let v144 : Index := Scalar.indexCast v143
  let c0_76 : Index := 0#32
  ![v144.toNat, 0]
def k0_off15 (i : grid0.Coords) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c512_i32_75 : BitVec 32 := 512#32
  let v142 : BitVec 32 := Scalar.muli v25 c512_i32_75
  let v143 : BitVec 32 := v142
  let v151 : Index := Scalar.indexCast v143
  let c256_83 : Index := 256#32
  ![v151.toNat, 256]
def k0_off16 (i : grid0.Coords) : Fin 4 → Nat :=
  let c0_94 : Index := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c1_i32_90 : BitVec 32 := 1#32
  let v158 : BitVec 32 := Scalar.subi v25 c1_i32_90
  let v161 : Index := Scalar.indexCast v158
  let c0_95 : Index := 0#32
  let c0_96 : Index := 0#32
  ![0, v161.toNat, 0, 0]
def k0_off17 (i : grid0.Coords) : Fin 4 → Nat :=
  let c1_107 : Index := 1#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c1_i32_90 : BitVec 32 := 1#32
  let v158 : BitVec 32 := Scalar.subi v25 c1_i32_90
  let v177 : Index := Scalar.indexCast v158
  let c0_108 : Index := 0#32
  let c0_109 : Index := 0#32
  ![1, v177.toNat, 0, 0]
def k0_off18 (i : grid0.Coords) : Fin 4 → Nat :=
  let c0_123 : Index := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v204 : Index := Scalar.indexCast v25
  let c0_124 : Index := 0#32
  let c0_125 : Index := 0#32
  ![0, v204.toNat, 0, 0]
def k0_off19 (i : grid0.Coords) : Fin 4 → Nat :=
  let c1_139 : Index := 1#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v231 : Index := Scalar.indexCast v25
  let c0_140 : Index := 0#32
  let c0_141 : Index := 0#32
  ![1, v231.toNat, 0, 0]
def k0_cond3 (i : grid0.Coords) : BitVec 1 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c2_i32_65 : BitVec 32 := 2#32
  let c0_i32_66 : BitVec 32 := 0#32
  let v126 : BitVec 1 := Scalar.cmpi .eq c2_i32_65 c0_i32_66
  let c1_i32_67 : BitVec 32 := 1#32
  let v127 : BitVec 32 := Scalar.select v126 c1_i32_67 c2_i32_65
  let v128 : BitVec 32 := Scalar.remsi v25 v127
  let c0_i32_69 : BitVec 32 := 0#32
  let v130 : BitVec 1 := Scalar.cmpi .slt v128 c0_i32_69
  let c0_i32_70 : BitVec 32 := 0#32
  let v131 : BitVec 1 := Scalar.cmpi .slt v127 c0_i32_70
  let v132 : BitVec 1 := Scalar.xori v130 v131
  let c0_i32_68 : BitVec 32 := 0#32
  let v129 : BitVec 1 := Scalar.cmpi .ne v128 c0_i32_68
  let v133 : BitVec 1 := Scalar.andi v132 v129
  let v134 : BitVec 32 := Scalar.addi v128 v127
  let v135 : BitVec 32 := Scalar.select v133 v134 v128
  let c1_i32_71 : BitVec 32 := 1#32
  let v136 : BitVec 1 := Scalar.cmpi .eq v135 c1_i32_71
  let true_73 : BitVec 1 := 1#1
  let v139 : BitVec 1 := Scalar.xori v136 true_73
  let v140 : BitVec 32 := Scalar.extui v139
  let c0_i32_74 : BitVec 32 := 0#32
  let v141 : BitVec 1 := Scalar.cmpi .ne v140 c0_i32_74
  v141

def k0_off20 (i : grid0.Coords) : Fin 4 → Nat :=
  let c0_81 : Index := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v155 : Index := Scalar.indexCast v25
  let c0_82 : Index := 0#32
  let c0_83 : Index := 0#32
  ![0, v155.toNat, 0, 0]
def k0_off21 (i : grid0.Coords) : Fin 4 → Nat :=
  let c1_97 : Index := 1#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v182 : Index := Scalar.indexCast v25
  let c0_98 : Index := 0#32
  let c0_99 : Index := 0#32
  ![1, v182.toNat, 0, 0]
@[reducible] def k0_t3_loop (i : grid0.Coords) : Scf.Loop 32 :=
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_63 : BitVec 32 := 1#32
  ⟨c0_i32_61, v125, c1_i32_63⟩
def k0_mult7 (i : grid0.Coords) (k0_t3 : Fin (k0_t3_loop i).trips) : BitVec 32 :=
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let c1_i32_76 : BitVec 32 := 1#32
  let v143 : BitVec 32 := Scalar.addi v142 c1_i32_76
  let c512_i32_77 : BitVec 32 := 512#32
  let v144 : BitVec 32 := Scalar.muli v143 c512_i32_77
  v144
def k0_off22 (i : grid0.Coords) (k0_t3 : Fin (k0_t3_loop i).trips) (c1_i32_76 : BitVec 32) : Fin 2 → Nat :=
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v146 : Index := Scalar.indexCast v145
  let c0_78 : Index := 0#32
  ![v146.toNat, 0]
def k0_off23 (i : grid0.Coords) (k0_t3 : Fin (k0_t3_loop i).trips) (c1_i32_76 : BitVec 32) : Fin 2 → Nat :=
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v153 : Index := Scalar.indexCast v145
  let c256_85 : Index := 256#32
  ![v153.toNat, 256]
def k0_off24 (i : grid0.Coords) (k0_t3 : Fin (k0_t3_loop i).trips) : Fin 4 → Nat :=
  let c0_95 : Index := 0#32
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let v162 : Index := Scalar.indexCast v142
  let c0_96 : Index := 0#32
  let c0_97 : Index := 0#32
  ![0, v162.toNat, 0, 0]
def k0_off25 (i : grid0.Coords) (k0_t3 : Fin (k0_t3_loop i).trips) : Fin 4 → Nat :=
  let c1_115 : Index := 1#32
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let v210 : Index := Scalar.indexCast v142
  let c0_116 : Index := 0#32
  let c0_117 : Index := 0#32
  ![1, v210.toNat, 0, 0]
def k0_mult8 (i : grid0.Coords) (k0_t3 : Fin (k0_t3_loop i).trips) : BitVec 32 :=
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let c2_i32_132 : BitVec 32 := 2#32
  let v256 : BitVec 32 := Scalar.addi v142 c2_i32_132
  let c512_i32_133 : BitVec 32 := 512#32
  let v257 : BitVec 32 := Scalar.muli v256 c512_i32_133
  v257
def k0_off26 (i : grid0.Coords) (k0_t3 : Fin (k0_t3_loop i).trips) : Fin 4 → Nat :=
  let c0_152 : Index := 0#32
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let c1_i32_148 : BitVec 32 := 1#32
  let v273 : BitVec 32 := Scalar.addi v142 c1_i32_148
  let v276 : Index := Scalar.indexCast v273
  let c0_153 : Index := 0#32
  let c0_154 : Index := 0#32
  ![0, v276.toNat, 0, 0]
def k0_off27 (i : grid0.Coords) (k0_t3 : Fin (k0_t3_loop i).trips) : Fin 4 → Nat :=
  let c1_172 : Index := 1#32
  let c2_i32_75 : BitVec 32 := 2#32
  let c0_i32_61 : BitVec 32 := 0#32
  let c1_i32_63 : BitVec 32 := 1#32
  let arg11 : BitVec 32 := Scf.iv c0_i32_61 c1_i32_63 k0_t3
  let v142 : BitVec 32 := Scalar.muli c2_i32_75 arg11
  let c1_i32_148 : BitVec 32 := 1#32
  let v273 : BitVec 32 := Scalar.addi v142 c1_i32_148
  let v324 : Index := Scalar.indexCast v273
  let c0_173 : Index := 0#32
  let c0_174 : Index := 0#32
  ![1, v324.toNat, 0, 0]
@[reducible] def k0_t4_loop (i : grid0.Coords) : Scf.Loop 32 :=
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let v122 : BitVec 32 := Scalar.addi c0_i32_61 v121
  let c1_i32_64 : BitVec 32 := 1#32
  ⟨v125, v122, c1_i32_64⟩
def k0_mult9 (i : grid0.Coords) (k0_t4 : Fin (k0_t4_loop i).trips) : BitVec 32 :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let c1_i32_76 : BitVec 32 := 1#32
  let v143 : BitVec 32 := Scalar.addi v142 c1_i32_76
  let c512_i32_77 : BitVec 32 := 512#32
  let v144 : BitVec 32 := Scalar.muli v143 c512_i32_77
  v144
def k0_off28 (i : grid0.Coords) (k0_t4 : Fin (k0_t4_loop i).trips) (c1_i32_76 : BitVec 32) : Fin 2 → Nat :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v146 : Index := Scalar.indexCast v145
  let c0_78 : Index := 0#32
  ![v146.toNat, 0]
def k0_off29 (i : grid0.Coords) (k0_t4 : Fin (k0_t4_loop i).trips) (c1_i32_76 : BitVec 32) : Fin 2 → Nat :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let v143 : BitVec 32 := Scalar.addi v142 c1_i32_76
  let c512_i32_77 : BitVec 32 := 512#32
  let v144 : BitVec 32 := Scalar.muli v143 c512_i32_77
  let v145 : BitVec 32 := v144
  let v153 : Index := Scalar.indexCast v145
  let c256_85 : Index := 256#32
  ![v153.toNat, 256]
def k0_off30 (i : grid0.Coords) (k0_t4 : Fin (k0_t4_loop i).trips) : Fin 4 → Nat :=
  let c0_95 : Index := 0#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let v162 : Index := Scalar.indexCast v142
  let c0_96 : Index := 0#32
  let c0_97 : Index := 0#32
  ![0, v162.toNat, 0, 0]
def k0_off31 (i : grid0.Coords) (k0_t4 : Fin (k0_t4_loop i).trips) : Fin 4 → Nat :=
  let c1_115 : Index := 1#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let v210 : Index := Scalar.indexCast v142
  let c0_116 : Index := 0#32
  let c0_117 : Index := 0#32
  ![1, v210.toNat, 0, 0]
def k0_mult10 (i : grid0.Coords) (k0_t4 : Fin (k0_t4_loop i).trips) : BitVec 32 :=
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let c2_i32_132 : BitVec 32 := 2#32
  let v256 : BitVec 32 := Scalar.addi v142 c2_i32_132
  let c512_i32_133 : BitVec 32 := 512#32
  let v257 : BitVec 32 := Scalar.muli v256 c512_i32_133
  v257
def k0_off32 (i : grid0.Coords) (k0_t4 : Fin (k0_t4_loop i).trips) : Fin 4 → Nat :=
  let c0_152 : Index := 0#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let c1_i32_148 : BitVec 32 := 1#32
  let v273 : BitVec 32 := Scalar.addi v142 c1_i32_148
  let v276 : Index := Scalar.indexCast v273
  let c0_153 : Index := 0#32
  let c0_154 : Index := 0#32
  ![0, v276.toNat, 0, 0]
def k0_off33 (i : grid0.Coords) (k0_t4 : Fin (k0_t4_loop i).trips) : Fin 4 → Nat :=
  let c1_172 : Index := 1#32
  let c2_i32_75 : BitVec 32 := 2#32
  let c0_i32_61 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c0_i32_54 : BitVec 32 := 0#32
  let v105 : BitVec 1 := Scalar.cmpi .sgt v25 c0_i32_54
  let v106 : BitVec 32 := Scalar.extui v105
  let c0_i32_55 : BitVec 32 := 0#32
  let v107 : BitVec 1 := Scalar.cmpi .slt v25 c0_i32_55
  let v108 : BitVec 32 := Scalar.extui v107
  let v109 : BitVec 32 := Scalar.subi v106 v108
  let c2_i32_53 : BitVec 32 := 2#32
  let c0_i32_56 : BitVec 32 := 0#32
  let v110 : BitVec 1 := Scalar.cmpi .sgt c2_i32_53 c0_i32_56
  let v111 : BitVec 32 := Scalar.extui v110
  let c0_i32_57 : BitVec 32 := 0#32
  let v112 : BitVec 1 := Scalar.cmpi .slt c2_i32_53 c0_i32_57
  let v113 : BitVec 32 := Scalar.extui v112
  let v114 : BitVec 32 := Scalar.subi v111 v113
  let v115 : BitVec 1 := Scalar.cmpi .ne v109 v114
  let v116 : BitVec 32 := Scalar.remsi v25 c2_i32_53
  let c0_i32_58 : BitVec 32 := 0#32
  let v117 : BitVec 1 := Scalar.cmpi .ne v116 c0_i32_58
  let v118 : BitVec 1 := Scalar.andi v115 v117
  let v104 : BitVec 32 := Scalar.divsi v25 c2_i32_53
  let c1_i32_59 : BitVec 32 := 1#32
  let v119 : BitVec 32 := Scalar.subi v104 c1_i32_59
  let v120 : BitVec 32 := Scalar.select v118 v119 v104
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg11 : BitVec 32 := Scf.iv v125 c1_i32_64 k0_t4
  let v142 : BitVec 32 := Scalar.muli c2_i32_75 arg11
  let c1_i32_148 : BitVec 32 := 1#32
  let v273 : BitVec 32 := Scalar.addi v142 c1_i32_148
  let v324 : Index := Scalar.indexCast v273
  let c0_173 : Index := 0#32
  let c0_174 : Index := 0#32
  ![1, v324.toNat, 0, 0]
def k0_cond5 (i : grid0.Coords) : BitVec 1 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c2_i32_65 : BitVec 32 := 2#32
  let c0_i32_66 : BitVec 32 := 0#32
  let v126 : BitVec 1 := Scalar.cmpi .eq c2_i32_65 c0_i32_66
  let c1_i32_67 : BitVec 32 := 1#32
  let v127 : BitVec 32 := Scalar.select v126 c1_i32_67 c2_i32_65
  let v128 : BitVec 32 := Scalar.remsi v25 v127
  let c0_i32_69 : BitVec 32 := 0#32
  let v130 : BitVec 1 := Scalar.cmpi .slt v128 c0_i32_69
  let c0_i32_70 : BitVec 32 := 0#32
  let v131 : BitVec 1 := Scalar.cmpi .slt v127 c0_i32_70
  let v132 : BitVec 1 := Scalar.xori v130 v131
  let c0_i32_68 : BitVec 32 := 0#32
  let v129 : BitVec 1 := Scalar.cmpi .ne v128 c0_i32_68
  let v133 : BitVec 1 := Scalar.andi v132 v129
  let v134 : BitVec 32 := Scalar.addi v128 v127
  let v135 : BitVec 32 := Scalar.select v133 v134 v128
  let c1_i32_71 : BitVec 32 := 1#32
  let v136 : BitVec 1 := Scalar.cmpi .eq v135 c1_i32_71
  let v137 : BitVec 32 := Scalar.extui v136
  let c0_i32_72 : BitVec 32 := 0#32
  let v138 : BitVec 1 := Scalar.cmpi .ne v137 c0_i32_72
  v138

def k0_mult11 (i : grid0.Coords) : BitVec 32 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c512_i32_75 : BitVec 32 := 512#32
  let v142 : BitVec 32 := Scalar.muli v25 c512_i32_75
  v142
def k0_off34 (i : grid0.Coords) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c512_i32_75 : BitVec 32 := 512#32
  let v142 : BitVec 32 := Scalar.muli v25 c512_i32_75
  let v143 : BitVec 32 := v142
  let v144 : Index := Scalar.indexCast v143
  let c0_76 : Index := 0#32
  ![v144.toNat, 0]
def k0_off35 (i : grid0.Coords) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c512_i32_75 : BitVec 32 := 512#32
  let v142 : BitVec 32 := Scalar.muli v25 c512_i32_75
  let v143 : BitVec 32 := v142
  let v151 : Index := Scalar.indexCast v143
  let c256_83 : Index := 256#32
  ![v151.toNat, 256]
def k0_off36 (i : grid0.Coords) : Fin 4 → Nat :=
  let c0_94 : Index := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c1_i32_90 : BitVec 32 := 1#32
  let v158 : BitVec 32 := Scalar.subi v25 c1_i32_90
  let v161 : Index := Scalar.indexCast v158
  let c0_95 : Index := 0#32
  let c0_96 : Index := 0#32
  ![0, v161.toNat, 0, 0]
def k0_off37 (i : grid0.Coords) : Fin 4 → Nat :=
  let c1_114 : Index := 1#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c1_i32_90 : BitVec 32 := 1#32
  let v158 : BitVec 32 := Scalar.subi v25 c1_i32_90
  let v209 : Index := Scalar.indexCast v158
  let c0_115 : Index := 0#32
  let c0_116 : Index := 0#32
  ![1, v209.toNat, 0, 0]
def k0_off38 (i : grid0.Coords) : Fin 4 → Nat :=
  let c0_137 : Index := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v268 : Index := Scalar.indexCast v25
  let c0_138 : Index := 0#32
  let c0_139 : Index := 0#32
  ![0, v268.toNat, 0, 0]
def k0_off39 (i : grid0.Coords) : Fin 4 → Nat :=
  let c1_160 : Index := 1#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v327 : Index := Scalar.indexCast v25
  let c0_161 : Index := 0#32
  let c0_162 : Index := 0#32
  ![1, v327.toNat, 0, 0]
def k0_cond6 (i : grid0.Coords) : BitVec 1 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let c2_i32_65 : BitVec 32 := 2#32
  let c0_i32_66 : BitVec 32 := 0#32
  let v126 : BitVec 1 := Scalar.cmpi .eq c2_i32_65 c0_i32_66
  let c1_i32_67 : BitVec 32 := 1#32
  let v127 : BitVec 32 := Scalar.select v126 c1_i32_67 c2_i32_65
  let v128 : BitVec 32 := Scalar.remsi v25 v127
  let c0_i32_69 : BitVec 32 := 0#32
  let v130 : BitVec 1 := Scalar.cmpi .slt v128 c0_i32_69
  let c0_i32_70 : BitVec 32 := 0#32
  let v131 : BitVec 1 := Scalar.cmpi .slt v127 c0_i32_70
  let v132 : BitVec 1 := Scalar.xori v130 v131
  let c0_i32_68 : BitVec 32 := 0#32
  let v129 : BitVec 1 := Scalar.cmpi .ne v128 c0_i32_68
  let v133 : BitVec 1 := Scalar.andi v132 v129
  let v134 : BitVec 32 := Scalar.addi v128 v127
  let v135 : BitVec 32 := Scalar.select v133 v134 v128
  let c1_i32_71 : BitVec 32 := 1#32
  let v136 : BitVec 1 := Scalar.cmpi .eq v135 c1_i32_71
  let true_73 : BitVec 1 := 1#1
  let v139 : BitVec 1 := Scalar.xori v136 true_73
  let v140 : BitVec 32 := Scalar.extui v139
  let c0_i32_74 : BitVec 32 := 0#32
  let v141 : BitVec 1 := Scalar.cmpi .ne v140 c0_i32_74
  v141

def k0_off40 (i : grid0.Coords) : Fin 4 → Nat :=
  let c0_81 : Index := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v155 : Index := Scalar.indexCast v25
  let c0_82 : Index := 0#32
  let c0_83 : Index := 0#32
  ![0, v155.toNat, 0, 0]
def k0_off41 (i : grid0.Coords) : Fin 4 → Nat :=
  let c1_104 : Index := 1#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_7 : BitVec 32 := 0#32
  let v12 : BitVec 1 := Scalar.cmpi .slt v8 c0_i32_7
  let v13 : BitVec 32 := Scalar.extui v12
  let v14 : BitVec 32 := Scalar.subi v11 v13
  let c512_i32_6 : BitVec 32 := 512#32
  let c0_i32_8 : BitVec 32 := 0#32
  let v15 : BitVec 1 := Scalar.cmpi .sgt c512_i32_6 c0_i32_8
  let v16 : BitVec 32 := Scalar.extui v15
  let c0_i32_9 : BitVec 32 := 0#32
  let v17 : BitVec 1 := Scalar.cmpi .slt c512_i32_6 c0_i32_9
  let v18 : BitVec 32 := Scalar.extui v17
  let v19 : BitVec 32 := Scalar.subi v16 v18
  let v20 : BitVec 1 := Scalar.cmpi .ne v14 v19
  let v21 : BitVec 32 := Scalar.remsi v8 c512_i32_6
  let c0_i32_10 : BitVec 32 := 0#32
  let v22 : BitVec 1 := Scalar.cmpi .ne v21 c0_i32_10
  let v23 : BitVec 1 := Scalar.andi v20 v22
  let v9 : BitVec 32 := Scalar.divsi v8 c512_i32_6
  let c1_i32 : BitVec 32 := 1#32
  let v24 : BitVec 32 := Scalar.subi v9 c1_i32
  let v25 : BitVec 32 := Scalar.select v23 v24 v9
  let v214 : Index := Scalar.indexCast v25
  let c0_105 : Index := 0#32
  let c0_106 : Index := 0#32
  ![1, v214.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnBIdeal.lean ====
variable {F : FTy → Type} [FloatOps F] [Named F]
def κ : String → Option EReal := fun
  | "mask" => some ⊥
  | _ => none
-- ==== RefAttnBIdeal.lean ====
abbrev S8192x2048 : Shape := ⟨2, ![8192, 2048]⟩
abbrev S8192x1024 : Shape := ⟨2, ![8192, 1024]⟩
abbrev S16x128 : Shape := ⟨2, ![16, 128]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S16x128, .f32⟩
  | .hbm, ⟨4, _⟩ => ⟨S8192x2048, .f32⟩
  | .hbm, ⟨5, _⟩ => ⟨S8192x8x256, .f32⟩
  | .hbm, ⟨6, _⟩ => ⟨S8192x2048, .f32⟩
  | .hbm, ⟨7, _⟩ => ⟨S8192x8x256, .f32⟩
  | .hbm, ⟨8, _⟩ => ⟨S8192x1024, .f32⟩
  | .hbm, ⟨9, _⟩ => ⟨S8192x8x128, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x128x8192, .f32⟩
  | .hbm, ⟨37, _⟩ => ⟨S8192x8x128, .f32⟩
  | .hbm, ⟨38, _⟩ => ⟨S8192x1024, .f32⟩
  | .hbm, ⟨39, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.AttnB.Runs.lean ====
module

public import proofs.«01_k».proof.Proof.Gen.AttnBIdeal.Launch
public import proofs.«01_k».proof.Proof.Gen.AttnBIdeal.Skeleton
public import proofs.«01_k».proof.Proof.Gen.AttnBIdeal.Loops
public import proofs.«01_k».proof.Proof.Gen.AttnBIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_AttnBIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c))⟩) h

/-! ## Which tail a point runs: an even number of key tiles before the diagonal, or an odd one -/

theorem odd_fixed : ∀ t : Fin cfg0.N, k0_cond2 (grid0.coords t) = 1#1 ↔ t.val % 2 = 1 :=
  (by decide +kernel : ∀ t : Fin grid0.N, k0_cond2 (grid0.coords t) = 1#1 ↔ t.val % 2 = 1)
theorem even_fixed : ∀ t : Fin cfg0.N, k0_cond3 (grid0.coords t) = 1#1 ↔ t.val % 2 = 0 :=
  (by decide +kernel : ∀ t : Fin grid0.N, k0_cond3 (grid0.coords t) = 1#1 ↔ t.val % 2 = 0)
theorem odd_online : ∀ t : Fin cfg0.N, k0_cond5 (grid0.coords t) = 1#1 ↔ t.val % 2 = 1 :=
  (by decide +kernel : ∀ t : Fin grid0.N, k0_cond5 (grid0.coords t) = 1#1 ↔ t.val % 2 = 1)
theorem even_online : ∀ t : Fin cfg0.N, k0_cond6 (grid0.coords t) = 1#1 ↔ t.val % 2 = 0 :=
  (by decide +kernel : ∀ t : Fin grid0.N, k0_cond6 (grid0.coords t) = 1#1 ↔ t.val % 2 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x16x144x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x512x512 .f32 := Memref.whole cc0_scratch0
abbrev scM0_1 : Memref sig .tc .vmem S2x512x512 .f32 := Memref.whole cc0_scratch1
abbrev scM0_2 : Memref sig .tc .vmem S2x1x512 .f32 := Memref.whole cc0_scratch2
abbrev scM0_3 : Memref sig .tc .vmem S2x144x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## Which branch a point runs -/

/-- Whether the two heads' fixed shifts are small enough that no running maximum is needed: the body's float comparison,
over what it reads of the query block and of the key norms. -/
abbrev flag (i : grid0.Coords) (arg2 : Memref sig .tc .vmem S512x512 .bf16) (harg2 : arg2.IsWhole) (arg5 : Memref sig .tc .vmem S16x128 .f32) (harg5 : arg5.IsWhole) (x0 : Vec F S512x512 .bf16) (x3 : Vec F S16x128 .f32) : BitVec 1 :=
  Scalar.cmpf .ole (k0_pay2
    (k0_pay168 (View.readAt (Elt F) arg2.view (Rect.unit (s := S512x512) ![0, 0] S512x256.size inb_S512x512_S512x256_0_0).toLoadRect (harg2.unread x0))
      (View.readAt (Elt F) arg5.view (Rect.unit (s := S16x128) (k0_off1 i 0#32) S1x1.size (k0_off1_inb i 0)).toLoadRect (harg5.unread x3)))
    (View.readAt (Elt F) arg5.view (Rect.unit (s := S16x128) (k0_off1 i 1#32) S1x1.size (k0_off1_inb i 1)).toLoadRect (harg5.unread x3))
    (k0_pay169 (View.readAt (Elt F) arg2.view (Rect.unit (s := S512x512) ![0, 256] S512x256.size inb_S512x512_S512x256_0_256).toLoadRect (harg2.unread x0))))
    (FloatOps.ofBits FTy.f32 1120403456#32)

/-- The condition of the branch with a fixed shift. -/
abbrev Fixed (i : grid0.Coords) (arg2 : Memref sig .tc .vmem S512x512 .bf16) (harg2 : arg2.IsWhole) (arg5 : Memref sig .tc .vmem S16x128 .f32) (harg5 : arg5.IsWhole) (x0 : Vec F S512x512 .bf16) (x3 : Vec F S16x128 .f32) : Prop :=
  Scalar.cmpi .ne (Scalar.extui (flag i arg2 harg2 arg5 harg5 x0 x3) : BitVec 32) 0#32 = 1#1

/-- The condition of the branch with a running maximum. -/
abbrev Online (i : grid0.Coords) (arg2 : Memref sig .tc .vmem S512x512 .bf16) (harg2 : arg2.IsWhole) (arg5 : Memref sig .tc .vmem S16x128 .f32) (harg5 : arg5.IsWhole) (x0 : Vec F S512x512 .bf16) (x3 : Vec F S16x128 .f32) : Prop :=
  Scalar.cmpi .ne (Scalar.extui (Scalar.xori (flag i arg2 harg2 arg5 harg5 x0 x3) 1#1) : BitVec 32) 0#32 = 1#1

theorem branch (b : BitVec 1) : (Scalar.cmpi .ne (Scalar.extui b : BitVec 32) 0#32 = 1#1 ∧ ¬Scalar.cmpi .ne (Scalar.extui (Scalar.xori b 1#1) : BitVec 32) 0#32 = 1#1)
    ∨ (¬Scalar.cmpi .ne (Scalar.extui b : BitVec 32) 0#32 = 1#1 ∧ Scalar.cmpi .ne (Scalar.extui (Scalar.xori b 1#1) : BitVec 32) 0#32 = 1#1) := by
  revert b; decide

end Cert.AttnBIdeal.Hand

end
-- ==== Proof.AttnB.RunA.lean ====
module

public import proofs.«01_k».proof.Proof.AttnB.Runs

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point with an even number of tiles before the diagonal, a fixed shift: the pieces it leaves in the output's buffer, with the proof that it runs to them. -/
noncomputable def runA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec F S512x512 .bf16) (x1 : Vec F S8192x512 .bf16) (x2 : Vec F S2x16x144x512 .bf16) (x3 : Vec F S16x128 .f32) (hf : Fixed i arg2 harg2 arg5 harg5 x0 x3) (hn : ¬Online i arg2 harg2 arg5 harg5 x0 x3) (ho : ¬k0_cond2 i = 1#1) (he : k0_cond3 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) :
    { L4 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_b i arg2 harg2 arg3 harg3 arg4 harg4 arg5 harg5 arg6 harg6 arg7 harg7 arg8 harg8 arg9 harg9 arg10 harg10) K } := by
  refine ⟨?_, fun E K => ?run⟩
  case run =>
    simp only [cc0_attn_b_eq_skeleton]; unfold cc0_attn_b_skel
    simp only [k0_part32_eq_skeleton, k0_part33_eq_skeleton, k0_part11_eq_skeleton, k0_part10_eq_skeleton]
    unfold owns
    iintro ⟨⟨%f0, %hf0, H0⟩, ⟨%f1, %hf1, H1⟩, ⟨%f2, %hf2, H2⟩, ⟨%f3, %hf3, H3⟩, ⟨%d4, %f4, -, H4⟩, HS0, HS1, HS2, HS3, Hk⟩
    obtain rfl := harg2.eq_unread hf0; obtain rfl := harg3.eq_unread hf1; obtain rfl := harg4.eq_unread hf2; obtain rfl := harg5.eq_unread hf3
    sl_exec (disch := first | sl_exact hf | sl_exact hn | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnBIdeal.Hand

end
-- ==== Proof.AttnB.RunB.lean ====
module

public import proofs.«01_k».proof.Proof.AttnB.RunA

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point with an odd number of tiles before the diagonal, a fixed shift: the pieces it leaves in the output's buffer, with the proof that it runs to them. -/
noncomputable def runB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec F S512x512 .bf16) (x1 : Vec F S8192x512 .bf16) (x2 : Vec F S2x16x144x512 .bf16) (x3 : Vec F S16x128 .f32) (hf : Fixed i arg2 harg2 arg5 harg5 x0 x3) (hn : ¬Online i arg2 harg2 arg5 harg5 x0 x3) (ho : k0_cond2 i = 1#1) (he : ¬k0_cond3 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) :
    { L4 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_b i arg2 harg2 arg3 harg3 arg4 harg4 arg5 harg5 arg6 harg6 arg7 harg7 arg8 harg8 arg9 harg9 arg10 harg10) K } := by
  refine ⟨?_, fun E K => ?run⟩
  case run =>
    simp only [cc0_attn_b_eq_skeleton]; unfold cc0_attn_b_skel
    simp only [k0_part32_eq_skeleton, k0_part33_eq_skeleton, k0_part11_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, HS0, HS1, HS2, HS3, Hk⟩
    obtain rfl := harg2.eq_unread hf0; obtain rfl := harg3.eq_unread hf1; obtain rfl := harg4.eq_unread hf2; obtain rfl := harg5.eq_unread hf3
    sl_exec (disch := first | sl_exact hf | sl_exact hn | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnBIdeal.Hand

end
-- ==== Proof.AttnB.RunC.lean ====
module

public import proofs.«01_k».proof.Proof.AttnB.RunB

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point with an even number of tiles before the diagonal, a running maximum: the pieces it leaves in the output's buffer, with the proof that it runs to them. -/
noncomputable def runC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec F S512x512 .bf16) (x1 : Vec F S8192x512 .bf16) (x2 : Vec F S2x16x144x512 .bf16) (x3 : Vec F S16x128 .f32) (hf : ¬Fixed i arg2 harg2 arg5 harg5 x0 x3) (hn : Online i arg2 harg2 arg5 harg5 x0 x3) (ho : ¬k0_cond5 i = 1#1) (he : k0_cond6 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) :
    { L4 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_b i arg2 harg2 arg3 harg3 arg4 harg4 arg5 harg5 arg6 harg6 arg7 harg7 arg8 harg8 arg9 harg9 arg10 harg10) K } := by
  refine ⟨?_, fun E K => ?run⟩
  case run =>
    simp only [cc0_attn_b_eq_skeleton]; unfold cc0_attn_b_skel
    simp only [k0_part32_eq_skeleton, k0_part33_eq_skeleton, k0_part31_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%d4, %f4, -, H4⟩, HS0, HS1, HS2, HS3, Hk⟩
    obtain rfl := harg2.eq_unread hf0; obtain rfl := harg3.eq_unread hf1; obtain rfl := harg4.eq_unread hf2; obtain rfl := harg5.eq_unread hf3
    sl_exec (disch := first | sl_exact hf | sl_exact hn | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnBIdeal.Hand

end
-- ==== Proof.AttnB.RunD.lean ====
module

public import proofs.«01_k».proof.Proof.AttnB.RunC

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point with an odd number of tiles before the diagonal, a running maximum: the pieces it leaves in the output's buffer, with the proof that it runs to them. -/
noncomputable def runD (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec F S512x512 .bf16) (x1 : Vec F S8192x512 .bf16) (x2 : Vec F S2x16x144x512 .bf16) (x3 : Vec F S16x128 .f32) (hf : ¬Fixed i arg2 harg2 arg5 harg5 x0 x3) (hn : Online i arg2 harg2 arg5 harg5 x0 x3) (ho : k0_cond5 i = 1#1) (he : ¬k0_cond6 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) :
    { L4 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_b i arg2 harg2 arg3 harg3 arg4 harg4 arg5 harg5 arg6 harg6 arg7 harg7 arg8 harg8 arg9 harg9 arg10 harg10) K } := by
  refine ⟨?_, fun E K => ?run⟩
  case run =>
    simp only [cc0_attn_b_eq_skeleton]; unfold cc0_attn_b_skel
    simp only [k0_part32_eq_skeleton, k0_part33_eq_skeleton, k0_part31_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, HS0, HS1, HS2, HS3, Hk⟩
    obtain rfl := harg2.eq_unread hf0; obtain rfl := harg3.eq_unread hf1; obtain rfl := harg4.eq_unread hf2; obtain rfl := harg5.eq_unread hf3
    sl_exec (disch := first | sl_exact hf | sl_exact hn | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnBIdeal.Hand

end
-- ==== Proof.AttnB.Any.lean ====
module

public import proofs.«01_k».proof.Proof.AttnB.RunD

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer held whole is its memref owned at what it reads. -/
theorem ownedAt {s : Shape} {e : EltTy} (c : Dev nD) (M : Memref sig .tc .vmem s e) (f : Buf (Elt F) (M.view.loc (c : Thread nD τ))) :
    (iprop(M.view.loc (c : Thread nD τ) ↦[M.view.set]{fullShare} f) : sProp 𝕄) ⊢ owns (c : Thread nD τ) M fullShare (M.view.read (Elt F) f) := by
  unfold owns
  iintro H
  iexists _; isplitr
  swap; · iexact H
  ipureintro; rfl

/-- A memref owned at some contents is its buffer held at some. -/
theorem heldAt {s : Shape} {e : EltTy} (c : Dev nD) (M : Memref sig .tc .vmem s e) :
    (iprop(∃ d, owns (c : Thread nD τ) M fullShare d) : sProp 𝕄) ⊢ iprop(∃ f, M.view.loc (c : Thread nD τ) ↦[M.view.set]{fullShare} f) := by
  unfold owns
  iintro ⟨%d, %f, -, H⟩
  iexists _; iexact H

set_option maxHeartbeats 1000000 in
/-- THE BODY AT ANY POINT: whichever of the four runs it takes, if each leaves contents with a property, so does the body. -/
theorem runAny (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec F S512x512 .bf16) (x1 : Vec F S8192x512 .bf16) (x2 : Vec F S2x16x144x512 .bf16) (x3 : Vec F S16x128 .f32)
    (hpar : (¬k0_cond2 i = 1#1 ∧ k0_cond3 i = 1#1 ∧ ¬k0_cond5 i = 1#1 ∧ k0_cond6 i = 1#1) ∨ (k0_cond2 i = 1#1 ∧ ¬k0_cond3 i = 1#1 ∧ k0_cond5 i = 1#1 ∧ ¬k0_cond6 i = 1#1))
    (P : Vec F S512x256 .bf16 → Prop)
    (hA : ∀ (hf : Fixed i arg2 harg2 arg5 harg5 x0 x3) (hn : ¬Online i arg2 harg2 arg5 harg5 x0 x3) (ho : ¬k0_cond2 i = 1#1) (he : k0_cond3 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) (f : Buf (Elt F) (arg6.view.loc (c : Thread nD τ))),
      P (arg6.view.read (Elt F) (arg6.view.writes (Elt F) f (runA c i arg2 harg2 arg3 harg3 arg4 harg4 arg5 harg5 arg6 harg6 arg7 harg7 arg8 harg8 arg9 harg9 arg10 harg10 x0 x1 x2 x3 hf hn ho he fs0 fs1 fs2 fs3).1)))
    (hB : ∀ (hf : Fixed i arg2 harg2 arg5 harg5 x0 x3) (hn : ¬Online i arg2 harg2 arg5 harg5 x0 x3) (ho : k0_cond2 i = 1#1) (he : ¬k0_cond3 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) (f : Buf (Elt F) (arg6.view.loc (c : Thread nD τ))),
      P (arg6.view.read (Elt F) (arg6.view.writes (Elt F) f (runB c i arg2 harg2 arg3 harg3 arg4 harg4 arg5 harg5 arg6 harg6 arg7 harg7 arg8 harg8 arg9 harg9 arg10 harg10 x0 x1 x2 x3 hf hn ho he fs0 fs1 fs2 fs3).1)))
    (hC : ∀ (hf : ¬Fixed i arg2 harg2 arg5 harg5 x0 x3) (hn : Online i arg2 harg2 arg5 harg5 x0 x3) (ho : ¬k0_cond5 i = 1#1) (he : k0_cond6 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) (f : Buf (Elt F) (arg6.view.loc (c : Thread nD τ))),
      P (arg6.view.read (Elt F) (arg6.view.writes (Elt F) f (runC c i arg2 harg2 arg3 harg3 arg4 harg4 arg5 harg5 arg6 harg6 arg7 harg7 arg8 harg8 arg9 harg9 arg10 harg10 x0 x1 x2 x3 hf hn ho he fs0 fs1 fs2 fs3).1)))
    (hD : ∀ (hf : ¬Fixed i arg2 harg2 arg5 harg5 x0 x3) (hn : Online i arg2 harg2 arg5 harg5 x0 x3) (ho : k0_cond5 i = 1#1) (he : ¬k0_cond6 i = 1#1) (fs0 : Buf (Elt F) (arg7.view.loc (c : Thread nD τ))) (fs1 : Buf (Elt F) (arg8.view.loc (c : Thread nD τ))) (fs2 : Buf (Elt F) (arg9.view.loc (c : Thread nD τ))) (fs3 : Buf (Elt F) (arg10.view.loc (c : Thread nD τ))) (f : Buf (Elt F) (arg6.view.loc (c : Thread nD τ))),
      P (arg6.view.read (Elt F) (arg6.view.writes (Elt F) f (runD c i arg2 harg2 arg3 harg3 arg4 harg4 arg5 harg5 arg6 harg6 arg7 harg7 arg8 harg8 arg9 harg9 arg10 harg10 x0 x1 x2 x3 hf hn ho he fs0 fs1 fs2 fs3).1)))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜P d⌝ ∗ owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attn_b i arg2 harg2 arg3 harg3 arg4 harg4 arg5 harg5 arg6 harg6 arg7 harg7 arg8 harg8 arg9 harg9 arg10 harg10) K := by
  refine (BIClass.sep_mono .rfl (BIClass.sep_mono .rfl (BIClass.sep_mono .rfl (BIClass.sep_mono .rfl (BIClass.sep_mono .rfl (BIClass.sep_mono (heldAt c arg7) (BIClass.sep_mono (heldAt c arg8) (BIClass.sep_mono (heldAt c arg9) (BIClass.sep_mono (heldAt c arg10) .rfl))))))))).trans ?_
  iintro ⟨H0, H1, H2, H3, H4, ⟨%fs0, HS0⟩, ⟨%fs1, HS1⟩, ⟨%fs2, HS2⟩, ⟨%fs3, HS3⟩, Hk⟩
  rcases branch (flag i arg2 harg2 arg5 harg5 x0 x3) with ⟨hf, hn⟩ | ⟨hf, hn⟩ <;> rcases hpar with ⟨h2, h3, h5, h6⟩ | ⟨h2, h3, h5, h6⟩
  · iapply ((runA c i arg2 harg2 arg3 harg3 arg4 harg4 arg5 harg5 arg6 harg6 arg7 harg7 arg8 harg8 arg9 harg9 arg10 harg10 x0 x1 x2 x3 hf hn h2 h3 fs0 fs1 fs2 fs3).2 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, ⟨%f4, H4⟩, HS0, HS1, HS2, HS3⟩
    iapply Hk
    isplitl [H0]; · iexact H0
    isplitl [H1]; · iexact H1
    isplitl [H2]; · iexact H2
    isplitl [H3]; · iexact H3
    isplitl [H4]
    · iexists _; isplitr; swap
      · iapply (ownedAt c arg6 _)
        iexact H4
      ipureintro; exact hA hf hn h2 h3 fs0 fs1 fs2 fs3 f4
    isplitl [HS0]; · iexact HS0
    isplitl [HS1]; · iexact HS1
    isplitl [HS2]; · iexact HS2
    iexact HS3
  · iapply ((runB c i arg2 harg2 arg3 harg3 arg4 harg4 arg5 harg5 arg6 harg6 arg7 harg7 arg8 harg8 arg9 harg9 arg10 harg10 x0 x1 x2 x3 hf hn h2 h3 fs0 fs1 fs2 fs3).2 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, ⟨%f4, H4⟩, HS0, HS1, HS2, HS3⟩
    iapply Hk
    isplitl [H0]; · iexact H0
    isplitl [H1]; · iexact H1
    isplitl [H2]; · iexact H2
    isplitl [H3]; · iexact H3
    isplitl [H4]
    · iexists _; isplitr; swap
      · iapply (ownedAt c arg6 _)
        iexact H4
      ipureintro; exact hB hf hn h2 h3 fs0 fs1 fs2 fs3 f4
    isplitl [HS0]; · iexact HS0
    isplitl [HS1]; · iexact HS1
    isplitl [HS2]; · iexact HS2
    iexact HS3
  · iapply ((runC c i arg2 harg2 arg3 harg3 arg4 harg4 arg5 harg5 arg6 harg6 arg7 harg7 arg8 harg8 arg9 harg9 arg10 harg10 x0 x1 x2 x3 hf hn h5 h6 fs0 fs1 fs2 fs3).2 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, ⟨%f4, H4⟩, HS0, HS1, HS2, HS3⟩
    iapply Hk
    isplitl [H0]; · iexact H0
    isplitl [H1]; · iexact H1
    isplitl [H2]; · iexact H2
    isplitl [H3]; · iexact H3
    isplitl [H4]
    · iexists _; isplitr; swap
      · iapply (ownedAt c arg6 _)
        iexact H4
      ipureintro; exact hC hf hn h5 h6 fs0 fs1 fs2 fs3 f4
    isplitl [HS0]; · iexact HS0
    isplitl [HS1]; · iexact HS1
    isplitl [HS2]; · iexact HS2
    iexact HS3
  · iapply ((runD c i arg2 harg2 arg3 harg3 arg4 harg4 arg5 harg5 arg6 harg6 arg7 harg7 arg8 harg8 arg9 harg9 arg10 harg10 x0 x1 x2 x3 hf hn h5 h6 fs0 fs1 fs2 fs3).2 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, ⟨%f4, H4⟩, HS0, HS1, HS2, HS3⟩
    iapply Hk
    isplitl [H0]; · iexact H0
    isplitl [H1]; · iexact H1
    isplitl [H2]; · iexact H2
    isplitl [H3]; · iexact H3
    isplitl [H4]
    · iexists _; isplitr; swap
      · iapply (ownedAt c arg6 _)
        iexact H4
      ipureintro; exact hD hf hn h5 h6 fs0 fs1 fs2 fs3 f4
    isplitl [HS0]; · iexact HS0
    isplitl [HS1]; · iexact HS1
    isplitl [HS2]; · iexact HS2
    iexact HS3

end Cert.AttnBIdeal.Hand

end
-- ==== Proof.AttnB.Frame.lean ====
module

public import proofs.«01_k».proof.Proof.AttnB.Any
public import Idealize.ShloMosaic.Lib.Claim

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 3200000 in
/-- The body at any point: its parity and the float comparison say which of the four runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hpar : (¬k0_cond2 (grid0.coords t) = 1#1 ∧ k0_cond3 (grid0.coords t) = 1#1 ∧ ¬k0_cond5 (grid0.coords t) = 1#1 ∧ k0_cond6 (grid0.coords t) = 1#1)
      ∨ (k0_cond2 (grid0.coords t) = 1#1 ∧ ¬k0_cond3 (grid0.coords t) = 1#1 ∧ k0_cond5 (grid0.coords t) = 1#1 ∧ ¬k0_cond6 (grid0.coords t) = 1#1) := by
    rw [odd_fixed, even_fixed, odd_online, even_online]; omega
  iintro ⟨⟨⟨HS0, HS1, HS2, HS3⟩, Hg⟩, Ho, ⟨%d0, H0⟩, ⟨%d1, H1⟩, ⟨%d2, H2⟩, ⟨%d3, H3⟩, ⟨%d4, H4⟩⟩
  iapply (runAny c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) hpar (fun _ => True)
    (fun _ _ _ _ _ _ _ _ _ => trivial) (fun _ _ _ _ _ _ _ _ _ => trivial) (fun _ _ _ _ _ _ _ _ _ => trivial) (fun _ _ _ _ _ _ _ _ _ => trivial) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%d, -, H4⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_AttnBIdeal`'s statement (Defs.lean) at any `F` — Proof.lean cites it at `Bits`:
    `theorem Cert.Proof.claim : Cert.Claim := ⟨Cert.AttnBIdeal.Gen.facts, fun m ρ _ => Cert.AttnBIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnBIdeal.Hand

end
-- ==== Proof.AttnB.Frames.lean ====
module

public import proofs.«01_k».proof.Proof.AttnB.Frame
public import proofs.«01_k».proof.Defs

@[expose] public section

noncomputable section

namespace Cert.AttnBIdeal.Hand

open Idealize.ShloMosaic Idealize.ShloMosaic.Tactic Idealize.SL.Sem

variable [hAttnB : Cert.AttnB.Facts]

/-- At the words a named constant is the word it names. -/
local instance wordNamed : Named Bits := ⟨fun _ _ {_} b => FloatOps.ofBits _ b⟩

/-- THE FRAME of the kernel at the words: the idealized program is the kernel where the mask is its word. -/
theorem quiescent : Cert.quiescent_AttnB := fun m g _ =>
  cast (by sl_kernel_rfl) (Cert.AttnBIdeal.Hand.frame (F := Bits) m g)

/-- The mask is the one constant the idealization names, at minus infinity. -/
theorem preserves : Cert.preserves_AttnB_AttnBIdeal := by
  exact IdealRules.named_const.statement _ _ _ _ _ rfl

end Cert.AttnBIdeal.Hand

end
-- ==== Proof.AttnB.Soft.lean ====
/- The causal softmax in base two, taken tile by tile with any real shift: rescaling, and independence of the shift. -/
module

public import Idealize.ShloMosaic.Lib.IdealHost
public import Idealize.ShloMosaic.Lib.Pointwise

@[expose] public section

noncomputable section

namespace Cert.AttnBIdeal.Hand

open Idealize.ShloMosaic

/-- The weight of a logit `s` under the shift `M`. -/
def weight (M s : EReal) : EReal := Ideal.exp2 (s - M)

/-- The weighted sum of the values `v` over the first `n` tiles of logits `s`, under the shift `M`. -/
def tot (n : ℕ) (M : EReal) (s v : ℕ → Fin 512 → EReal) : EReal :=
  ∑ j ∈ Finset.range n, ∑ k, v j k * weight M (s j k)

theorem tot_succ (n : ℕ) (M : EReal) (s v : ℕ → Fin 512 → EReal) :
    tot (n + 1) M s v = tot n M s v + ∑ k, v n k * weight M (s n k) := Finset.sum_range_succ _ _

theorem tot_zero (M : EReal) (s v : ℕ → Fin 512 → EReal) : tot 0 M s v = 0 := rfl

/-- A nonnegative real times a sum is the sum of the products. -/
theorem real_mul_sum {ι : Type} [DecidableEq ι] (t : Finset ι) (a : ι → EReal) (r : ℝ) (hr : 0 ≤ r) :
    (r : EReal) * ∑ j ∈ t, a j = ∑ j ∈ t, (r : EReal) * a j := by
  refine Finset.induction_on t (by simp) fun j t hj ih => ?_
  rw [Finset.sum_insert hj, Finset.sum_insert hj, ← ih]
  exact EReal.left_distrib_of_nonneg_of_ne_top (EReal.coe_nonneg.2 hr) (EReal.coe_ne_top r) _ _

/-- The sum of reals, taken among the extended reals. -/
theorem coe_sum {ι : Type} [DecidableEq ι] (t : Finset ι) (f : ι → ℝ) : ((∑ j ∈ t, f j : ℝ) : EReal) = ∑ j ∈ t, (f j : EReal) := by
  refine Finset.induction_on t (by simp) fun j t hj ih => ?_
  rw [Finset.sum_insert hj, Finset.sum_insert hj, EReal.coe_add, ih]

theorem real_of (x : EReal) (ht : x ≠ ⊤) (hb : x ≠ ⊥) : ∃ r : ℝ, x = r := ⟨_, (EReal.coe_toReal ht hb).symm⟩

/-- A logit that is real or masked has a real weight, positive where it is not masked. -/
theorem weight_real (M : ℝ) (s : EReal) (hs : s ≠ ⊤) : ∃ w : ℝ, 0 ≤ w ∧ (s ≠ ⊥ → 0 < w) ∧ weight M s = w := by
  unfold weight
  by_cases hb : s = ⊥
  · exact ⟨0, le_rfl, fun h => (h hb).elim, by rw [hb, EReal.bot_sub, Ideal.exp2_bot]; rfl⟩
  · obtain ⟨r, rfl⟩ := real_of s hs hb
    exact ⟨Real.rpow 2 (r - M), (Real.rpow_pos_of_pos two_pos _).le, fun _ => Real.rpow_pos_of_pos two_pos _,
      by rw [← EReal.coe_sub, Ideal.exp2_coe]⟩

/-- Changing the shift multiplies every weight by the same positive real. -/
theorem weight_shift (M N : ℝ) (s : EReal) (hs : s ≠ ⊤) :
    Ideal.exp2 ((M : EReal) - N) * weight M s = weight N s := by
  unfold weight
  by_cases hb : s = ⊥
  · rw [hb, EReal.bot_sub, EReal.bot_sub, Ideal.exp2_bot, mul_zero]
  · obtain ⟨r, rfl⟩ := real_of s hs hb
    rw [← EReal.coe_sub, ← EReal.coe_sub, ← EReal.coe_sub, Ideal.exp2_coe, Ideal.exp2_coe, Ideal.exp2_coe, ← EReal.coe_mul]
    congr 1
    show (2 : ℝ) ^ (M - N) * (2 : ℝ) ^ (r - M) = (2 : ℝ) ^ (r - N)
    rw [← Real.rpow_add two_pos]
    congr 1; ring

theorem tot_shift (n : ℕ) (M N : ℝ) (s v : ℕ → Fin 512 → EReal) (hs : ∀ j < n, ∀ k, s j k ≠ ⊤) :
    Ideal.exp2 ((M : EReal) - N) * tot n M s v = tot n N s v := by
  have hc : Ideal.exp2 ((M : EReal) - N) = ((Real.rpow 2 (M - N) : ℝ) : EReal) := by rw [← EReal.coe_sub, Ideal.exp2_coe]
  have h0 : (0 : ℝ) ≤ Real.rpow 2 (M - N) := (Real.rpow_pos_of_pos two_pos _).le
  unfold tot
  rw [hc, real_mul_sum _ _ _ h0]
  refine Finset.sum_congr rfl fun j hj => ?_
  rw [real_mul_sum _ _ _ h0]
  refine Finset.sum_congr rfl fun k _ => ?_
  rw [mul_left_comm, ← hc, weight_shift _ _ _ (hs j (Finset.mem_range.1 hj) k)]

/-- The weights of the first tiles have a real sum, positive once one logit is not masked. -/
theorem total_real (n : ℕ) (M : ℝ) (s : ℕ → Fin 512 → EReal) (hs : ∀ j < n, ∀ k, s j k ≠ ⊤) (h0 : 0 < n) (hb : s 0 0 ≠ ⊥) :
    ∃ Z : ℝ, 0 < Z ∧ tot n M s (fun _ _ => 1) = Z := by
  have hw : ∀ j k, ∃ w : ℝ, j < n → 0 ≤ w ∧ (s j k ≠ ⊥ → 0 < w) ∧ weight M (s j k) = w := fun j k => by
    by_cases hj : j < n
    · obtain ⟨w, h⟩ := weight_real M (s j k) (hs j hj k)
      exact ⟨w, fun _ => h⟩
    · exact ⟨0, fun h => (hj h).elim⟩
  choose w hw using hw
  refine ⟨∑ j ∈ Finset.range n, ∑ k, w j k, ?_, ?_⟩
  · refine Finset.sum_pos' (fun j hj => Finset.sum_nonneg fun k _ => (hw j k (Finset.mem_range.1 hj)).1) ⟨0, Finset.mem_range.2 h0, ?_⟩
    exact Finset.sum_pos' (fun k _ => (hw 0 k h0).1) ⟨0, Finset.mem_univ _, (hw 0 0 h0).2.1 hb⟩
  · unfold tot
    rw [coe_sum]
    refine Finset.sum_congr rfl fun j hj => ?_
    rw [coe_sum]
    exact Finset.sum_congr rfl fun k _ => by rw [(hw j k (Finset.mem_range.1 hj)).2.2, one_mul]

/-- The normalised sum, of whatever real shift. -/
theorem ratio_shift (n : ℕ) (M N : ℝ) (s v : ℕ → Fin 512 → EReal) (hs : ∀ j < n, ∀ k, s j k ≠ ⊤) (h0 : 0 < n) (hb : s 0 0 ≠ ⊥) :
    Ideal.div (tot n M s v) (tot n M s (fun _ _ => 1)) = Ideal.div (tot n N s v) (tot n N s (fun _ _ => 1)) := by
  obtain ⟨Z, hZ, hZe⟩ := total_real n M s hs h0 hb
  have h1 := tot_shift n M N s v hs
  have h2 := tot_shift n M N s (fun _ _ => 1) hs
  have hc : Ideal.exp2 ((M : EReal) - N) = ((Real.rpow 2 (M - N) : ℝ) : EReal) := by rw [← EReal.coe_sub, Ideal.exp2_coe]
  have hp : (0 : ℝ) < Real.rpow 2 (M - N) := Real.rpow_pos_of_pos two_pos _
  generalize Real.rpow 2 (M - N) = c at hc hp
  rw [← h1, ← h2, hZe, hc, ← EReal.coe_mul, Ideal.div_coe hZ.ne', Ideal.div_coe (mul_pos hp hZ).ne', mul_comm (c : EReal), mul_assoc, ← EReal.coe_mul]
  congr 2
  field_simp

end Cert.AttnBIdeal.Hand

end
-- ==== Proof.AttnB.Steps.lean ====
/- One tile's steps on whole vectors, with a fixed shift and with the running maximum, and what they are element by element. -/
module

public import proofs.«01_k».proof.Proof.AttnB.Runs
public import proofs.«01_k».proof.Proof.AttnB.Soft
public import Idealize.ShloMosaic.Lib.Pipeline.ValueKit
public import Idealize.ShloMosaic.Lib.Pointwise

@[expose] public section

set_option maxRecDepth 16384

noncomputable section

namespace Cert.AttnBIdeal.Hand

open Cert.AttnBIdeal.Gen Idealize.ShloMosaic Idealize.ShloMosaic.TcCoe Idealize.SL.Sem

section Generic

variable {F : FTy → Type} [FloatOps F] [Named F]

/-- A head's tile of logits as a matrix. -/
def flat (s : Vec F S1x512x512 .f32) : FVec F S512x512 .f32 := shapeCast S512x512 s shapeCasts_S1x512x512_S512x512

/-- The tile on the diagonal, its later keys masked. -/
def masked (arg1 v25 : BitVec 32) (x : FVec F S512x512 .f32) : FVec F S512x512 .f32 :=
  select (cmpi .sle (addi (broadcast S512x512 (Scalar.muli v25 512#32)) (iota .tc S512x512 32 [0] iota_S512x512_d0_w32))
    (addi (broadcast S512x512 (Scalar.muli arg1 512#32)) (iota .tc S512x512 32 [1] iota_S512x512_d1_w32))) x
    (broadcast S512x512 (Named.named κ "mask" 0xF149F2CA#32 : F .f32))

/-- A head's accumulator after a tile, the shift fixed. -/
def fixStep (sh : FVec F S1x512 .f32) (x : FVec F S512x512 .f32) (v : Vec F S1x1x144x512 .bf16) (a : Vec F S1x144x512 .f32) :
    FVec F S1x144x512 .f32 :=
  shapeCast S1x144x512 (addf (shapeCast S144x512 a shapeCasts_S1x144x512_S144x512)
    (matmul dot_S144x512_S512x512_S144x512_1_0_0_1_n_n none (shapeCast S144x512 v shapeCasts_S1x1x144x512_S144x512)
      (truncf .bf16 (exp2 (subf x (broadcastTo S512x512 sh broadcasts_S1x512_S512x512))) bitsLt_bf16_f32)
      (constant S144x512 .f32 0x00000000#32))) shapeCasts_S144x512_S1x144x512

/-- The running maximum after a tile. -/
def topStep (x : FVec F S512x512 .f32) (m : Vec F S1x1x512 .f32) : FVec F S1x512 .f32 :=
  k0_pay4 (shapeCast S1x512 m shapeCasts_S1x1x512_S1x512) (extractStridedSlice S16x8x512 ![0, 0, 0] (maximumf (extractStridedSlice S32x8x512 ![0, 0, 0] (shapeCast S64x8x512 x shapeCasts_S512x512_S64x8x512) slices_S64x8x512_o0_0_0_S32x8x512)
    (extractStridedSlice S32x8x512 ![32, 0, 0] (shapeCast S64x8x512 x shapeCasts_S512x512_S64x8x512) slices_S64x8x512_o32_0_0_S32x8x512)) slices_S32x8x512_o0_0_0_S16x8x512)
    (extractStridedSlice S16x8x512 ![16, 0, 0] (maximumf (extractStridedSlice S32x8x512 ![0, 0, 0] (shapeCast S64x8x512 x shapeCasts_S512x512_S64x8x512) slices_S64x8x512_o0_0_0_S32x8x512)
    (extractStridedSlice S32x8x512 ![32, 0, 0] (shapeCast S64x8x512 x shapeCasts_S512x512_S64x8x512) slices_S64x8x512_o32_0_0_S32x8x512)) slices_S32x8x512_o16_0_0_S16x8x512)

/-- The running maximum as it is stored. -/
def maxStep (x : FVec F S512x512 .f32) (m : Vec F S1x1x512 .f32) : FVec F S1x1x512 .f32 :=
  shapeCast S1x1x512 (topStep x m) shapeCasts_S1x512_S1x1x512

/-- A head's accumulator after a tile, rescaled to the new maximum. -/
def accStep (x : FVec F S512x512 .f32) (m : Vec F S1x1x512 .f32) (v : Vec F S1x1x144x512 .bf16) (a : Vec F S1x144x512 .f32) :
    FVec F S1x144x512 .f32 :=
  shapeCast S1x144x512 (addf (mulf (broadcastTo S144x512
        (exp2 (subf (shapeCast S1x512 m shapeCasts_S1x1x512_S1x512) (topStep x m))) broadcasts_S1x512_S144x512)
      (shapeCast S144x512 a shapeCasts_S1x144x512_S144x512))
    (matmul dot_S144x512_S512x512_S144x512_1_0_0_1_n_n none (shapeCast S144x512 v shapeCasts_S1x1x144x512_S144x512)
      (truncf .bf16 (exp2 (subf x (broadcastTo S512x512 (topStep x m) broadcasts_S1x512_S512x512))) bitsLt_bf16_f32)
      (constant S144x512 .f32 0x00000000#32))) shapeCasts_S144x512_S1x144x512

end Generic

theorem dot_apply (a b : Vec Ideal S512x256 .bf16) (k c : Fin 512) :
    k0_pay9 (F := Ideal) a b (ix3 0 k c) = ∑ d : Fin 256, (a (ix2 k d) * b (ix2 c d) : EReal) := by
  pointwise! [k0_pay9]

theorem flat_apply (s : Vec Ideal S1x512x512 .f32) (k c : Fin 512) : flat (F := Ideal) s (ix2 k c) = s (ix3 0 k c) := by
  pointwise! [flat]

theorem fixStep_apply (sh : FVec Ideal S1x512 .f32) (x : FVec Ideal S512x512 .f32) (v : Vec Ideal S1x1x144x512 .bf16)
    (a : Vec Ideal S1x144x512 .f32) (r : Fin 144) (c : Fin 512) :
    fixStep (F := Ideal) sh x v a (ix3 0 r c)
      = (a (ix3 0 r c) : EReal) + ∑ k : Fin 512, (v (ix4 0 0 r k) : EReal) * weight (sh (ix2 0 c)) (x (ix2 k c)) := by
  unfold weight
  pointwise! [fixStep]

theorem accStep_apply (x : FVec Ideal S512x512 .f32) (m : Vec Ideal S1x1x512 .f32) (v : Vec Ideal S1x1x144x512 .bf16)
    (a : Vec Ideal S1x144x512 .f32) (r : Fin 144) (c : Fin 512) :
    accStep (F := Ideal) x m v a (ix3 0 r c)
      = Ideal.exp2 ((m (ix3 0 0 c) : EReal) - topStep (F := Ideal) x m (ix2 0 c)) * (a (ix3 0 r c) : EReal)
        + ∑ k : Fin 512, (v (ix4 0 0 r k) : EReal) * weight (topStep (F := Ideal) x m (ix2 0 c)) (x (ix2 k c)) := by
  unfold weight accStep
  generalize topStep (F := Ideal) x m = t
  pointwise!

theorem maxStep_apply (x : FVec Ideal S512x512 .f32) (m : Vec Ideal S1x1x512 .f32) (c : Fin 512) :
    maxStep (F := Ideal) x m (ix3 0 0 c) = topStep (F := Ideal) x m (ix2 0 c) := by
  unfold maxStep
  generalize topStep (F := Ideal) x m = t
  pointwise!

theorem out_apply (a : Vec Ideal S1x144x512 .f32) (c : Fin 512) (r : Fin 128) :
    k0_pay7 (F := Ideal) a (ix2 c r) = Ideal.div (a (ix3 0 ⟨r.val, by omega⟩ c)) (a (ix3 0 128 c)) := by
  pointwise! [k0_pay7]

theorem out_apply' (a : Vec Ideal S1x144x512 .f32) (c : Fin 512) (r : Fin 128) :
    k0_pay8 (F := Ideal) a (ix2 c r) = Ideal.div (a (ix3 0 ⟨r.val, by omega⟩ c)) (a (ix3 0 128 c)) := by
  pointwise! [k0_pay8]

/-- The running maximum stays below plus infinity. -/
theorem topStep_ne_top (x : FVec Ideal S512x512 .f32) (m : Vec Ideal S1x1x512 .f32) (c : Fin 512) (hm : (m (ix3 0 0 c) : EReal) ≠ ⊤)
    (hx : ∀ k, (x (ix2 k c) : EReal) ≠ ⊤) : (topStep (F := Ideal) x m (ix2 0 c) : EReal) ≠ ⊤ := by
  have h : (topStep (F := Ideal) x m (ix2 0 c) : EReal) < ⊤ := by
    pointwise! [topStep, k0_pay4]
    refine max_lt (lt_top_iff_ne_top.2 hm) ?_
    rw [Finset.fold_max_lt]
    refine ⟨by simp [Ideal.ofBits, Ideal.ieee], fun k _ => ?_⟩
    repeat' (first | exact lt_top_iff_ne_top.2 (hx _) | refine max_lt ?_ ?_)
  exact h.ne

/-- The running maximum is at least the tile's first logit. -/
theorem le_topStep (x : FVec Ideal S512x512 .f32) (m : Vec Ideal S1x1x512 .f32) (c : Fin 512) :
    (x (ix2 0 c) : EReal) ≤ topStep (F := Ideal) x m (ix2 0 c) := by
  pointwise! [topStep, k0_pay4]
  refine le_max_of_le_right ?_
  rw [Finset.le_fold_max]
  refine Or.inr ⟨0, Finset.mem_univ _, ?_⟩
  repeat (first | exact le_rfl | refine le_max_of_le_left ?_)

/-- The tile index as the program computes it from the grid point. -/
def sel (i : grid0.Coords) : BitVec 32 :=
  Scalar.select (Scalar.andi (Scalar.cmpi .ne (Scalar.subi (Scalar.extui (Scalar.cmpi .sgt (Scalar.muli (BitVec.ofNat 32 (i 1).val) 512#32) 0#32))
      (Scalar.extui (Scalar.cmpi .slt (Scalar.muli (BitVec.ofNat 32 (i 1).val) 512#32) 0#32))) 1#32)
    (Scalar.cmpi .ne (Scalar.remsi (Scalar.muli (BitVec.ofNat 32 (i 1).val) 512#32) 512#32) 0#32))
    (Scalar.subi (Scalar.divsi (Scalar.muli (BitVec.ofNat 32 (i 1).val) 512#32) 512#32) 1#32)
    (Scalar.divsi (Scalar.muli (BitVec.ofNat 32 (i 1).val) 512#32) 512#32)

theorem sel_eq : ∀ i : grid0.Coords, sel i = BitVec.ofNat 32 (i 1).val := by decide +kernel

/-- The diagonal tile's keys are masked when they come after the query. -/
theorem masked_apply (i : grid0.Coords) (x : FVec Ideal S512x512 .f32) (k c : Fin 512) :
    (masked (F := Ideal) (BitVec.ofNat 32 (i 1).val) (sel i) x (ix2 k c) : EReal) = if k.val ≤ c.val then (x (ix2 k c) : EReal) else ⊥ := by
  rw [sel_eq]
  have hi : (i 1).val < 16 := (i 1).isLt
  generalize (i 1).val = n at hi
  have hm : (Named.named κ "mask" 0xF149F2CA#32 : Ideal .f32) = (⊥ : EReal) := rfl
  have ht : ∀ u : Fin 512, (IntOp.addi (Scalar.muli (BitVec.ofNat 32 n) 512#32) (BitVec.ofNat 32 u.val)).toInt = (512 * n + u.val : ℕ) := fun u => by
    have hu := u.isLt
    have hn : (IntOp.addi (Scalar.muli (BitVec.ofNat 32 n) 512#32) (BitVec.ofNat 32 u.val)).toNat = 512 * n + u.val := by
      show ((BitVec.ofNat 32 n * 512#32) + BitVec.ofNat 32 u.val).toNat = _
      simp only [BitVec.toNat_add, BitVec.toNat_mul, BitVec.toNat_ofNat]
      omega
    rw [BitVec.toInt_eq_toNat_of_lt (by rw [hn]; omega), hn]
  have hc : IntOp.cmpi CmpIPredicate.sle (IntOp.addi (Scalar.muli (BitVec.ofNat 32 n) 512#32) (BitVec.ofNat 32 k.val))
      (IntOp.addi (Scalar.muli (BitVec.ofNat 32 n) 512#32) (BitVec.ofNat 32 c.val)) = BitVec.ofBool (decide (k.val ≤ c.val)) := by
    show BitVec.ofBool (BitVec.sle _ _) = _
    rw [BitVec.sle_eq_decide, ht, ht]
    congr 1
    simp
  pointwise! [masked]
  rw [hc, hm]
  by_cases h : k.val ≤ c.val
  · simp [h, Scalar.select]
  · simp [h, Scalar.select]

/-- A head's shift at a query: the bound on its logits. -/
def shift (q : Fin 256 → EReal) (n : EReal) : EReal :=
  Ideal.sqrt ((∑ d, q d * q d) * n) * Ideal.ofBits .f32 0x3F828F5C#32

theorem shift0_apply (q : Vec Ideal S512x256 .bf16) (n : Vec Ideal S1x1 .f32) (c : Fin 512) :
    (k0_pay168 (F := Ideal) q n (ix2 0 c) : EReal) = shift (fun d => q (ix2 c d)) (n (ix2 0 0)) := by
  unfold shift
  pointwise! [k0_pay168]

theorem shift1_apply (q : Vec Ideal S512x256 .bf16) (n : Vec Ideal S1x1 .f32) (c : Fin 512) :
    (k0_pay1 (F := Ideal) n (k0_pay169 q) (ix2 0 c) : EReal) = shift (fun d => q (ix2 c d)) (n (ix2 0 0)) := by
  unfold shift
  pointwise! [k0_pay1, k0_pay169]

/-- A shift below plus infinity is real. -/
theorem shift_real (q : Fin 256 → EReal) (n : EReal) (hq : ∀ d, ∃ f : ℝ, q d = f) (hn : 0 ≤ n) (h : shift q n ≠ ⊤) :
    ∃ M : ℝ, shift q n = M := by
  refine real_of _ h (fun hb => ?_)
  choose f hf using hq
  have h0 : (0 : EReal) ≤ (∑ d, q d * q d) * n := mul_nonneg (Finset.sum_nonneg fun d _ => by
    rw [hf, ← EReal.coe_mul]; exact EReal.coe_nonneg.2 (mul_self_nonneg _)) hn
  have h1 : ∀ x : EReal, 0 ≤ x → 0 ≤ Ideal.sqrt x := fun x hx => by
    induction x with
    | bot => simp at hx
    | top => exact le_top
    | coe r =>
      have hr : ¬ r < 0 := not_lt.2 (EReal.coe_nonneg.1 hx)
      show (0 : EReal) ≤ if r < 0 then ⊥ else ((√r : ℝ) : EReal)
      rw [if_neg hr]
      exact EReal.coe_nonneg.2 (Real.sqrt_nonneg r)
  have h2 : (0 : EReal) ≤ Ideal.ofBits .f32 0x3F828F5C#32 := by
    simp [Ideal.ofBits, Ideal.ieee, -EReal.coe_mul]
  have := mul_nonneg (h1 _ h0) h2
  unfold shift at hb
  rw [hb] at this
  simp at this

/-- Where the span of the shifts is small, no shift is plus infinity. -/
theorem span_lt (s : FVec Ideal S1x512 .f32) (n : Vec Ideal S1x1 .f32) (t : FVec Ideal S1x512 .f32)
    (h : Scalar.cmpf .ole (k0_pay2 (F := Ideal) s n t) (Scalar.ofBits .f32 0x42C80000#32) = 1#1) (c : Fin 512) :
    (s (ix2 0 c) : EReal) ≠ ⊤ ∧ (k0_pay1 (F := Ideal) n t (ix2 0 c) : EReal) ≠ ⊤ := by
  revert h
  unfold k0_pay2
  generalize k0_pay1 (F := Ideal) n t = u
  have h2 : Ideal.ofBits .f32 0x40000000#32 = ((2 : ℝ) : EReal) := by
    simp [Ideal.ofBits, Ideal.ieee, -EReal.coe_mul]; norm_num
  have h100 : Ideal.ofBits .f32 0x42C80000#32 < ⊤ := by
    simp [Ideal.ofBits, Ideal.ieee, -EReal.coe_mul]
  pointwise!
  intro h
  have hle := (Finset.fold_op_rel_iff_and (op := max) (r := fun x y : EReal => y ≤ x) (fun {x y z} => max_le_iff)).1
    (show _ ≤ _ by by_contra hc; rw [decide_eq_false hc] at h; exact absurd h (by decide))
  have hc := hle.2 (0, c) (Finset.mem_univ _)
  have hlt : max (s (ix2 0 c) : EReal) (u (ix2 0 c)) ≠ ⊤ := fun e => by
    rw [e, h2, EReal.coe_mul_top_of_pos (by norm_num)] at hc
    exact absurd (lt_of_le_of_lt hc h100) (lt_irrefl _)
  have := max_lt_iff.1 (lt_top_iff_ne_top.2 hlt)
  exact ⟨this.1.ne, this.2.ne⟩

end Cert.AttnBIdeal.Hand

end
-- ==== Proof.AttnB.Heads.lean ====
/- What a load or a store of one head's half of a scratch buffer reads, element by element, and what the loads of the tiles of keys, queries and values read. -/
module

public import proofs.«01_k».proof.Proof.AttnB.Steps
public import Idealize.ShloMosaic.Lib.WritesUnit

@[expose] public section

set_option maxRecDepth 16384

noncomputable section

namespace Cert.AttnBIdeal.Hand

open Cert.AttnBIdeal.Gen Idealize.ShloMosaic Idealize.ShloMosaic.TcCoe Idealize.SL.Sem

section Halves

variable {Val : EltTy → Type} {κ : Kind} {sp : Space} {e : EltTy} {n : ℕ}

/-- A load of head `h`'s half. -/
theorem rd (v : View sig κ sp ⟨3, ![2, n, 512]⟩ e) (f : v.ty.Contents Val) {o : ℕ} (inb : ∀ a, (![o, 0, 0] : Fin 3 → ℕ) a + (![1, n, 512] : Fin 3 → ℕ) a ≤ (⟨3, ![2, n, 512]⟩ : Shape).size a)
    (h : Fin 2) (ho : h.val = o) (a : Fin n) (b : Fin 512) :
    (v.readAt Val (Rect.unit (s := ⟨3, ![2, n, 512]⟩) ![o, 0, 0] ![1, n, 512] inb).toLoadRect f : (⟨3, ![1, n, 512]⟩ : Shape).Idx → Val e) (ix3 0 a b)
      = v.read Val f (ix3 h a b) := by
  rw [View.readAt_apply]
  congr 1
  funext x
  apply Fin.ext
  fin_cases x
  · show o + 1 * 0 = _
    simpa using ho.symm
  · show 0 + 1 * a.val = a.val
    omega
  · show 0 + 1 * b.val = b.val
    omega

/-- A covered load of head `h`'s half. -/
theorem rdc [∀ e, Nonempty (Val e)] (v : View sig κ sp ⟨3, ![2, n, 512]⟩ e) (L : List (View.Piece Val ⟨3, ![2, n, 512]⟩ e)) {o : ℕ} (inb : ∀ a, (![o, 0, 0] : Fin 3 → ℕ) a + (![1, n, 512] : Fin 3 → ℕ) a ≤ (⟨3, ![2, n, 512]⟩ : Shape).size a)
    (h : Fin 2) (ho : h.val = o) (a : Fin n) (b : Fin 512) :
    (v.readCov L (Rect.unit (s := ⟨3, ![2, n, 512]⟩) ![o, 0, 0] ![1, n, 512] inb).toLoadRect : (⟨3, ![1, n, 512]⟩ : Shape).Idx → Val e) (ix3 0 a b)
      = v.read Val (v.writes Val v.junk L) (ix3 h a b) := rd v _ inb h ho a b

/-- A store of the same head's half. -/
theorem wrs (v : View sig κ sp ⟨3, ![2, n, 512]⟩ e) (f : v.ty.Contents Val) {o : ℕ} (inb : ∀ a, (![o, 0, 0] : Fin 3 → ℕ) a + (![1, n, 512] : Fin 3 → ℕ) a ≤ (⟨3, ![2, n, 512]⟩ : Shape).size a)
    (w : (⟨3, ![1, n, 512]⟩ : Shape).Idx → Val e) (L : List (View.Piece Val ⟨3, ![2, n, 512]⟩ e)) (h : Fin 2) (ho : h.val = o) (a : Fin n) (b : Fin 512) :
    v.read Val (v.writes Val f (⟨Rect.unit (s := ⟨3, ![2, n, 512]⟩) ![o, 0, 0] ![1, n, 512] inb, w⟩ :: L)) (ix3 h a b) = w (ix3 0 a b) := by
  refine View.read_writes_cons_unit_of_mem v f inb w L (ix3 h a b) (ix3 0 a b) rfl (fun x => ?_)
  fin_cases x
  · show h.val = o + 0
    omega
  · show a.val = 0 + a.val
    omega
  · show b.val = 0 + b.val
    omega

/-- A store of the other head's half. -/
theorem wro (v : View sig κ sp ⟨3, ![2, n, 512]⟩ e) (f : v.ty.Contents Val) {o : ℕ} (inb : ∀ a, (![o, 0, 0] : Fin 3 → ℕ) a + (![1, n, 512] : Fin 3 → ℕ) a ≤ (⟨3, ![2, n, 512]⟩ : Shape).size a)
    (w : (⟨3, ![1, n, 512]⟩ : Shape).Idx → Val e) (L : List (View.Piece Val ⟨3, ![2, n, 512]⟩ e)) (h : Fin 2) (ho : h.val ≠ o) (a : Fin n) (b : Fin 512) :
    v.read Val (v.writes Val f (⟨Rect.unit (s := ⟨3, ![2, n, 512]⟩) ![o, 0, 0] ![1, n, 512] inb, w⟩ :: L)) (ix3 h a b)
      = v.read Val (v.writes Val f L) (ix3 h a b) := by
  refine View.read_writes_cons_unit_of_not_mem v f inb w L (ix3 h a b) rfl (0 : Fin 3) ?_
  show h.val < o ∨ o + 1 ≤ h.val
  omega

/-- A store of the whole buffer. -/
theorem wrw (v : View sig κ sp ⟨3, ![2, n, 512]⟩ e) (f : v.ty.Contents Val) (inb : ∀ a, (![0, 0, 0] : Fin 3 → ℕ) a + (![2, n, 512] : Fin 3 → ℕ) a ≤ (⟨3, ![2, n, 512]⟩ : Shape).size a)
    (w : (⟨3, ![2, n, 512]⟩ : Shape).Idx → Val e) (L : List (View.Piece Val ⟨3, ![2, n, 512]⟩ e)) (h : Fin 2) (a : Fin n) (b : Fin 512) :
    v.read Val (v.writes Val f (⟨Rect.unit (s := ⟨3, ![2, n, 512]⟩) ![0, 0, 0] ![2, n, 512] inb, w⟩ :: L)) (ix3 h a b) = w (ix3 h a b) := by
  refine View.read_writes_cons_unit_of_mem v f inb w L (ix3 h a b) (ix3 h a b) rfl (fun x => ?_)
  fin_cases x
  · show h.val = 0 + h.val
    omega
  · show a.val = 0 + a.val
    omega
  · show b.val = 0 + b.val
    omega

end Halves

section Tiles

variable {Val : EltTy → Type} {κ : Kind} {sp : Space} {e : EltTy}

/-- Key `k` of tile `j`. -/
def key (j : ℕ) (k : Fin 512) : Fin 8192 := ⟨(512 * j + k.val) % 8192, by omega⟩

/-- Column `d` of head `h`. -/
def col (h : Fin 2) (d : Fin 256) : Fin 512 := ⟨256 * h.val + d.val, by omega⟩

/-- Tile `j` of the values. -/
def tile (j : ℕ) : Fin 16 := ⟨j % 16, by omega⟩

theorem rdk (v : View sig κ sp S8192x512 e) (f : v.ty.Contents Val) {off : Fin 2 → ℕ} (inb : ∀ a, off a + S512x256.size a ≤ S8192x512.size a)
    (h : Fin 2) (j : ℕ) (hj : j < 16) (ho : off = ![512 * j, 256 * h.val]) (k : Fin 512) (d : Fin 256) :
    (v.readAt Val (Rect.unit (s := S8192x512) off S512x256.size inb).toLoadRect f : S512x256.Idx → Val e) (ix2 k d)
      = v.read Val f (ix2 (key j k) (col h d)) := by
  subst ho
  rw [View.readAt_apply]
  congr 1
  funext x
  apply Fin.ext
  have := k.isLt
  fin_cases x
  · show 512 * j + 1 * k.val = (512 * j + k.val) % 8192
    omega
  · show 256 * h.val + 1 * d.val = 256 * h.val + d.val
    omega

theorem rdq (v : View sig κ sp S512x512 e) (f : v.ty.Contents Val) {o : ℕ} (inb : ∀ a, (![0, o] : Fin 2 → ℕ) a + S512x256.size a ≤ S512x512.size a)
    (h : Fin 2) (ho : o = 256 * h.val) (c : Fin 512) (d : Fin 256) :
    (v.readAt Val (Rect.unit (s := S512x512) ![0, o] S512x256.size inb).toLoadRect f : S512x256.Idx → Val e) (ix2 c d)
      = v.read Val f (ix2 c (col h d)) := by
  subst ho
  rw [View.readAt_apply]
  congr 1
  funext x
  apply Fin.ext
  fin_cases x
  · show 0 + 1 * c.val = c.val
    omega
  · show 256 * h.val + 1 * d.val = 256 * h.val + d.val
    omega

theorem rdv (v : View sig κ sp S2x16x144x512 e) (f : v.ty.Contents Val) {off : Fin 4 → ℕ} (inb : ∀ a, off a + S1x1x144x512.size a ≤ S2x16x144x512.size a)
    (h : Fin 2) (j : ℕ) (hj : j < 16) (ho : off = ![h.val, j, 0, 0]) (r : Fin 144) (k : Fin 512) :
    (v.readAt Val (Rect.unit (s := S2x16x144x512) off S1x1x144x512.size inb).toLoadRect f : S1x1x144x512.Idx → Val e) (ix4 0 0 r k)
      = v.read Val f (ix4 h (tile j) r k) := by
  subst ho
  rw [View.readAt_apply]
  congr 1
  funext x
  apply Fin.ext
  fin_cases x
  · show h.val + 1 * 0 = h.val
    omega
  · show j + 1 * 0 = j % 16
    omega
  · show 0 + 1 * r.val = r.val
    omega
  · show 0 + 1 * k.val = k.val
    omega

end Tiles

theorem off2_eq : ∀ (i : grid0.Coords) (k : Fin (k0_t1_loop i).trips) (r : Fin 2), k0_off2 i k (BitVec.ofNat 32 (1 + r.val)) = ![512 * (2 * k.val + 1 + r.val), 0] := by decide +kernel
theorem off3_eq : ∀ (i : grid0.Coords) (k : Fin (k0_t1_loop i).trips) (r : Fin 2), k0_off3 i k (BitVec.ofNat 32 (1 + r.val)) = ![512 * (2 * k.val + 1 + r.val), 256] := by decide +kernel
theorem off4_eq : ∀ (i : grid0.Coords) (k : Fin (k0_t1_loop i).trips), k0_off4 i k = ![0, 2 * k.val, 0, 0] := by decide +kernel
theorem off5_eq : ∀ (i : grid0.Coords) (k : Fin (k0_t1_loop i).trips), k0_off5 i k = ![1, 2 * k.val, 0, 0] := by decide +kernel
theorem off6_eq : ∀ (i : grid0.Coords) (k : Fin (k0_t1_loop i).trips), k0_off6 i k = ![0, 2 * k.val + 1, 0, 0] := by decide +kernel
theorem off7_eq : ∀ (i : grid0.Coords) (k : Fin (k0_t1_loop i).trips), k0_off7 i k = ![1, 2 * k.val + 1, 0, 0] := by decide +kernel
theorem off22_eq : ∀ (i : grid0.Coords) (k : Fin (k0_t3_loop i).trips) (r : Fin 2), k0_off22 i k (BitVec.ofNat 32 (1 + r.val)) = ![512 * (2 * k.val + 1 + r.val), 0] := by decide +kernel
theorem off23_eq : ∀ (i : grid0.Coords) (k : Fin (k0_t3_loop i).trips) (r : Fin 2), k0_off23 i k (BitVec.ofNat 32 (1 + r.val)) = ![512 * (2 * k.val + 1 + r.val), 256] := by decide +kernel
theorem off24_eq : ∀ (i : grid0.Coords) (k : Fin (k0_t3_loop i).trips), k0_off24 i k = ![0, 2 * k.val, 0, 0] := by decide +kernel
theorem off25_eq : ∀ (i : grid0.Coords) (k : Fin (k0_t3_loop i).trips), k0_off25 i k = ![1, 2 * k.val, 0, 0] := by decide +kernel
theorem off26_eq : ∀ (i : grid0.Coords) (k : Fin (k0_t3_loop i).trips), k0_off26 i k = ![0, 2 * k.val + 1, 0, 0] := by decide +kernel
theorem off27_eq : ∀ (i : grid0.Coords) (k : Fin (k0_t3_loop i).trips), k0_off27 i k = ![1, 2 * k.val + 1, 0, 0] := by decide +kernel
theorem off16_eq : ∀ i : grid0.Coords, k0_cond2 i = 1#1 → k0_off16 i = ![0, (i 1).val - 1, 0, 0] := by decide +kernel
theorem off17_eq : ∀ i : grid0.Coords, k0_cond2 i = 1#1 → k0_off17 i = ![1, (i 1).val - 1, 0, 0] := by decide +kernel
theorem off36_eq : ∀ i : grid0.Coords, k0_cond5 i = 1#1 → k0_off36 i = ![0, (i 1).val - 1, 0, 0] := by decide +kernel
theorem off37_eq : ∀ i : grid0.Coords, k0_cond5 i = 1#1 → k0_off37 i = ![1, (i 1).val - 1, 0, 0] := by decide +kernel
theorem odd2 : ∀ i : grid0.Coords, k0_cond2 i = 1#1 → (i 1).val = 2 * ((i 1).val / 2) + 1 := by decide +kernel
theorem odd5 : ∀ i : grid0.Coords, k0_cond5 i = 1#1 → (i 1).val = 2 * ((i 1).val / 2) + 1 := by decide +kernel
theorem even3 : ∀ i : grid0.Coords, ¬k0_cond2 i = 1#1 → (i 1).val = 2 * ((i 1).val / 2) := by decide +kernel
theorem even6 : ∀ i : grid0.Coords, ¬k0_cond5 i = 1#1 → (i 1).val = 2 * ((i 1).val / 2) := by decide +kernel
theorem trips_eq : ∀ i : grid0.Coords, (k0_t1_loop i).trips = (i 1).val / 2 ∧ (k0_t2_loop i).trips = 0 ∧ (k0_t3_loop i).trips = (i 1).val / 2 ∧ (k0_t4_loop i).trips = 0 := by decide +kernel

end Cert.AttnBIdeal.Hand

end
-- ==== Proof.AttnB.TripFixed.lean ====
/- One trip of the loop over pairs of key tiles, the shift fixed: what it leaves in the scratch buffers, element by element. -/
module

public import proofs.«01_k».proof.Proof.AttnB.Heads

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The logit of query `c` and key `k` of tile `j`, before any mask. -/
def raw (x0 : Vec Ideal S512x512 .bf16) (x1 : Vec Ideal S8192x512 .bf16) (h : Fin 2) (c : Fin 512) (j : ℕ) (k : Fin 512) : EReal :=
  ∑ d : Fin 256, (x1 (ix2 (key j k) (col h d)) : EReal) * x0 (ix2 c (col h d))

/-- Row `r` of head `h`'s values at key `k` of tile `j`. -/
def vals (x2 : Vec Ideal S2x16x144x512 .bf16) (h : Fin 2) (r : Fin 144) (j : ℕ) (k : Fin 512) : EReal := x2 (ix4 h (tile j) r k)

/-- A product of a tile of keys with the queries is the tile of logits. -/
theorem tile_logits {x0 : Vec Ideal S512x512 .bf16} {x1 : Vec Ideal S8192x512 .bf16} {a b : Vec Ideal S512x256 .bf16} {h : Fin 2} {j : ℕ}
    (ha : ∀ k d, a (ix2 k d) = x1 (ix2 (key j k) (col h d))) (hb : ∀ c d, b (ix2 c d) = x0 (ix2 c (col h d))) (k c : Fin 512) :
    k0_pay9 (F := Ideal) a b (ix3 0 k c) = raw x0 x1 h c j k := by
  rw [dot_apply]
  unfold raw
  exact Finset.sum_congr rfl fun d _ => by rw [ha, hb]

/-- A step with the shift fixed, in terms of what the tiles hold. -/
theorem fixStep_of {x2 : Vec Ideal S2x16x144x512 .bf16} {sh : FVec Ideal S1x512 .f32} {x : FVec Ideal S512x512 .f32} {v : Vec Ideal S1x1x144x512 .bf16}
    {a : Vec Ideal S1x144x512 .f32} {h : Fin 2} {j : ℕ} {s : Fin 512 → Fin 512 → EReal} {t : Fin 144 → Fin 512 → EReal}
    (hx : ∀ k c, x (ix2 k c) = s c k) (hv : ∀ r k, v (ix4 0 0 r k) = x2 (ix4 h (tile j) r k)) (ha : ∀ r c, a (ix3 0 r c) = t r c)
    (r : Fin 144) (c : Fin 512) :
    fixStep (F := Ideal) sh x v a (ix3 0 r c) = (t r c + ∑ k : Fin 512, vals x2 h r j k * weight (sh (ix2 0 c)) (s c k) : EReal) := by
  rw [fixStep_apply, ha]
  congr 1
  exact Finset.sum_congr rfl fun k _ => by rw [hx, hv]; rfl

set_option maxHeartbeats 2000000 in
/-- The stores of a trip, the newest first. -/
theorem trip1_pieces (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole) (arg1 : BitVec 32) (v25 : BitVec 32) (v56 : FVec Ideal S1x512 .f32) (v72 : FVec Ideal S1x512 .f32) (X_arg2 : BufTy.Contents (Elt Ideal) arg2.view.ty) (X_arg3 : BufTy.Contents (Elt Ideal) arg3.view.ty) (X_arg4 : BufTy.Contents (Elt Ideal) arg4.view.ty) (k : Fin (k0_t1_loop i).trips) (f_arg7 : BufTy.Contents (Elt Ideal) arg7.view.ty) (f_arg8 : BufTy.Contents (Elt Ideal) arg8.view.ty) (f_arg10 : BufTy.Contents (Elt Ideal) arg10.view.ty) :
    ∃ (L7 L8 : List (View.Piece (Elt Ideal) S2x512x512 .f32)) (M1 M2 : List (View.Piece (Elt Ideal) S2x144x512 .f32)) (A0 A1 A2 A3 : FVec Ideal S1x144x512 .f32),
      L7 = ([⟨(Rect.unit (s := S2x512x512) ![1, 0, 0] S1x512x512.size inb_S2x512x512_S1x512x512_1_0_0), k0_pay9 (F := Ideal) (View.readAt (Elt Ideal) arg3.view (Rect.unit (s := S8192x512) (k0_off3 i k (BitVec.ofNat 32 (1 + (1 : Fin 2).val))) S512x256.size (k0_off3_inb i k 1)).toLoadRect X_arg3) (View.readAt (Elt Ideal) arg2.view (Rect.unit (s := S512x512) ![0, 256] S512x256.size inb_S512x512_S512x256_0_256).toLoadRect X_arg2)⟩, ⟨(Rect.unit (s := S2x512x512) ![0, 0, 0] S1x512x512.size inb_S2x512x512_S1x512x512_0_0_0), k0_pay9 (F := Ideal) (View.readAt (Elt Ideal) arg3.view (Rect.unit (s := S8192x512) (k0_off2 i k (BitVec.ofNat 32 (1 + (1 : Fin 2).val))) S512x256.size (k0_off2_inb i k 1)).toLoadRect X_arg3) (View.readAt (Elt Ideal) arg2.view (Rect.unit (s := S512x512) ![0, 0] S512x256.size inb_S512x512_S512x256_0_0).toLoadRect X_arg2)⟩] : List (View.Piece (Elt Ideal) S2x512x512 .f32)) ∧
      L8 = ([⟨(Rect.unit (s := S2x512x512) ![1, 0, 0] S1x512x512.size inb_S2x512x512_S1x512x512_1_0_0), k0_pay9 (F := Ideal) (View.readAt (Elt Ideal) arg3.view (Rect.unit (s := S8192x512) (k0_off3 i k (BitVec.ofNat 32 (1 + (0 : Fin 2).val))) S512x256.size (k0_off3_inb i k 0)).toLoadRect X_arg3) (View.readAt (Elt Ideal) arg2.view (Rect.unit (s := S512x512) ![0, 256] S512x256.size inb_S512x512_S512x256_0_256).toLoadRect X_arg2)⟩, ⟨(Rect.unit (s := S2x512x512) ![0, 0, 0] S1x512x512.size inb_S2x512x512_S1x512x512_0_0_0), k0_pay9 (F := Ideal) (View.readAt (Elt Ideal) arg3.view (Rect.unit (s := S8192x512) (k0_off2 i k (BitVec.ofNat 32 (1 + (0 : Fin 2).val))) S512x256.size (k0_off2_inb i k 0)).toLoadRect X_arg3) (View.readAt (Elt Ideal) arg2.view (Rect.unit (s := S512x512) ![0, 0] S512x256.size inb_S512x512_S512x256_0_0).toLoadRect X_arg2)⟩] : List (View.Piece (Elt Ideal) S2x512x512 .f32)) ∧
      A0 = fixStep (F := Ideal) v56 (flat (F := Ideal) (View.readAt (Elt Ideal) arg7.view (Rect.unit (s := S2x512x512) ![0, 0, 0] S1x512x512.size inb_S2x512x512_S1x512x512_0_0_0).toLoadRect f_arg7)) (View.readAt (Elt Ideal) arg4.view (Rect.unit (s := S2x16x144x512) (k0_off4 i k) S1x1x144x512.size (k0_off4_inb i k)).toLoadRect X_arg4) (View.readAt (Elt Ideal) arg10.view (Rect.unit (s := S2x144x512) ![0, 0, 0] S1x144x512.size inb_S2x144x512_S1x144x512_0_0_0).toLoadRect f_arg10) ∧
      A1 = fixStep (F := Ideal) v72 (flat (F := Ideal) (View.readAt (Elt Ideal) arg7.view (Rect.unit (s := S2x512x512) ![1, 0, 0] S1x512x512.size inb_S2x512x512_S1x512x512_1_0_0).toLoadRect f_arg7)) (View.readAt (Elt Ideal) arg4.view (Rect.unit (s := S2x16x144x512) (k0_off5 i k) S1x1x144x512.size (k0_off5_inb i k)).toLoadRect X_arg4) (View.readAt (Elt Ideal) arg10.view (Rect.unit (s := S2x144x512) ![1, 0, 0] S1x144x512.size inb_S2x144x512_S1x144x512_1_0_0).toLoadRect f_arg10) ∧
      M1 = ([⟨(Rect.unit (s := S2x144x512) ![1, 0, 0] S1x144x512.size inb_S2x144x512_S1x144x512_1_0_0), A1⟩, ⟨(Rect.unit (s := S2x144x512) ![0, 0, 0] S1x144x512.size inb_S2x144x512_S1x144x512_0_0_0), A0⟩] : List (View.Piece (Elt Ideal) S2x144x512 .f32)) ∧
      A2 = fixStep (F := Ideal) v56 (flat (F := Ideal) (arg8.view.readCov L8 (Rect.unit (s := S2x512x512) ![0, 0, 0] S1x512x512.size inb_S2x512x512_S1x512x512_0_0_0).toLoadRect)) (View.readAt (Elt Ideal) arg4.view (Rect.unit (s := S2x16x144x512) (k0_off6 i k) S1x1x144x512.size (k0_off6_inb i k)).toLoadRect X_arg4) (arg10.view.readCov M1 (Rect.unit (s := S2x144x512) ![0, 0, 0] S1x144x512.size inb_S2x144x512_S1x144x512_0_0_0).toLoadRect) ∧
      M2 = ([⟨(Rect.unit (s := S2x144x512) ![0, 0, 0] S1x144x512.size inb_S2x144x512_S1x144x512_0_0_0), A2⟩, ⟨(Rect.unit (s := S2x144x512) ![1, 0, 0] S1x144x512.size inb_S2x144x512_S1x144x512_1_0_0), A1⟩, ⟨(Rect.unit (s := S2x144x512) ![0, 0, 0] S1x144x512.size inb_S2x144x512_S1x144x512_0_0_0), A0⟩] : List (View.Piece (Elt Ideal) S2x144x512 .f32)) ∧
      A3 = fixStep (F := Ideal) v72 (flat (F := Ideal) (arg8.view.readCov L8 (Rect.unit (s := S2x512x512) ![1, 0, 0] S1x512x512.size inb_S2x512x512_S1x512x512_1_0_0).toLoadRect)) (View.readAt (Elt Ideal) arg4.view (Rect.unit (s := S2x16x144x512) (k0_off7 i k) S1x1x144x512.size (k0_off7_inb i k)).toLoadRect X_arg4) (arg10.view.readCov M2 (Rect.unit (s := S2x144x512) ![1, 0, 0] S1x144x512.size inb_S2x144x512_S1x144x512_1_0_0).toLoadRect) ∧
      tripL_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 k f_arg7 f_arg8 f_arg10 = (L7, L8, [⟨(Rect.unit (s := S2x144x512) ![1, 0, 0] S1x144x512.size inb_S2x144x512_S1x144x512_1_0_0), A3⟩, ⟨(Rect.unit (s := S2x144x512) ![0, 0, 0] S1x144x512.size inb_S2x144x512_S1x144x512_0_0_0), A2⟩, ⟨(Rect.unit (s := S2x144x512) ![1, 0, 0] S1x144x512.size inb_S2x144x512_S1x144x512_1_0_0), A1⟩, ⟨(Rect.unit (s := S2x144x512) ![0, 0, 0] S1x144x512.size inb_S2x144x512_S1x144x512_0_0_0), A0⟩]) := by
  refine ⟨_, _, _, _, _, _, _, _, rfl, rfl, rfl, rfl, rfl, rfl, rfl, rfl, ?_⟩
  unfold tripL_k0_t1 trip_k0_t1
  sl_unfold_run_names
  rfl

set_option maxHeartbeats 2000000 in
/-- A trip's effect: the next tile's logits, and the two tiles added to each head's accumulator. -/
theorem trip1 (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole) (arg1 : BitVec 32) (v25 : BitVec 32) (v56 : FVec Ideal S1x512 .f32) (v72 : FVec Ideal S1x512 .f32) (X_arg2 : BufTy.Contents (Elt Ideal) arg2.view.ty) (X_arg3 : BufTy.Contents (Elt Ideal) arg3.view.ty) (X_arg4 : BufTy.Contents (Elt Ideal) arg4.view.ty) (k : Fin (k0_t1_loop i).trips) (f_arg7 : BufTy.Contents (Elt Ideal) arg7.view.ty) (f_arg8 : BufTy.Contents (Elt Ideal) arg8.view.ty) (f_arg10 : BufTy.Contents (Elt Ideal) arg10.view.ty) (x0 : Vec Ideal S512x512 .bf16) (x1 : Vec Ideal S8192x512 .bf16) (x2 : Vec Ideal S2x16x144x512 .bf16)
    (h0 : arg2.view.read (Elt Ideal) X_arg2 = x0) (h1 : arg3.view.read (Elt Ideal) X_arg3 = x1) (h2 : arg4.view.read (Elt Ideal) X_arg4 = x2) (sh : Fin 2 → Fin 512 → EReal)
    (hs0 : ∀ c, v56 (ix2 0 c) = sh 0 c) (hs1 : ∀ c, v72 (ix2 0 c) = sh 1 c) :
    (∀ (h : Fin 2) (k' c' : Fin 512), arg7.view.read (Elt Ideal) (arg7.view.writes (Elt Ideal) f_arg7 (tripL_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 k f_arg7 f_arg8 f_arg10).1) (ix3 h k' c') = raw x0 x1 h c' (2 * k.val + 2) k') ∧
    (∀ (h : Fin 2) (r : Fin 144) (c' : Fin 512), arg10.view.read (Elt Ideal) (arg10.view.writes (Elt Ideal) f_arg10 (tripL_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 k f_arg7 f_arg8 f_arg10).2.2) (ix3 h r c')
      = ((arg10.view.read (Elt Ideal) f_arg10 (ix3 h r c') + ∑ u : Fin 512, vals x2 h r (2 * k.val) u * weight (sh h c') (arg7.view.read (Elt Ideal) f_arg7 (ix3 h u c')))
        + ∑ u : Fin 512, vals x2 h r (2 * k.val + 1) u * weight (sh h c') (raw x0 x1 h c' (2 * k.val + 1) u) : EReal)) := by
  obtain ⟨L7, L8, M1, M2, A0, A1, A2, A3, e7, e8, eA0, eA1, eM1, eA2, eM2, eA3, e⟩ := trip1_pieces 𝒱 c bd i arg2 harg2 arg3 harg3 arg4 harg4 arg5 harg5 arg6 harg6 arg7 harg7 arg8 harg8 arg9 harg9 arg10 harg10 arg1 v25 v56 v72 X_arg2 X_arg3 X_arg4 k f_arg7 f_arg8 f_arg10
  rw [e]
  have hk : 2 * k.val + 2 < 16 := by
    have := k.isLt
    have := (trips_eq i).1
    have := (i 1).isLt
    have : (i 1).val < 16 := this
    omega
  have c2 : ∀ (r : Fin 2) (u : Fin 512) (d : Fin 256), View.readAt (Elt Ideal) arg3.view (Rect.unit (s := S8192x512) (k0_off2 i k (BitVec.ofNat 32 (1 + r.val))) S512x256.size (k0_off2_inb i k r)).toLoadRect X_arg3 (ix2 u d) = x1 (ix2 (key (2 * k.val + 1 + r.val) u) (col 0 d)) := fun r u d => by
    rw [← h1]; exact rdk arg3.view X_arg3 _ 0 _ (by omega) (off2_eq i k r) u d
  have c3 : ∀ (r : Fin 2) (u : Fin 512) (d : Fin 256), View.readAt (Elt Ideal) arg3.view (Rect.unit (s := S8192x512) (k0_off3 i k (BitVec.ofNat 32 (1 + r.val))) S512x256.size (k0_off3_inb i k r)).toLoadRect X_arg3 (ix2 u d) = x1 (ix2 (key (2 * k.val + 1 + r.val) u) (col 1 d)) := fun r u d => by
    rw [← h1]; exact rdk arg3.view X_arg3 _ 1 _ (by omega) (off3_eq i k r) u d
  have qa : ∀ (u : Fin 512) (d : Fin 256), (View.readAt (Elt Ideal) arg2.view (Rect.unit (s := S512x512) ![0, 0] S512x256.size inb_S512x512_S512x256_0_0).toLoadRect X_arg2) (ix2 u d) = x0 (ix2 u (col 0 d)) := fun u d => by
    rw [← h0]; exact rdq arg2.view X_arg2 _ 0 rfl u d
  have qb : ∀ (u : Fin 512) (d : Fin 256), (View.readAt (Elt Ideal) arg2.view (Rect.unit (s := S512x512) ![0, 256] S512x256.size inb_S512x512_S512x256_0_256).toLoadRect X_arg2) (ix2 u d) = x0 (ix2 u (col 1 d)) := fun u d => by
    rw [← h0]; exact rdq arg2.view X_arg2 _ 1 rfl u d
  have v4 : ∀ (r : Fin 144) (u : Fin 512), (View.readAt (Elt Ideal) arg4.view (Rect.unit (s := S2x16x144x512) (k0_off4 i k) S1x1x144x512.size (k0_off4_inb i k)).toLoadRect X_arg4) (ix4 0 0 r u) = x2 (ix4 0 (tile (2 * k.val)) r u) := fun r u => by
    rw [← h2]; exact rdv arg4.view X_arg4 _ 0 _ (by omega) (off4_eq i k) r u
  have v5 : ∀ (r : Fin 144) (u : Fin 512), (View.readAt (Elt Ideal) arg4.view (Rect.unit (s := S2x16x144x512) (k0_off5 i k) S1x1x144x512.size (k0_off5_inb i k)).toLoadRect X_arg4) (ix4 0 0 r u) = x2 (ix4 1 (tile (2 * k.val)) r u) := fun r u => by
    rw [← h2]; exact rdv arg4.view X_arg4 _ 1 _ (by omega) (off5_eq i k) r u
  have v6 : ∀ (r : Fin 144) (u : Fin 512), (View.readAt (Elt Ideal) arg4.view (Rect.unit (s := S2x16x144x512) (k0_off6 i k) S1x1x144x512.size (k0_off6_inb i k)).toLoadRect X_arg4) (ix4 0 0 r u) = x2 (ix4 0 (tile (2 * k.val + 1)) r u) := fun r u => by
    rw [← h2]; exact rdv arg4.view X_arg4 _ 0 _ (by omega) (off6_eq i k) r u
  have v7 : ∀ (r : Fin 144) (u : Fin 512), (View.readAt (Elt Ideal) arg4.view (Rect.unit (s := S2x16x144x512) (k0_off7 i k) S1x1x144x512.size (k0_off7_inb i k)).toLoadRect X_arg4) (ix4 0 0 r u) = x2 (ix4 1 (tile (2 * k.val + 1)) r u) := fun r u => by
    rw [← h2]; exact rdv arg4.view X_arg4 _ 1 _ (by omega) (off7_eq i k) r u
  have a0 : ∀ (r : Fin 144) (c' : Fin 512), A0 (ix3 0 r c') = (arg10.view.read (Elt Ideal) f_arg10 (ix3 0 r c') + ∑ u : Fin 512, vals x2 0 r (2 * k.val) u * weight (v56 (ix2 0 c')) (arg7.view.read (Elt Ideal) f_arg7 (ix3 0 u c')) : EReal) := fun r c' => by
    rw [eA0]
    exact fixStep_of (sh := v56) (s := fun c u => arg7.view.read (Elt Ideal) f_arg7 (ix3 0 u c)) (t := fun r c => arg10.view.read (Elt Ideal) f_arg10 (ix3 0 r c)) (fun u c' => (flat_apply _ u c').trans (rd arg7.view f_arg7 _ 0 rfl u c')) v4 (fun r c' => rd arg10.view f_arg10 inb_S2x144x512_S1x144x512_0_0_0 0 rfl r c') r c'
  have a1 : ∀ (r : Fin 144) (c' : Fin 512), A1 (ix3 0 r c') = (arg10.view.read (Elt Ideal) f_arg10 (ix3 1 r c') + ∑ u : Fin 512, vals x2 1 r (2 * k.val) u * weight (v72 (ix2 0 c')) (arg7.view.read (Elt Ideal) f_arg7 (ix3 1 u c')) : EReal) := fun r c' => by
    rw [eA1]
    exact fixStep_of (sh := v72) (s := fun c u => arg7.view.read (Elt Ideal) f_arg7 (ix3 1 u c)) (t := fun r c => arg10.view.read (Elt Ideal) f_arg10 (ix3 1 r c)) (fun u c' => (flat_apply _ u c').trans (rd arg7.view f_arg7 _ 1 rfl u c')) v5 (fun r c' => rd arg10.view f_arg10 inb_S2x144x512_S1x144x512_1_0_0 1 rfl r c') r c'
  have b0 : ∀ u c', (arg8.view.readCov L8 (Rect.unit (s := S2x512x512) ![0, 0, 0] S1x512x512.size inb_S2x512x512_S1x512x512_0_0_0).toLoadRect) (ix3 0 u c') = raw x0 x1 0 c' (2 * k.val + 1) u := fun u c' => by
    refine (rdc arg8.view L8 _ 0 rfl u c').trans ?_
    rw [e8]
    exact (wro arg8.view _ _ _ _ 0 (by decide) u c').trans ((wrs arg8.view _ _ _ _ 0 rfl u c').trans (tile_logits (c2 0) qa u c'))
  have b1 : ∀ u c', (arg8.view.readCov L8 (Rect.unit (s := S2x512x512) ![1, 0, 0] S1x512x512.size inb_S2x512x512_S1x512x512_1_0_0).toLoadRect) (ix3 0 u c') = raw x0 x1 1 c' (2 * k.val + 1) u := fun u c' => by
    refine (rdc arg8.view L8 _ 1 rfl u c').trans ?_
    rw [e8]
    exact (wrs arg8.view _ _ _ _ 1 rfl u c').trans (tile_logits (c3 0) qb u c')
  have d2 : ∀ (r : Fin 144) (c' : Fin 512), (arg10.view.readCov M1 (Rect.unit (s := S2x144x512) ![0, 0, 0] S1x144x512.size inb_S2x144x512_S1x144x512_0_0_0).toLoadRect) (ix3 0 r c') = (arg10.view.read (Elt Ideal) f_arg10 (ix3 0 r c') + ∑ u : Fin 512, vals x2 0 r (2 * k.val) u * weight (v56 (ix2 0 c')) (arg7.view.read (Elt Ideal) f_arg7 (ix3 0 u c')) : EReal) := fun r c' => by
    refine (rdc arg10.view M1 _ 0 rfl r c').trans ?_
    rw [eM1]
    refine (wro arg10.view _ _ _ _ 0 (by decide) r c').trans ?_
    exact (wrs arg10.view _ _ _ _ 0 rfl r c').trans (a0 r c')
  have a2 : ∀ (r : Fin 144) (c' : Fin 512), A2 (ix3 0 r c') = ((arg10.view.read (Elt Ideal) f_arg10 (ix3 0 r c') + ∑ u : Fin 512, vals x2 0 r (2 * k.val) u * weight (v56 (ix2 0 c')) (arg7.view.read (Elt Ideal) f_arg7 (ix3 0 u c'))) + ∑ u : Fin 512, vals x2 0 r (2 * k.val + 1) u * weight (v56 (ix2 0 c')) (raw x0 x1 0 c' (2 * k.val + 1) u) : EReal) := fun r c' => by
    rw [eA2]
    exact fixStep_of (sh := v56) (s := fun c u => raw x0 x1 0 c (2 * k.val + 1) u) (t := fun r c => arg10.view.read (Elt Ideal) f_arg10 (ix3 0 r c) + ∑ u : Fin 512, vals x2 0 r (2 * k.val) u * weight (v56 (ix2 0 c)) (arg7.view.read (Elt Ideal) f_arg7 (ix3 0 u c))) (fun u c' => (flat_apply _ u c').trans (b0 u c')) v6 d2 r c'
  have d3 : ∀ (r : Fin 144) (c' : Fin 512), (arg10.view.readCov M2 (Rect.unit (s := S2x144x512) ![1, 0, 0] S1x144x512.size inb_S2x144x512_S1x144x512_1_0_0).toLoadRect) (ix3 0 r c') = (arg10.view.read (Elt Ideal) f_arg10 (ix3 1 r c') + ∑ u : Fin 512, vals x2 1 r (2 * k.val) u * weight (v72 (ix2 0 c')) (arg7.view.read (Elt Ideal) f_arg7 (ix3 1 u c')) : EReal) := fun r c' => by
    refine (rdc arg10.view M2 _ 1 rfl r c').trans ?_
    rw [eM2]
    refine (wro arg10.view _ _ _ _ 1 (by decide) r c').trans ?_
    exact (wrs arg10.view _ _ _ _ 1 rfl r c').trans (a1 r c')
  have a3 : ∀ (r : Fin 144) (c' : Fin 512), A3 (ix3 0 r c') = ((arg10.view.read (Elt Ideal) f_arg10 (ix3 1 r c') + ∑ u : Fin 512, vals x2 1 r (2 * k.val) u * weight (v72 (ix2 0 c')) (arg7.view.read (Elt Ideal) f_arg7 (ix3 1 u c'))) + ∑ u : Fin 512, vals x2 1 r (2 * k.val + 1) u * weight (v72 (ix2 0 c')) (raw x0 x1 1 c' (2 * k.val + 1) u) : EReal) := fun r c' => by
    rw [eA3]
    exact fixStep_of (sh := v72) (s := fun c u => raw x0 x1 1 c (2 * k.val + 1) u) (t := fun r c => arg10.view.read (Elt Ideal) f_arg10 (ix3 1 r c) + ∑ u : Fin 512, vals x2 1 r (2 * k.val) u * weight (v72 (ix2 0 c)) (arg7.view.read (Elt Ideal) f_arg7 (ix3 1 u c))) (fun u c' => (flat_apply _ u c').trans (b1 u c')) v7 d3 r c'
  refine ⟨Fin.forall_fin_two.2 ⟨fun u c' => ?_, fun u c' => ?_⟩, Fin.forall_fin_two.2 ⟨fun r c' => ?_, fun r c' => ?_⟩⟩
  · rw [e7]
    exact (wro arg7.view _ _ _ _ 0 (by decide) u c').trans ((wrs arg7.view _ _ _ _ 0 rfl u c').trans (tile_logits (c2 1) qa u c'))
  · rw [e7]
    exact (wrs arg7.view _ _ _ _ 1 rfl u c').trans (tile_logits (c3 1) qb u c')
  · refine (wro arg10.view _ _ _ _ 0 (by decide) r c').trans ((wrs arg10.view _ _ _ _ 0 rfl r c').trans ((a2 r c').trans ?_))
    rw [hs0]
  · refine (wrs arg10.view _ _ _ _ 1 rfl r c').trans ((a3 r c').trans ?_)
    rw [hs1]

end Cert.AttnBIdeal.Hand

end
-- ==== Proof.AttnB.TripOnline.lean ====
/- One trip of the loop over pairs of key tiles, the running maximum kept: what it leaves in the scratch buffers, element by element. -/
module

public import proofs.«01_k».proof.Proof.AttnB.TripFixed

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What is kept of `n` tiles: a maximum, minus infinity only at the start, and each row's weighted sum under it. -/
def Kept (n : ℕ) (s : ℕ → Fin 512 → EReal) (V : Fin 144 → ℕ → Fin 512 → EReal) (M : EReal) (acc : Fin 144 → EReal) : Prop :=
  ((n = 0 ∧ M = ⊥) ∨ ∃ μ : ℝ, M = μ) ∧ ∀ r, acc r = tot n M s (V r)

/-- A new maximum above one logit of the new tile, and the old sums rescaled to it. -/
theorem Kept.step {n : ℕ} {s : ℕ → Fin 512 → EReal} {V : Fin 144 → ℕ → Fin 512 → EReal} {M : EReal} {acc : Fin 144 → EReal} (h : Kept n s V M acc)
    (hs : ∀ j < n, ∀ k, s j k ≠ ⊤) (hb : s n 0 ≠ ⊥) {T : EReal} (hT : T ≠ ⊤) (hle : s n 0 ≤ T) {acc' : Fin 144 → EReal}
    (ha : ∀ r, acc' r = Ideal.exp2 (M - T) * acc r + ∑ k : Fin 512, V r n k * weight T (s n k)) : Kept (n + 1) s V T acc' := by
  obtain ⟨N, rfl⟩ := real_of T hT (fun e => hb (le_bot_iff.1 (e ▸ hle)))
  refine ⟨Or.inr ⟨N, rfl⟩, fun r => ?_⟩
  rw [ha, tot_succ]
  congr 1
  obtain ⟨hM, hr⟩ := h
  rw [hr]
  rcases hM with ⟨rfl, rfl⟩ | ⟨μ, rfl⟩
  · rw [tot_zero, tot_zero, mul_zero]
  · exact tot_shift n μ N s (V r) hs

/-- One tile's step of the kernel keeps it. -/
theorem kept_tile {n : ℕ} {s : Fin 512 → ℕ → Fin 512 → EReal} {V : Fin 144 → ℕ → Fin 512 → EReal} {x : FVec Ideal S512x512 .f32}
    {m : Vec Ideal S1x1x512 .f32} {v : Vec Ideal S1x1x144x512 .bf16} {a : Vec Ideal S1x144x512 .f32} {M : Fin 512 → EReal} {acc : Fin 512 → Fin 144 → EReal}
    (h : ∀ c, Kept n (s c) V (M c) (acc c)) (hm : ∀ c, m (ix3 0 0 c) = M c) (ha : ∀ r c, a (ix3 0 r c) = acc c r)
    (hx : ∀ k c, x (ix2 k c) = s c n k) (hv : ∀ r k, v (ix4 0 0 r k) = V r n k) (hs : ∀ c j k, j < n + 1 → s c j k ≠ ⊤) (hb : ∀ c, s c n 0 ≠ ⊥) (c : Fin 512) :
    Kept (n + 1) (s c) V (maxStep (F := Ideal) x m (ix3 0 0 c)) (fun r => accStep (F := Ideal) x m v a (ix3 0 r c)) := by
  have hM : M c ≠ ⊤ := by
    rcases (h c).1 with ⟨_, e⟩ | ⟨μ, e⟩
    · rw [e]; exact bot_ne_top
    · rw [e]; exact EReal.coe_ne_top μ
  rw [maxStep_apply]
  refine (h c).step (fun j hj k => hs c j k (by omega)) (hb c) (topStep_ne_top x m c (by rw [hm]; exact hM) (fun k => by rw [hx]; exact hs c n k (by omega)))
    (by rw [← hx]; exact le_topStep x m c) (fun r => ?_)
  rw [accStep_apply, hm, ha]
  congr 1
  exact Finset.sum_congr rfl fun k _ => by rw [hx, hv]

set_option maxHeartbeats 4000000 in
/-- The stores of a trip, the newest first. -/
theorem trip3_pieces (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole) (arg1 : BitVec 32) (v25 : BitVec 32) (X_arg2 : BufTy.Contents (Elt Ideal) arg2.view.ty) (X_arg3 : BufTy.Contents (Elt Ideal) arg3.view.ty) (X_arg4 : BufTy.Contents (Elt Ideal) arg4.view.ty) (k : Fin (k0_t3_loop i).trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) :
    ∃ (L7 L8 : List (View.Piece (Elt Ideal) S2x512x512 .f32)) (M1 M2 : List (View.Piece (Elt Ideal) S2x144x512 .f32)) (N1 N2 : List (View.Piece (Elt Ideal) S2x1x512 .f32)) (A0 A1 A2 A3 : FVec Ideal S1x144x512 .f32) (B0 B1 B2 B3 : FVec Ideal S1x1x512 .f32),
      L7 = ([⟨(Rect.unit (s := S2x512x512) ![1, 0, 0] S1x512x512.size inb_S2x512x512_S1x512x512_1_0_0), k0_pay9 (F := Ideal) (View.readAt (Elt Ideal) arg3.view (Rect.unit (s := S8192x512) (k0_off23 i k (BitVec.ofNat 32 (1 + (1 : Fin 2).val))) S512x256.size (k0_off23_inb i k 1)).toLoadRect X_arg3) (View.readAt (Elt Ideal) arg2.view (Rect.unit (s := S512x512) ![0, 256] S512x256.size inb_S512x512_S512x256_0_256).toLoadRect X_arg2)⟩, ⟨(Rect.unit (s := S2x512x512) ![0, 0, 0] S1x512x512.size inb_S2x512x512_S1x512x512_0_0_0), k0_pay9 (F := Ideal) (View.readAt (Elt Ideal) arg3.view (Rect.unit (s := S8192x512) (k0_off22 i k (BitVec.ofNat 32 (1 + (1 : Fin 2).val))) S512x256.size (k0_off22_inb i k 1)).toLoadRect X_arg3) (View.readAt (Elt Ideal) arg2.view (Rect.unit (s := S512x512) ![0, 0] S512x256.size inb_S512x512_S512x256_0_0).toLoadRect X_arg2)⟩] : List (View.Piece (Elt Ideal) S2x512x512 .f32)) ∧
      L8 = ([⟨(Rect.unit (s := S2x512x512) ![1, 0, 0] S1x512x512.size inb_S2x512x512_S1x512x512_1_0_0), k0_pay9 (F := Ideal) (View.readAt (Elt Ideal) arg3.view (Rect.unit (s := S8192x512) (k0_off23 i k (BitVec.ofNat 32 (1 + (0 : Fin 2).val))) S512x256.size (k0_off23_inb i k 0)).toLoadRect X_arg3) (View.readAt (Elt Ideal) arg2.view (Rect.unit (s := S512x512) ![0, 256] S512x256.size inb_S512x512_S512x256_0_256).toLoadRect X_arg2)⟩, ⟨(Rect.unit (s := S2x512x512) ![0, 0, 0] S1x512x512.size inb_S2x512x512_S1x512x512_0_0_0), k0_pay9 (F := Ideal) (View.readAt (Elt Ideal) arg3.view (Rect.unit (s := S8192x512) (k0_off22 i k (BitVec.ofNat 32 (1 + (0 : Fin 2).val))) S512x256.size (k0_off22_inb i k 0)).toLoadRect X_arg3) (View.readAt (Elt Ideal) arg2.view (Rect.unit (s := S512x512) ![0, 0] S512x256.size inb_S512x512_S512x256_0_0).toLoadRect X_arg2)⟩] : List (View.Piece (Elt Ideal) S2x512x512 .f32)) ∧
      A0 = accStep (F := Ideal) (flat (F := Ideal) (View.readAt (Elt Ideal) arg7.view (Rect.unit (s := S2x512x512) ![0, 0, 0] S1x512x512.size inb_S2x512x512_S1x512x512_0_0_0).toLoadRect f_arg7)) (View.readAt (Elt Ideal) arg9.view (Rect.unit (s := S2x1x512) ![0, 0, 0] S1x1x512.size inb_S2x1x512_S1x1x512_0_0_0).toLoadRect f_arg9) (View.readAt (Elt Ideal) arg4.view (Rect.unit (s := S2x16x144x512) (k0_off24 i k) S1x1x144x512.size (k0_off24_inb i k)).toLoadRect X_arg4) (View.readAt (Elt Ideal) arg10.view (Rect.unit (s := S2x144x512) ![0, 0, 0] S1x144x512.size inb_S2x144x512_S1x144x512_0_0_0).toLoadRect f_arg10) ∧
      B0 = maxStep (F := Ideal) (flat (F := Ideal) (View.readAt (Elt Ideal) arg7.view (Rect.unit (s := S2x512x512) ![0, 0, 0] S1x512x512.size inb_S2x512x512_S1x512x512_0_0_0).toLoadRect f_arg7)) (View.readAt (Elt Ideal) arg9.view (Rect.unit (s := S2x1x512) ![0, 0, 0] S1x1x512.size inb_S2x1x512_S1x1x512_0_0_0).toLoadRect f_arg9) ∧
      A1 = accStep (F := Ideal) (flat (F := Ideal) (View.readAt (Elt Ideal) arg7.view (Rect.unit (s := S2x512x512) ![1, 0, 0] S1x512x512.size inb_S2x512x512_S1x512x512_1_0_0).toLoadRect f_arg7)) (View.readAt (Elt Ideal) arg9.view (Rect.unit (s := S2x1x512) ![1, 0, 0] S1x1x512.size inb_S2x1x512_S1x1x512_1_0_0).toLoadRect f_arg9) (View.readAt (Elt Ideal) arg4.view (Rect.unit (s := S2x16x144x512) (k0_off25 i k) S1x1x144x512.size (k0_off25_inb i k)).toLoadRect X_arg4) (View.readAt (Elt Ideal) arg10.view (Rect.unit (s := S2x144x512) ![1, 0, 0] S1x144x512.size inb_S2x144x512_S1x144x512_1_0_0).toLoadRect f_arg10) ∧
      B1 = maxStep (F := Ideal) (flat (F := Ideal) (View.readAt (Elt Ideal) arg7.view (Rect.unit (s := S2x512x512) ![1, 0, 0] S1x512x512.size inb_S2x512x512_S1x512x512_1_0_0).toLoadRect f_arg7)) (View.readAt (Elt Ideal) arg9.view (Rect.unit (s := S2x1x512) ![1, 0, 0] S1x1x512.size inb_S2x1x512_S1x1x512_1_0_0).toLoadRect f_arg9) ∧
      M1 = ([⟨(Rect.unit (s := S2x144x512) ![1, 0, 0] S1x144x512.size inb_S2x144x512_S1x144x512_1_0_0), A1⟩, ⟨(Rect.unit (s := S2x144x512) ![0, 0, 0] S1x144x512.size inb_S2x144x512_S1x144x512_0_0_0), A0⟩] : List (View.Piece (Elt Ideal) S2x144x512 .f32)) ∧
      N1 = ([⟨(Rect.unit (s := S2x1x512) ![1, 0, 0] S1x1x512.size inb_S2x1x512_S1x1x512_1_0_0), B1⟩, ⟨(Rect.unit (s := S2x1x512) ![0, 0, 0] S1x1x512.size inb_S2x1x512_S1x1x512_0_0_0), B0⟩] : List (View.Piece (Elt Ideal) S2x1x512 .f32)) ∧
      A2 = accStep (F := Ideal) (flat (F := Ideal) (arg8.view.readCov L8 (Rect.unit (s := S2x512x512) ![0, 0, 0] S1x512x512.size inb_S2x512x512_S1x512x512_0_0_0).toLoadRect)) (arg9.view.readCov N1 (Rect.unit (s := S2x1x512) ![0, 0, 0] S1x1x512.size inb_S2x1x512_S1x1x512_0_0_0).toLoadRect) (View.readAt (Elt Ideal) arg4.view (Rect.unit (s := S2x16x144x512) (k0_off26 i k) S1x1x144x512.size (k0_off26_inb i k)).toLoadRect X_arg4) (arg10.view.readCov M1 (Rect.unit (s := S2x144x512) ![0, 0, 0] S1x144x512.size inb_S2x144x512_S1x144x512_0_0_0).toLoadRect) ∧
      B2 = maxStep (F := Ideal) (flat (F := Ideal) (arg8.view.readCov L8 (Rect.unit (s := S2x512x512) ![0, 0, 0] S1x512x512.size inb_S2x512x512_S1x512x512_0_0_0).toLoadRect)) (arg9.view.readCov N1 (Rect.unit (s := S2x1x512) ![0, 0, 0] S1x1x512.size inb_S2x1x512_S1x1x512_0_0_0).toLoadRect) ∧
      M2 = (⟨(Rect.unit (s := S2x144x512) ![0, 0, 0] S1x144x512.size inb_S2x144x512_S1x144x512_0_0_0), A2⟩ :: M1 : List (View.Piece (Elt Ideal) S2x144x512 .f32)) ∧
      N2 = (⟨(Rect.unit (s := S2x1x512) ![0, 0, 0] S1x1x512.size inb_S2x1x512_S1x1x512_0_0_0), B2⟩ :: N1 : List (View.Piece (Elt Ideal) S2x1x512 .f32)) ∧
      A3 = accStep (F := Ideal) (flat (F := Ideal) (arg8.view.readCov L8 (Rect.unit (s := S2x512x512) ![1, 0, 0] S1x512x512.size inb_S2x512x512_S1x512x512_1_0_0).toLoadRect)) (arg9.view.readCov N2 (Rect.unit (s := S2x1x512) ![1, 0, 0] S1x1x512.size inb_S2x1x512_S1x1x512_1_0_0).toLoadRect) (View.readAt (Elt Ideal) arg4.view (Rect.unit (s := S2x16x144x512) (k0_off27 i k) S1x1x144x512.size (k0_off27_inb i k)).toLoadRect X_arg4) (arg10.view.readCov M2 (Rect.unit (s := S2x144x512) ![1, 0, 0] S1x144x512.size inb_S2x144x512_S1x144x512_1_0_0).toLoadRect) ∧
      B3 = maxStep (F := Ideal) (flat (F := Ideal) (arg8.view.readCov L8 (Rect.unit (s := S2x512x512) ![1, 0, 0] S1x512x512.size inb_S2x512x512_S1x512x512_1_0_0).toLoadRect)) (arg9.view.readCov N2 (Rect.unit (s := S2x1x512) ![1, 0, 0] S1x1x512.size inb_S2x1x512_S1x1x512_1_0_0).toLoadRect) ∧
      tripL_k0_t3 (F := Ideal) 𝒱 c bd i arg2 harg2 arg3 harg3 arg4 harg4 arg5 harg5 arg6 harg6 arg7 harg7 arg8 harg8 arg9 harg9 arg10 harg10 arg1 v25 X_arg2 X_arg3 X_arg4 k f_arg7 f_arg8 f_arg9 f_arg10 = (L7, L8, (⟨(Rect.unit (s := S2x1x512) ![1, 0, 0] S1x1x512.size inb_S2x1x512_S1x1x512_1_0_0), B3⟩ :: N2), (⟨(Rect.unit (s := S2x144x512) ![1, 0, 0] S1x144x512.size inb_S2x144x512_S1x144x512_1_0_0), A3⟩ :: M2)) := by
  refine ⟨_, _, _, _, _, _, _, _, _, _, _, _, _, _, rfl, rfl, rfl, rfl, rfl, rfl, rfl, rfl, rfl, rfl, rfl, rfl, rfl, rfl, ?_⟩
  unfold tripL_k0_t3 trip_k0_t3
  sl_unfold_run_names
  rfl

set_option maxHeartbeats 2000000 in
/-- A trip's effect: the next tile's logits, and the two tiles taken into what is kept. -/
theorem trip3 (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole) (arg1 : BitVec 32) (v25 : BitVec 32) (X_arg2 : BufTy.Contents (Elt Ideal) arg2.view.ty) (X_arg3 : BufTy.Contents (Elt Ideal) arg3.view.ty) (X_arg4 : BufTy.Contents (Elt Ideal) arg4.view.ty) (k : Fin (k0_t3_loop i).trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (x0 : Vec Ideal S512x512 .bf16) (x1 : Vec Ideal S8192x512 .bf16) (x2 : Vec Ideal S2x16x144x512 .bf16)
    (h0 : arg2.view.read (Elt Ideal) X_arg2 = x0) (h1 : arg3.view.read (Elt Ideal) X_arg3 = x1) (h2 : arg4.view.read (Elt Ideal) X_arg4 = x2)
    (hf : ∀ h c' j u, ∃ z : ℝ, raw x0 x1 h c' j u = z)
    (h7 : ∀ (h : Fin 2) (u c' : Fin 512), arg7.view.read (Elt Ideal) f_arg7 (ix3 h u c') = raw x0 x1 h c' (2 * k.val) u)
    (hK : ∀ (h : Fin 2) (c' : Fin 512), Kept (2 * k.val) (raw x0 x1 h c') (vals x2 h) (arg9.view.read (Elt Ideal) f_arg9 (ix3 h 0 c')) (fun r => arg10.view.read (Elt Ideal) f_arg10 (ix3 h r c'))) :
    (∀ (h : Fin 2) (u c' : Fin 512), arg7.view.read (Elt Ideal) (arg7.view.writes (Elt Ideal) f_arg7 (tripL_k0_t3 (F := Ideal) 𝒱 c bd i arg2 harg2 arg3 harg3 arg4 harg4 arg5 harg5 arg6 harg6 arg7 harg7 arg8 harg8 arg9 harg9 arg10 harg10 arg1 v25 X_arg2 X_arg3 X_arg4 k f_arg7 f_arg8 f_arg9 f_arg10).1) (ix3 h u c') = raw x0 x1 h c' (2 * k.val + 2) u) ∧
    (∀ (h : Fin 2) (c' : Fin 512), Kept (2 * k.val + 2) (raw x0 x1 h c') (vals x2 h)
      (arg9.view.read (Elt Ideal) (arg9.view.writes (Elt Ideal) f_arg9 (tripL_k0_t3 (F := Ideal) 𝒱 c bd i arg2 harg2 arg3 harg3 arg4 harg4 arg5 harg5 arg6 harg6 arg7 harg7 arg8 harg8 arg9 harg9 arg10 harg10 arg1 v25 X_arg2 X_arg3 X_arg4 k f_arg7 f_arg8 f_arg9 f_arg10).2.2.1) (ix3 h 0 c'))
      (fun r => arg10.view.read (Elt Ideal) (arg10.view.writes (Elt Ideal) f_arg10 (tripL_k0_t3 (F := Ideal) 𝒱 c bd i arg2 harg2 arg3 harg3 arg4 harg4 arg5 harg5 arg6 harg6 arg7 harg7 arg8 harg8 arg9 harg9 arg10 harg10 arg1 v25 X_arg2 X_arg3 X_arg4 k f_arg7 f_arg8 f_arg9 f_arg10).2.2.2) (ix3 h r c'))) := by
  obtain ⟨L7, L8, M1, M2, N1, N2, A0, A1, A2, A3, B0, B1, B2, B3, e7, e8, eA0, eB0, eA1, eB1, eM1, eN1, eA2, eB2, eM2, eN2, eA3, eB3, e⟩ := trip3_pieces 𝒱 c bd i arg2 harg2 arg3 harg3 arg4 harg4 arg5 harg5 arg6 harg6 arg7 harg7 arg8 harg8 arg9 harg9 arg10 harg10 arg1 v25 X_arg2 X_arg3 X_arg4 k f_arg7 f_arg8 f_arg9 f_arg10
  rw [e]
  have ht : ∀ h c' j u, raw x0 x1 h c' j u ≠ ⊤ := fun h c' j u => by
    obtain ⟨z, hz⟩ := hf h c' j u
    rw [hz]; exact EReal.coe_ne_top z
  have hb : ∀ h c' j u, raw x0 x1 h c' j u ≠ ⊥ := fun h c' j u => by
    obtain ⟨z, hz⟩ := hf h c' j u
    rw [hz]; exact EReal.coe_ne_bot z
  have hk : 2 * k.val + 2 < 16 := by
    have := k.isLt
    have := (trips_eq i).2.2.1
    have := (i 1).isLt
    have : (i 1).val < 16 := this
    omega
  have c2 : ∀ (r : Fin 2) (u : Fin 512) (d : Fin 256), View.readAt (Elt Ideal) arg3.view (Rect.unit (s := S8192x512) (k0_off22 i k (BitVec.ofNat 32 (1 + r.val))) S512x256.size (k0_off22_inb i k r)).toLoadRect X_arg3 (ix2 u d) = x1 (ix2 (key (2 * k.val + 1 + r.val) u) (col 0 d)) := fun r u d => by
    rw [← h1]; exact rdk arg3.view X_arg3 _ 0 _ (by omega) (off22_eq i k r) u d
  have c3 : ∀ (r : Fin 2) (u : Fin 512) (d : Fin 256), View.readAt (Elt Ideal) arg3.view (Rect.unit (s := S8192x512) (k0_off23 i k (BitVec.ofNat 32 (1 + r.val))) S512x256.size (k0_off23_inb i k r)).toLoadRect X_arg3 (ix2 u d) = x1 (ix2 (key (2 * k.val + 1 + r.val) u) (col 1 d)) := fun r u d => by
    rw [← h1]; exact rdk arg3.view X_arg3 _ 1 _ (by omega) (off23_eq i k r) u d
  have qa : ∀ (u : Fin 512) (d : Fin 256), (View.readAt (Elt Ideal) arg2.view (Rect.unit (s := S512x512) ![0, 0] S512x256.size inb_S512x512_S512x256_0_0).toLoadRect X_arg2) (ix2 u d) = x0 (ix2 u (col 0 d)) := fun u d => by
    rw [← h0]; exact rdq arg2.view X_arg2 _ 0 rfl u d
  have qb : ∀ (u : Fin 512) (d : Fin 256), (View.readAt (Elt Ideal) arg2.view (Rect.unit (s := S512x512) ![0, 256] S512x256.size inb_S512x512_S512x256_0_256).toLoadRect X_arg2) (ix2 u d) = x0 (ix2 u (col 1 d)) := fun u d => by
    rw [← h0]; exact rdq arg2.view X_arg2 _ 1 rfl u d
  have v24 : ∀ (r : Fin 144) (u : Fin 512), (View.readAt (Elt Ideal) arg4.view (Rect.unit (s := S2x16x144x512) (k0_off24 i k) S1x1x144x512.size (k0_off24_inb i k)).toLoadRect X_arg4) (ix4 0 0 r u) = x2 (ix4 0 (tile (2 * k.val)) r u) := fun r u => by
    rw [← h2]; exact rdv arg4.view X_arg4 _ 0 _ (by omega) (off24_eq i k) r u
  have v25 : ∀ (r : Fin 144) (u : Fin 512), (View.readAt (Elt Ideal) arg4.view (Rect.unit (s := S2x16x144x512) (k0_off25 i k) S1x1x144x512.size (k0_off25_inb i k)).toLoadRect X_arg4) (ix4 0 0 r u) = x2 (ix4 1 (tile (2 * k.val)) r u) := fun r u => by
    rw [← h2]; exact rdv arg4.view X_arg4 _ 1 _ (by omega) (off25_eq i k) r u
  have v26 : ∀ (r : Fin 144) (u : Fin 512), (View.readAt (Elt Ideal) arg4.view (Rect.unit (s := S2x16x144x512) (k0_off26 i k) S1x1x144x512.size (k0_off26_inb i k)).toLoadRect X_arg4) (ix4 0 0 r u) = x2 (ix4 0 (tile (2 * k.val + 1)) r u) := fun r u => by
    rw [← h2]; exact rdv arg4.view X_arg4 _ 0 _ (by omega) (off26_eq i k) r u
  have v27 : ∀ (r : Fin 144) (u : Fin 512), (View.readAt (Elt Ideal) arg4.view (Rect.unit (s := S2x16x144x512) (k0_off27 i k) S1x1x144x512.size (k0_off27_inb i k)).toLoadRect X_arg4) (ix4 0 0 r u) = x2 (ix4 1 (tile (2 * k.val + 1)) r u) := fun r u => by
    rw [← h2]; exact rdv arg4.view X_arg4 _ 1 _ (by omega) (off27_eq i k) r u
  have b0 : ∀ u c', (arg8.view.readCov L8 (Rect.unit (s := S2x512x512) ![0, 0, 0] S1x512x512.size inb_S2x512x512_S1x512x512_0_0_0).toLoadRect) (ix3 0 u c') = raw x0 x1 0 c' (2 * k.val + 1) u := fun u c' => by
    refine (rdc arg8.view L8 _ 0 rfl u c').trans ?_
    rw [e8]
    exact (wro arg8.view _ _ _ _ 0 (by decide) u c').trans ((wrs arg8.view _ _ _ _ 0 rfl u c').trans (tile_logits (c2 0) qa u c'))
  have b1 : ∀ u c', (arg8.view.readCov L8 (Rect.unit (s := S2x512x512) ![1, 0, 0] S1x512x512.size inb_S2x512x512_S1x512x512_1_0_0).toLoadRect) (ix3 0 u c') = raw x0 x1 1 c' (2 * k.val + 1) u := fun u c' => by
    refine (rdc arg8.view L8 _ 1 rfl u c').trans ?_
    rw [e8]
    exact (wrs arg8.view _ _ _ _ 1 rfl u c').trans (tile_logits (c3 0) qb u c')
  have K0 : ∀ c', Kept (2 * k.val + 1) (raw x0 x1 0 c') (vals x2 0) (B0 (ix3 0 0 c')) (fun r => A0 (ix3 0 r c')) := fun c' => by
    rw [eA0, eB0]
    exact kept_tile (s := raw x0 x1 0) (hK 0) (fun c' => rd arg9.view f_arg9 _ 0 rfl 0 c') (fun r c' => rd arg10.view f_arg10 _ 0 rfl r c')
      (fun u c' => (flat_apply _ u c').trans ((rd arg7.view f_arg7 _ 0 rfl u c').trans (h7 0 u c'))) v24 (fun c' j u _ => ht 0 c' j u) (fun c' => hb 0 c' _ _) c'
  have K1 : ∀ c', Kept (2 * k.val + 1) (raw x0 x1 1 c') (vals x2 1) (B1 (ix3 0 0 c')) (fun r => A1 (ix3 0 r c')) := fun c' => by
    rw [eA1, eB1]
    exact kept_tile (s := raw x0 x1 1) (hK 1) (fun c' => rd arg9.view f_arg9 _ 1 rfl 0 c') (fun r c' => rd arg10.view f_arg10 _ 1 rfl r c')
      (fun u c' => (flat_apply _ u c').trans ((rd arg7.view f_arg7 _ 1 rfl u c').trans (h7 1 u c'))) v25 (fun c' j u _ => ht 1 c' j u) (fun c' => hb 1 c' _ _) c'
  have dm0 : ∀ c', (arg9.view.readCov N1 (Rect.unit (s := S2x1x512) ![0, 0, 0] S1x1x512.size inb_S2x1x512_S1x1x512_0_0_0).toLoadRect) (ix3 0 0 c') = B0 (ix3 0 0 c') := fun c' => by
    refine (rdc arg9.view N1 _ 0 rfl 0 c').trans ?_
    rw [eN1]
    refine (wro arg9.view _ _ _ _ 0 (by decide) 0 c').trans ?_
    exact wrs arg9.view _ _ _ _ 0 rfl 0 c'
  have da0 : ∀ r c', (arg10.view.readCov M1 (Rect.unit (s := S2x144x512) ![0, 0, 0] S1x144x512.size inb_S2x144x512_S1x144x512_0_0_0).toLoadRect) (ix3 0 r c') = A0 (ix3 0 r c') := fun r c' => by
    refine (rdc arg10.view M1 _ 0 rfl r c').trans ?_
    rw [eM1]
    refine (wro arg10.view _ _ _ _ 0 (by decide) r c').trans ?_
    exact wrs arg10.view _ _ _ _ 0 rfl r c'
  have K2 : ∀ c', Kept (2 * k.val + 2) (raw x0 x1 0 c') (vals x2 0) (B2 (ix3 0 0 c')) (fun r => A2 (ix3 0 r c')) := fun c' => by
    rw [eA2, eB2]
    exact kept_tile (s := raw x0 x1 0) K0 dm0 da0
      (fun u c' => (flat_apply _ u c').trans (b0 u c')) v26 (fun c' j u _ => ht 0 c' j u) (fun c' => hb 0 c' _ _) c'
  have dm1 : ∀ c', (arg9.view.readCov N2 (Rect.unit (s := S2x1x512) ![1, 0, 0] S1x1x512.size inb_S2x1x512_S1x1x512_1_0_0).toLoadRect) (ix3 0 0 c') = B1 (ix3 0 0 c') := fun c' => by
    refine (rdc arg9.view N2 _ 1 rfl 0 c').trans ?_
    rw [eN2, eN1]
    refine (wro arg9.view _ _ _ _ 1 (by decide) 0 c').trans ?_
    exact wrs arg9.view _ _ _ _ 1 rfl 0 c'
  have da1 : ∀ r c', (arg10.view.readCov M2 (Rect.unit (s := S2x144x512) ![1, 0, 0] S1x144x512.size inb_S2x144x512_S1x144x512_1_0_0).toLoadRect) (ix3 0 r c') = A1 (ix3 0 r c') := fun r c' => by
    refine (rdc arg10.view M2 _ 1 rfl r c').trans ?_
    rw [eM2, eM1]
    refine (wro arg10.view _ _ _ _ 1 (by decide) r c').trans ?_
    exact wrs arg10.view _ _ _ _ 1 rfl r c'
  have K3 : ∀ c', Kept (2 * k.val + 2) (raw x0 x1 1 c') (vals x2 1) (B3 (ix3 0 0 c')) (fun r => A3 (ix3 0 r c')) := fun c' => by
    rw [eA3, eB3]
    exact kept_tile (s := raw x0 x1 1) K1 dm1 da1
      (fun u c' => (flat_apply _ u c').trans (b1 u c')) v27 (fun c' j u _ => ht 1 c' j u) (fun c' => hb 1 c' _ _) c'
  refine ⟨Fin.forall_fin_two.2 ⟨fun u c' => ?_, fun u c' => ?_⟩, Fin.forall_fin_two.2 ⟨fun c' => ?_, fun c' => ?_⟩⟩
  · rw [e7]
    exact (wro arg7.view _ _ _ _ 0 (by decide) u c').trans ((wrs arg7.view _ _ _ _ 0 rfl u c').trans (tile_logits (c2 1) qa u c'))
  · rw [e7]
    exact (wrs arg7.view _ _ _ _ 1 rfl u c').trans (tile_logits (c3 1) qb u c')
  · have em : arg9.view.read (Elt Ideal) (arg9.view.writes (Elt Ideal) f_arg9 (⟨(Rect.unit (s := S2x1x512) ![1, 0, 0] S1x1x512.size inb_S2x1x512_S1x1x512_1_0_0), B3⟩ :: N2)) (ix3 0 0 c') = B2 (ix3 0 0 c') := by
      rw [eN2]
      refine (wro arg9.view _ _ _ _ 0 (by decide) 0 c').trans ?_
      exact wrs arg9.view _ _ _ _ 0 rfl 0 c'
    have ea : (fun r => arg10.view.read (Elt Ideal) (arg10.view.writes (Elt Ideal) f_arg10 (⟨(Rect.unit (s := S2x144x512) ![1, 0, 0] S1x144x512.size inb_S2x144x512_S1x144x512_1_0_0), A3⟩ :: M2)) (ix3 0 r c')) = (fun r => A2 (ix3 0 r c')) := funext fun r => by
      rw [eM2]
      refine (wro arg10.view _ _ _ _ 0 (by decide) r c').trans ?_
      exact wrs arg10.view _ _ _ _ 0 rfl r c'
    have := K2 c'
    rw [← em, ← ea] at this
    exact this
  · have em : arg9.view.read (Elt Ideal) (arg9.view.writes (Elt Ideal) f_arg9 (⟨(Rect.unit (s := S2x1x512) ![1, 0, 0] S1x1x512.size inb_S2x1x512_S1x1x512_1_0_0), B3⟩ :: N2)) (ix3 1 0 c') = B3 (ix3 0 0 c') :=
      wrs arg9.view _ _ _ _ 1 rfl 0 c'
    have ea : (fun r => arg10.view.read (Elt Ideal) (arg10.view.writes (Elt Ideal) f_arg10 (⟨(Rect.unit (s := S2x144x512) ![1, 0, 0] S1x144x512.size inb_S2x144x512_S1x144x512_1_0_0), A3⟩ :: M2)) (ix3 1 r c')) = (fun r => A3 (ix3 0 r c')) := funext fun r =>
      wrs arg10.view _ _ _ _ 1 rfl r c'
    have := K3 c'
    rw [← em, ← ea] at this
    exact this

end Cert.AttnBIdeal.Hand

end
-- ==== Proof.AttnB.Walk.lean ====
/- The loops over pairs of key tiles: what the scratch buffers hold after any number of trips. -/
module

public import proofs.«01_k».proof.Proof.AttnB.TripOnline

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 2000000 in
theorem loop1 (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole) (arg1 : BitVec 32) (v25 : BitVec 32) (v56 : FVec Ideal S1x512 .f32) (v72 : FVec Ideal S1x512 .f32) (X_arg2 : BufTy.Contents (Elt Ideal) arg2.view.ty) (X_arg3 : BufTy.Contents (Elt Ideal) arg3.view.ty) (X_arg4 : BufTy.Contents (Elt Ideal) arg4.view.ty) (G_arg7 : BufTy.Contents (Elt Ideal) arg7.view.ty) (G_arg8 : BufTy.Contents (Elt Ideal) arg8.view.ty) (G_arg10 : BufTy.Contents (Elt Ideal) arg10.view.ty) (x0 : Vec Ideal S512x512 .bf16) (x1 : Vec Ideal S8192x512 .bf16) (x2 : Vec Ideal S2x16x144x512 .bf16)
    (h0 : arg2.view.read (Elt Ideal) X_arg2 = x0) (h1 : arg3.view.read (Elt Ideal) X_arg3 = x1) (h2 : arg4.view.read (Elt Ideal) X_arg4 = x2) (sh : Fin 2 → Fin 512 → EReal)
    (hs0 : ∀ c, v56 (ix2 0 c) = sh 0 c) (hs1 : ∀ c, v72 (ix2 0 c) = sh 1 c)
    (h7 : ∀ (h : Fin 2) (u c' : Fin 512), arg7.view.read (Elt Ideal) G_arg7 (ix3 h u c') = raw x0 x1 h c' 0 u)
    (h10 : ∀ (h : Fin 2) (r : Fin 144) (c' : Fin 512), arg10.view.read (Elt Ideal) G_arg10 (ix3 h r c') = (0 : EReal)) :
    ∀ n, n ≤ (k0_t1_loop i).trips →
    (∀ (h : Fin 2) (u c' : Fin 512), arg7.view.read (Elt Ideal) (arg7.view.writes (Elt Ideal) G_arg7 (pb_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 n).1) (ix3 h u c') = raw x0 x1 h c' (2 * n) u) ∧
    (∀ (h : Fin 2) (r : Fin 144) (c' : Fin 512), arg10.view.read (Elt Ideal) (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 n).2.2) (ix3 h r c') = tot (2 * n) (sh h c') (raw x0 x1 h c') (vals x2 h r))
  | 0, _ => ⟨h7, h10⟩
  | n + 1, hn => by
    have ih := loop1 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 x0 x1 x2 h0 h1 h2 sh hs0 hs1 h7 h10 n (by omega)
    have e := pb_k0_t1_succ (F := Ideal) 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 ⟨n, by omega⟩
    have T := trip1 𝒱 c bd i arg2 harg2 arg3 harg3 arg4 harg4 arg5 harg5 arg6 harg6 arg7 harg7 arg8 harg8 arg9 harg9 arg10 harg10 arg1 v25 v56 v72 X_arg2 X_arg3 X_arg4 ⟨n, by omega⟩ (arg7.view.writes (Elt Ideal) G_arg7 (pb_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 n).1) (arg8.view.writes (Elt Ideal) G_arg8 (pb_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 n).2.1) (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg1 v25 v56 v72 X_arg2 X_arg3 X_arg4 G_arg7 G_arg8 G_arg10 n).2.2) x0 x1 x2 h0 h1 h2 sh hs0 hs1
    rw [e]
    refine ⟨fun h u c' => ?_, fun h r c' => ?_⟩
    · exact (congrArg (fun g => arg7.view.read (Elt Ideal) g (ix3 h u c')) (View.writes_append arg7.view _ _ _)).trans (T.1 h u c')
    · refine (congrArg (fun g => arg10.view.read (Elt Ideal) g (ix3 h r c')) (View.writes_append arg10.view _ _ _)).trans ((T.2 h r c').trans ?_)
      rw [show 2 * (n + 1) = (2 * n + 1) + 1 from rfl, tot_succ, tot_succ, ih.2 h r c']
      simp only [ih.1]

set_option maxHeartbeats 2000000 in
theorem loop3 (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole) (arg1 : BitVec 32) (v25 : BitVec 32) (X_arg2 : BufTy.Contents (Elt Ideal) arg2.view.ty) (X_arg3 : BufTy.Contents (Elt Ideal) arg3.view.ty) (X_arg4 : BufTy.Contents (Elt Ideal) arg4.view.ty) (G_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (x0 : Vec Ideal S512x512 .bf16) (x1 : Vec Ideal S8192x512 .bf16) (x2 : Vec Ideal S2x16x144x512 .bf16)
    (h0 : arg2.view.read (Elt Ideal) X_arg2 = x0) (h1 : arg3.view.read (Elt Ideal) X_arg3 = x1) (h2 : arg4.view.read (Elt Ideal) X_arg4 = x2)
    (hf : ∀ h c' j u, ∃ z : ℝ, raw x0 x1 h c' j u = z)
    (h7 : ∀ (h : Fin 2) (u c' : Fin 512), arg7.view.read (Elt Ideal) G_arg7 (ix3 h u c') = raw x0 x1 h c' 0 u)
    (h9 : ∀ (h : Fin 2) (c' : Fin 512), arg9.view.read (Elt Ideal) G_arg9 (ix3 h 0 c') = (⊥ : EReal))
    (h10 : ∀ (h : Fin 2) (r : Fin 144) (c' : Fin 512), arg10.view.read (Elt Ideal) G_arg10 (ix3 h r c') = (0 : EReal)) :
    ∀ n, n ≤ (k0_t3_loop i).trips →
    (∀ (h : Fin 2) (u c' : Fin 512), arg7.view.read (Elt Ideal) (arg7.view.writes (Elt Ideal) G_arg7 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).1) (ix3 h u c') = raw x0 x1 h c' (2 * n) u) ∧
    (∀ (h : Fin 2) (c' : Fin 512), Kept (2 * n) (raw x0 x1 h c') (vals x2 h) (arg9.view.read (Elt Ideal) (arg9.view.writes (Elt Ideal) G_arg9 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).2.2.1) (ix3 h 0 c')) (fun r => arg10.view.read (Elt Ideal) (arg10.view.writes (Elt Ideal) G_arg10 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).2.2.2) (ix3 h r c')))
  | 0, _ => ⟨h7, fun h c' => ⟨Or.inl ⟨rfl, h9 h c'⟩, fun r => h10 h r c'⟩⟩
  | n + 1, hn => by
    have ih := loop3 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 x0 x1 x2 h0 h1 h2 hf h7 h9 h10 n (by omega)
    have e := pb_k0_t3_succ (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 ⟨n, by omega⟩
    have T := trip3 𝒱 c bd i arg2 harg2 arg3 harg3 arg4 harg4 arg5 harg5 arg6 harg6 arg7 harg7 arg8 harg8 arg9 harg9 arg10 harg10 arg1 v25 X_arg2 X_arg3 X_arg4 ⟨n, by omega⟩ (arg7.view.writes (Elt Ideal) G_arg7 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).1) (arg8.view.writes (Elt Ideal) G_arg8 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).2.1) (arg9.view.writes (Elt Ideal) G_arg9 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).2.2.1) (arg10.view.writes (Elt Ideal) G_arg10 (pb_k0_t3 (F := Ideal) 𝒱 c bd i arg2 harg2 arg3 harg3 arg4 harg4 arg5 harg5 arg6 harg6 arg7 harg7 arg8 harg8 arg9 harg9 arg10 harg10 arg1 v25 X_arg2 X_arg3 X_arg4 G_arg7 G_arg8 G_arg9 G_arg10 n).2.2.2) x0 x1 x2 h0 h1 h2 hf ih.1 ih.2
    rw [e]
    refine ⟨fun h u c' => ?_, fun h c' => ?_⟩
    · exact (congrArg (fun g => arg7.view.read (Elt Ideal) g (ix3 h u c')) (View.writes_append arg7.view _ _ _)).trans (T.1 h u c')
    · have := T.2 h c'
      simp only [← View.writes_append] at this
      exact this

end Cert.AttnBIdeal.Hand

end
-- ==== Proof.AttnB.Spec.lean ====
/- What the body leaves in its output block, and the facts the four ways through it share. -/
module

public import proofs.«01_k».proof.Proof.AttnB.Walk
public import proofs.«01_k».proof.Proof.AttnB.Any

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The logits of query `c` of block `n`, the keys after it masked. -/
def causal (n : ℕ) (s : Fin 512 → ℕ → Fin 512 → EReal) (c : Fin 512) (j : ℕ) (k : Fin 512) : EReal :=
  if 512 * j + k.val ≤ 512 * n + c.val then s c j k else ⊥

theorem causal_before {n j : ℕ} (hj : j < n) (s : Fin 512 → ℕ → Fin 512 → EReal) (c k : Fin 512) : causal n s c j k = s c j k :=
  if_pos (by have := k.isLt; omega)

theorem causal_diag (n : ℕ) (s : Fin 512 → ℕ → Fin 512 → EReal) (c k : Fin 512) : causal n s c n k = if k.val ≤ c.val then s c n k else ⊥ := by
  unfold causal
  by_cases h : k.val ≤ c.val
  · rw [if_pos h, if_pos (by omega)]
  · rw [if_neg h, if_neg (by omega)]

theorem causal_ne_top {n : ℕ} {s : Fin 512 → ℕ → Fin 512 → EReal} (hs : ∀ c j k, s c j k ≠ ⊤) (c : Fin 512) (j : ℕ) (k : Fin 512) : causal n s c j k ≠ ⊤ := by
  unfold causal
  split
  · exact hs _ _ _
  · exact bot_ne_top

theorem causal_first {n j : ℕ} (hj : j ≤ n) {s : Fin 512 → ℕ → Fin 512 → EReal} (hs : ∀ c j k, s c j k ≠ ⊥) (c : Fin 512) : causal n s c j 0 ≠ ⊥ := by
  unfold causal
  rw [if_pos (by show 512 * j + 0 ≤ _; omega)]
  exact hs _ _ _

theorem tot_congr {n : ℕ} {M : EReal} {s s' v : ℕ → Fin 512 → EReal} (h : ∀ j < n, ∀ k, s j k = s' j k) : tot n M s v = tot n M s' v :=
  Finset.sum_congr rfl fun j hj => Finset.sum_congr rfl fun k _ => by rw [h j (Finset.mem_range.1 hj) k]

theorem Kept.congr {n : ℕ} {s s' : ℕ → Fin 512 → EReal} {V : Fin 144 → ℕ → Fin 512 → EReal} {M : EReal} {acc : Fin 144 → EReal}
    (h : Kept n s V M acc) (hs : ∀ j < n, ∀ k, s j k = s' j k) : Kept n s' V M acc :=
  ⟨h.1, fun r => (h.2 r).trans (tot_congr hs)⟩

/-- A head's masked tile on the diagonal. -/
theorem masked_causal (i : grid0.Coords) {x : FVec Ideal S512x512 .f32} {s : Fin 512 → ℕ → Fin 512 → EReal}
    (hx : ∀ k c, x (ix2 k c) = s c (i 1).val k) (k c : Fin 512) :
    masked (F := Ideal) (BitVec.ofNat 32 (i 1).val) (sel i) x (ix2 k c) = causal (i 1).val s c (i 1).val k := by
  rw [masked_apply, causal_diag, hx]

/-- The attention's output block: the values' weighted sums over the causal keys, normalised. -/
def attended (n : ℕ) (x0 : Vec Ideal S512x512 .bf16) (x1 : Vec Ideal S8192x512 .bf16) (x2 : Vec Ideal S2x16x144x512 .bf16) : Vec Ideal S512x256 .bf16 := fun y =>
  Ideal.div (tot (n + 1) (0 : ℝ) (causal n (raw x0 x1 ⟨(y 1).val / 128, by have : (y 1).val < 256 := (y 1).isLt; omega⟩) (y 0)) (vals x2 ⟨(y 1).val / 128, by have : (y 1).val < 256 := (y 1).isLt; omega⟩ ⟨(y 1).val % 128, by omega⟩))
    (tot (n + 1) (0 : ℝ) (causal n (raw x0 x1 ⟨(y 1).val / 128, by have : (y 1).val < 256 := (y 1).isLt; omega⟩) (y 0)) (fun _ _ => 1))

/-- Two normalised accumulators stored side by side are the output block. -/
theorem out_read {κ : Kind} {sp : Space} (v : View sig κ sp S512x256 .bf16) (f : v.ty.Contents (Elt Ideal)) (n : ℕ)
    (x0 : Vec Ideal S512x512 .bf16) (x1 : Vec Ideal S8192x512 .bf16) (x2 : Vec Ideal S2x16x144x512 .bf16)
    (ht : ∀ h c j k, raw x0 x1 h c j k ≠ ⊤) (hb : ∀ h c j k, raw x0 x1 h c j k ≠ ⊥) (hone : ∀ h j k, x2 (ix4 h j 128 k) = (1 : EReal))
    (L : List (View.Piece (Elt Ideal) S512x256 .bf16)) (a0 a1 : Vec Ideal S1x144x512 .f32)
    (hL : L = [⟨Rect.unit (s := S512x256) ![0, 128] S512x128.size inb_S512x256_S512x128_0_128, k0_pay8 (F := Ideal) a1⟩, ⟨Rect.unit (s := S512x256) ![0, 0] S512x128.size inb_S512x256_S512x128_0_0, k0_pay7 (F := Ideal) a0⟩])
    (h0 : ∀ c, ∃ μ : ℝ, ∀ r, a0 (ix3 0 r c) = tot (n + 1) μ (causal n (raw x0 x1 0) c) (vals x2 0 r))
    (h1 : ∀ c, ∃ μ : ℝ, ∀ r, a1 (ix3 0 r c) = tot (n + 1) μ (causal n (raw x0 x1 1) c) (vals x2 1 r)) :
    v.read (Elt Ideal) (v.writes (Elt Ideal) f L) = attended n x0 x1 x2 := by
  have ones : ∀ h : Fin 2, vals x2 h 128 = fun _ _ => 1 := fun h => funext fun j => funext fun k => hone h (tile j) k
  have key : ∀ (h : Fin 2) (a : Vec Ideal S1x144x512 .f32) (c : Fin 512) (r : Fin 128),
      (∃ μ : ℝ, ∀ r, a (ix3 0 r c) = tot (n + 1) μ (causal n (raw x0 x1 h) c) (vals x2 h r)) →
      Ideal.div (a (ix3 0 ⟨r.val, by omega⟩ c)) (a (ix3 0 128 c))
        = Ideal.div (tot (n + 1) (0 : ℝ) (causal n (raw x0 x1 h) c) (vals x2 h ⟨r.val, by omega⟩)) (tot (n + 1) (0 : ℝ) (causal n (raw x0 x1 h) c) (fun _ _ => 1)) := by
    rintro h a c r ⟨μ, hμ⟩
    rw [hμ, hμ, ones]
    exact ratio_shift (n + 1) μ 0 _ _ (fun j _ k => causal_ne_top (ht h) c j k) (Nat.succ_pos n) (causal_first (Nat.zero_le n) (hb h) c)
  subst hL
  funext y
  have hy : (y 1).val < 256 := (y 1).isLt
  by_cases hlt : (y 1).val < 128
  · refine (View.read_writes_cons_unit_of_not_mem v f _ _ _ y rfl (1 : Fin 2) (Or.inl (by show (y 1).val < 128; exact hlt))).trans ?_
    refine (View.read_writes_cons_unit_of_mem v f _ _ _ y (ix2 (y 0) ⟨(y 1).val, hlt⟩) rfl (fun a => ?_)).trans ?_
    · fin_cases a
      · show (y 0).val = 0 + (y 0).val
        omega
      · show (y 1).val = 0 + (y 1).val
        omega
    · refine (out_apply a0 (y 0) ⟨(y 1).val, hlt⟩).trans ((key 0 a0 (y 0) ⟨(y 1).val, hlt⟩ (h0 _)).trans ?_)
      unfold attended
      have e1 : (⟨(y 1).val / 128, by omega⟩ : Fin 2) = 0 := Fin.ext (by show (y 1).val / 128 = 0; omega)
      have e2 : (⟨(y 1).val % 128, by omega⟩ : Fin 144) = ⟨(y 1).val, by omega⟩ := Fin.ext (by show (y 1).val % 128 = (y 1).val; omega)
      rw [e1, e2]
  · refine (View.read_writes_cons_unit_of_mem v f _ _ _ y (ix2 (y 0) ⟨(y 1).val - 128, by omega⟩) rfl (fun a => ?_)).trans ?_
    · fin_cases a
      · show (y 0).val = 0 + (y 0).val
        omega
      · show (y 1).val = 128 + ((y 1).val - 128)
        omega
    · refine (out_apply' a1 (y 0) ⟨(y 1).val - 128, by omega⟩).trans ((key 1 a1 (y 0) ⟨(y 1).val - 128, by omega⟩ (h1 _)).trans ?_)
      unfold attended
      have e1 : (⟨(y 1).val / 128, by omega⟩ : Fin 2) = 1 := Fin.ext (by show (y 1).val / 128 = 1; omega)
      have e2 : (⟨(y 1).val % 128, by omega⟩ : Fin 144) = ⟨(y 1).val - 128, by omega⟩ := Fin.ext (by show (y 1).val % 128 = (y 1).val - 128; omega)
      rw [e1, e2]

/-- Real queries and keys have real logits. -/
theorem raw_real {x0 : Vec Ideal S512x512 .bf16} {x1 : Vec Ideal S8192x512 .bf16} (hq : ∀ y, ∃ z : ℝ, x0 y = (z : EReal)) (hk : ∀ y, ∃ z : ℝ, x1 y = (z : EReal))
    (h : Fin 2) (c : Fin 512) (j : ℕ) (k : Fin 512) : ∃ z : ℝ, raw x0 x1 h c j k = z := by
  choose f hf using hq
  choose g hg using hk
  refine ⟨∑ d : Fin 256, g (ix2 (key j k) (col h d)) * f (ix2 c (col h d)), ?_⟩
  rw [coe_sum]
  unfold raw
  exact Finset.sum_congr rfl fun d _ => by rw [hf, hg, EReal.coe_mul]

/-- On the branch with a fixed shift, both heads' shifts are real. -/
theorem fixed_real (i : grid0.Coords) (arg2 : Memref sig .tc .vmem S512x512 .bf16) (harg2 : arg2.IsWhole) (arg5 : Memref sig .tc .vmem S16x128 .f32) (harg5 : arg5.IsWhole)
    (x0 : Vec Ideal S512x512 .bf16) (x3 : Vec Ideal S16x128 .f32) (hf : Fixed i arg2 harg2 arg5 harg5 x0 x3)
    (hq : ∀ y, ∃ z : ℝ, x0 y = (z : EReal)) (hn : ∀ y, (0 : EReal) ≤ x3 y) :
    ∃ sh : Fin 2 → Fin 512 → ℝ,
      (∀ c, k0_pay168 (F := Ideal) (View.readAt (Elt Ideal) arg2.view (Rect.unit (s := S512x512) ![0, 0] S512x256.size inb_S512x512_S512x256_0_0).toLoadRect (harg2.unread x0))
        (View.readAt (Elt Ideal) arg5.view (Rect.unit (s := S16x128) (k0_off1 i 0#32) S1x1.size (k0_off1_inb i 0)).toLoadRect (harg5.unread x3)) (ix2 0 c) = (sh 0 c : EReal)) ∧
      (∀ c, k0_pay1 (F := Ideal) (View.readAt (Elt Ideal) arg5.view (Rect.unit (s := S16x128) (k0_off1 i 1#32) S1x1.size (k0_off1_inb i 1)).toLoadRect (harg5.unread x3))
        (k0_pay169 (View.readAt (Elt Ideal) arg2.view (Rect.unit (s := S512x512) ![0, 256] S512x256.size inb_S512x512_S512x256_0_256).toLoadRect (harg2.unread x0))) (ix2 0 c) = (sh 1 c : EReal)) := by
  have hflag : flag i arg2 harg2 arg5 harg5 x0 x3 = 1#1 := by
    have : ∀ b : BitVec 1, Scalar.cmpi .ne (Scalar.extui b : BitVec 32) 0#32 = 1#1 → b = 1#1 := by decide
    exact this _ hf
  have hs := span_lt _ _ _ hflag
  have rq : ∀ (h : Fin 2) (o : ℕ) (ho : o = 256 * h.val) (inb : ∀ a, (![0, o] : Fin 2 → ℕ) a + S512x256.size a ≤ S512x512.size a) (c : Fin 512) (d : Fin 256),
      ∃ z : ℝ, (View.readAt (Elt Ideal) arg2.view (Rect.unit (s := S512x512) ![0, o] S512x256.size inb).toLoadRect (harg2.unread x0) : S512x256.Idx → EReal) (ix2 c d) = z := fun h o ho inb c d => by
    obtain ⟨z, hz⟩ := hq (ix2 c (col h d))
    refine ⟨z, (rdq arg2.view (harg2.unread x0) inb h ho c d).trans ?_⟩
    rw [harg2.read_unread]; exact hz
  have hn0 : ∀ (off : Fin 2 → ℕ) (inb : ∀ a, off a + S1x1.size a ≤ S16x128.size a),
      (0 : EReal) ≤ (View.readAt (Elt Ideal) arg5.view (Rect.unit (s := S16x128) off S1x1.size inb).toLoadRect (harg5.unread x3) : S1x1.Idx → EReal) (ix2 0 0) := fun off inb => by
    rw [View.readAt_apply, harg5.read_unread]; exact hn _
  have r0 : ∀ c, ∃ M : ℝ, k0_pay168 (F := Ideal) (View.readAt (Elt Ideal) arg2.view (Rect.unit (s := S512x512) ![0, 0] S512x256.size inb_S512x512_S512x256_0_0).toLoadRect (harg2.unread x0))
        (View.readAt (Elt Ideal) arg5.view (Rect.unit (s := S16x128) (k0_off1 i 0#32) S1x1.size (k0_off1_inb i 0)).toLoadRect (harg5.unread x3)) (ix2 0 c) = (M : EReal) := fun c => by
    have h := (hs c).1
    rw [shift0_apply] at h ⊢
    exact shift_real _ _ (fun d => rq 0 0 rfl _ c d) (hn0 _ _) h
  have r1 : ∀ c, ∃ M : ℝ, k0_pay1 (F := Ideal) (View.readAt (Elt Ideal) arg5.view (Rect.unit (s := S16x128) (k0_off1 i 1#32) S1x1.size (k0_off1_inb i 1)).toLoadRect (harg5.unread x3))
        (k0_pay169 (View.readAt (Elt Ideal) arg2.view (Rect.unit (s := S512x512) ![0, 256] S512x256.size inb_S512x512_S512x256_0_256).toLoadRect (harg2.unread x0))) (ix2 0 c) = (M : EReal) := fun c => by
    have h := (hs c).2
    rw [shift1_apply] at h ⊢
    exact shift_real _ _ (fun d => rq 1 256 rfl _ c d) (hn0 _ _) h
  choose f hf0 using r0
  choose g hg0 using r1
  exact ⟨![f, g], hf0, hg0⟩

theorem zero_fill (h : Fin 2) (r : Fin 144) (c : Fin 512) : k0_pay164 (F := Ideal) (ix3 h r c) = (0 : EReal) := by
  pointwise! [k0_pay164]

theorem bot_fill (h : Fin 2) (c : Fin 512) : k0_pay163 (F := Ideal) (ix3 h 0 c) = (⊥ : EReal) := by
  have hm : (Named.named κ "mask" 0xF149F2CA#32 : Ideal .f32) = (⊥ : EReal) := rfl
  pointwise! [k0_pay163]

end Cert.AttnBIdeal.Hand

end
-- ==== Proof.AttnB.Causal.lean ====
/- Causal attention over the whole sequence, in base two: what the grid points' blocks are blocks of. -/
module

public import proofs.«01_k».proof.Proof.AttnB.Spec

@[expose] public section

set_option maxRecDepth 16384

noncomputable section

namespace Cert.AttnBIdeal.Hand

open Idealize.ShloMosaic

/-- Column `d` of head `H` among the heads' 256 columns each. -/
def column (H : Fin 8) (d : Fin 256) : Fin 2048 := ⟨256 * H.val + d.val, by omega⟩

variable (q k : Fin 8192 → Fin 2048 → EReal) (v : Fin 8192 → Fin 1024 → EReal)

/-- The logit of a query row against a key row, the keys after the query masked. -/
def seen (H : Fin 8) (R K : Fin 8192) : EReal :=
  if K.val ≤ R.val then ∑ d : Fin 256, q R (column H d) * k K (column H d) else ⊥

/-- A function of the key rows, tile by tile. -/
def tiles (s : Fin 8192 → EReal) (j : ℕ) (x : Fin 512) : EReal := s (key j x)

/-- One element of the attention: the values' weighted sum over the sum of the weights. -/
def result (R : Fin 8192) (w : Fin 1024) : EReal :=
  Ideal.div (tot 16 (0 : ℝ) (tiles (seen q k ⟨w.val / 128, by omega⟩ R)) (tiles fun K => v K w))
    (tot 16 (0 : ℝ) (tiles (seen q k ⟨w.val / 128, by omega⟩ R)) (fun _ _ => 1))

/-- The tiles' sum is the sum over the key rows. -/
theorem tot_all (M : EReal) (s u : Fin 8192 → EReal) :
    tot 16 M (tiles s) (tiles u) = ∑ K : Fin 8192, u K * weight M (s K) := by
  unfold tot
  rw [Finset.sum_range fun j => ∑ x, tiles u j x * weight M (tiles s j x),
    ← Fintype.sum_prod_type' (f := fun (j : Fin 16) (x : Fin 512) => tiles u j.val x * weight M (tiles s j.val x))]
  refine Fintype.sum_equiv (finProdFinEquiv (m := 16) (n := 512)) _ (fun K : Fin 8192 => u K * weight M (s K)) fun p => ?_
  have e : key p.1.val p.2 = (finProdFinEquiv (m := 16) (n := 512) p : Fin 8192) :=
    Fin.ext (by have := p.1.isLt; have := p.2.isLt; show (512 * p.1.val + p.2.val) % 8192 = p.2.val + 512 * p.1.val; omega)
  show u (key p.1.val p.2) * weight M (s (key p.1.val p.2)) = _
  rw [e]

/-- Tiles that are masked throughout add nothing. -/
theorem tot_skip {n n' : ℕ} (h : n ≤ n') (M : ℝ) (s u : ℕ → Fin 512 → EReal) (hb : ∀ j, n ≤ j → j < n' → ∀ x, s j x = ⊥) :
    tot n M s u = tot n' M s u := by
  refine Finset.sum_subset (Finset.range_mono h) fun j hj hn => Finset.sum_eq_zero fun x _ => ?_
  rw [hb j (not_lt.1 fun h => hn (Finset.mem_range.2 h)) (Finset.mem_range.1 hj) x]
  unfold weight
  rw [EReal.bot_sub, Ideal.exp2_bot, mul_zero]

/-- The sum over the tiles up to the diagonal is the sum over all of them. -/
theorem tot_causal {n : ℕ} (hn : n < 16) (s u s' u' : ℕ → Fin 512 → EReal) (hs : ∀ j, j ≤ n → ∀ x, s j x = s' j x)
    (hu : ∀ j, j ≤ n → ∀ x, u j x = u' j x) (hb : ∀ j, n < j → j < 16 → ∀ x, s' j x = ⊥) :
    tot (n + 1) (0 : ℝ) s u = tot 16 (0 : ℝ) s' u' := by
  rw [← tot_skip (n := n + 1) (n' := 16) (by omega) 0 s' u' fun j hj => hb j hj]
  exact Finset.sum_congr rfl fun j hj => Finset.sum_congr rfl fun x _ => by
    have := Finset.mem_range.1 hj
    rw [hs j (by omega), hu j (by omega)]

/-- A block of the attention is the block of the whole. -/
theorem attended_eq (n p : ℕ) (hn : n < 16) (hp : p < 4) (x0 : Vec Ideal S512x512 .bf16) (x1 : Vec Ideal S8192x512 .bf16) (x2 : Vec Ideal S2x16x144x512 .bf16)
    (e0 : ∀ c d : Fin 512, x0 (ix2 c d) = q ⟨512 * n + c.val, by omega⟩ ⟨512 * p + d.val, by omega⟩)
    (e1 : ∀ (K : Fin 8192) (d : Fin 512), x1 (ix2 K d) = k K ⟨512 * p + d.val, by omega⟩)
    (e2 : ∀ (h : Fin 2) (j : Fin 16) (r : Fin 144) (hr : r.val < 128) (x : Fin 512),
      x2 (ix4 h j r x) = v ⟨512 * j.val + x.val, by omega⟩ ⟨256 * p + 128 * h.val + r.val, by omega⟩)
    (c : Fin 512) (y : Fin 256) (R : Fin 8192) (hR : R.val = 512 * n + c.val) (w : Fin 1024) (hw : w.val = 256 * p + y.val) :
    attended n x0 x1 x2 (ix2 c y) = result q k v R w := by
  have hy := y.isLt
  have hc := c.isLt
  have hs : ∀ j, j ≤ n → ∀ x, causal n (raw x0 x1 ⟨y.val / 128, by omega⟩) c j x = tiles (seen q k ⟨w.val / 128, by omega⟩ R) j x := fun j hj x => by
    have hx := x.isLt
    unfold causal tiles seen
    have ek : (key j x).val = 512 * j + x.val := by show (512 * j + x.val) % 8192 = _; omega
    rw [ek, hR]
    refine if_congr Iff.rfl ?_ rfl
    unfold raw
    refine Finset.sum_congr rfl fun d _ => ?_
    rw [e0, e1, mul_comm]
    have er : (⟨512 * n + c.val, by omega⟩ : Fin 8192) = R := Fin.ext hR.symm
    have ec : (⟨512 * p + (col ⟨y.val / 128, by omega⟩ d).val, by have := (col ⟨y.val / 128, by omega⟩ d).isLt; omega⟩ : Fin 2048) = column ⟨w.val / 128, by omega⟩ d :=
      Fin.ext (by show 512 * p + (256 * (y.val / 128) + d.val) = 256 * (w.val / 128) + d.val; omega)
    rw [er, ec]
  have hb : ∀ j, n < j → j < 16 → ∀ x, tiles (seen q k ⟨w.val / 128, by omega⟩ R) j x = ⊥ := fun j hj hj' x => by
    have hx := x.isLt
    unfold tiles seen
    have ek : (key j x).val = 512 * j + x.val := by show (512 * j + x.val) % 8192 = _; omega
    rw [if_neg (by rw [ek, hR]; omega)]
  have hv : ∀ j, j ≤ n → ∀ x, vals x2 ⟨y.val / 128, by omega⟩ ⟨y.val % 128, by omega⟩ j x = tiles (fun K => v K w) j x := fun j hj x => by
    have hx := x.isLt
    unfold vals tiles
    rw [e2 _ _ _ (by show y.val % 128 < 128; omega)]
    have ek : (⟨512 * (tile j).val + x.val, by have := (tile j).isLt; omega⟩ : Fin 8192) = key j x :=
      Fin.ext (by show 512 * (j % 16) + x.val = (512 * j + x.val) % 8192; omega)
    have ew : (⟨256 * p + 128 * (y.val / 128) + y.val % 128, by omega⟩ : Fin 1024) = w := Fin.ext (by show 256 * p + 128 * (y.val / 128) + y.val % 128 = w.val; omega)
    exact congrArg₂ v ek ew
  unfold result
  exact congrArg₂ Ideal.div (tot_causal hn _ _ _ _ hs hv hb) (tot_causal hn _ _ _ _ hs (fun _ _ _ => rfl) hb)

end Cert.AttnBIdeal.Hand

end
-- ==== Proof.AttnB.CaseA.lean ====
/- Block with an even number of tiles before the diagonal, the shift fixed: what the body leaves in its output block. -/
module

public import proofs.«01_k».proof.Proof.AttnB.Spec

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The stores of the body, in order. -/
theorem piecesA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : Fixed i arg2 harg2 arg5 harg5 x0 x3) (hn : ¬Online i arg2 harg2 arg5 harg5 x0 x3) (ho : ¬k0_cond2 i = 1#1) (he : k0_cond3 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))  :
    ∃ (s0 : FVec Ideal S1x512 .f32) (s1 : FVec Ideal S1x512 .f32) (E7 : List (View.Piece (Elt Ideal) S2x512x512 .f32)) (E10 : List (View.Piece (Elt Ideal) S2x144x512 .f32)) (R7 : List (View.Piece (Elt Ideal) S2x512x512 .f32)) (M0 : List (View.Piece (Elt Ideal) S2x144x512 .f32)) (A0 : FVec Ideal S1x144x512 .f32) (M1 : List (View.Piece (Elt Ideal) S2x144x512 .f32)) (A1 : FVec Ideal S1x144x512 .f32) (M2 : List (View.Piece (Elt Ideal) S2x144x512 .f32)),
      s0 = (k0_pay168 (F := Ideal) (View.readAt (Elt Ideal) arg2.view (Rect.unit (s := S512x512) ![0, 0] S512x256.size inb_S512x512_S512x256_0_0).toLoadRect (harg2.unread x0)) (View.readAt (Elt Ideal) arg5.view (Rect.unit (s := S16x128) (k0_off1 i 0#32) S1x1.size (k0_off1_inb i 0)).toLoadRect (harg5.unread x3))) ∧
      s1 = (k0_pay1 (F := Ideal) (View.readAt (Elt Ideal) arg5.view (Rect.unit (s := S16x128) (k0_off1 i 1#32) S1x1.size (k0_off1_inb i 1)).toLoadRect (harg5.unread x3)) (k0_pay169 (View.readAt (Elt Ideal) arg2.view (Rect.unit (s := S512x512) ![0, 256] S512x256.size inb_S512x512_S512x256_0_256).toLoadRect (harg2.unread x0)))) ∧
      E7 = (([⟨(Rect.unit (s := S2x512x512) ![1, 0, 0] S1x512x512.size inb_S2x512x512_S1x512x512_1_0_0), k0_pay9 (F := Ideal) (View.readAt (Elt Ideal) arg3.view (Rect.unit (s := S8192x512) ![0, 256] S512x256.size inb_S8192x512_S512x256_0_256).toLoadRect (harg3.unread x1)) (View.readAt (Elt Ideal) arg2.view (Rect.unit (s := S512x512) ![0, 256] S512x256.size inb_S512x512_S512x256_0_256).toLoadRect (harg2.unread x0))⟩, ⟨(Rect.unit (s := S2x512x512) ![0, 0, 0] S1x512x512.size inb_S2x512x512_S1x512x512_0_0_0), k0_pay9 (F := Ideal) (View.readAt (Elt Ideal) arg3.view (Rect.unit (s := S8192x512) ![0, 0] S512x256.size inb_S8192x512_S512x256_0_0).toLoadRect (harg3.unread x1)) (View.readAt (Elt Ideal) arg2.view (Rect.unit (s := S512x512) ![0, 0] S512x256.size inb_S512x512_S512x256_0_0).toLoadRect (harg2.unread x0))⟩] : List (View.Piece (Elt Ideal) S2x512x512 .f32)) : List (View.Piece (Elt Ideal) S2x512x512 .f32)) ∧
      E10 = (([⟨(Rect.unit (s := S2x144x512) ![0, 0, 0] S2x144x512.size inb_S2x144x512_S2x144x512_0_0_0), k0_pay164 (F := Ideal)⟩] : List (View.Piece (Elt Ideal) S2x144x512 .f32)) : List (View.Piece (Elt Ideal) S2x144x512 .f32)) ∧
      R7 = ((pb_k0_t1 (F := Ideal) Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) ((i 1).val / 2)).1 ++ E7 : List (View.Piece (Elt Ideal) S2x512x512 .f32)) ∧
      M0 = ((pb_k0_t1 (F := Ideal) Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) ((i 1).val / 2)).2.2 ++ E10 : List (View.Piece (Elt Ideal) S2x144x512 .f32)) ∧
      A0 = fixStep (F := Ideal) s0 (masked (F := Ideal) (BitVec.ofNat 32 (i 1).val) (sel i) (flat (F := Ideal) (arg7.view.readCov R7 (Rect.unit (s := S2x512x512) ![0, 0, 0] S1x512x512.size inb_S2x512x512_S1x512x512_0_0_0).toLoadRect))) (View.readAt (Elt Ideal) arg4.view (Rect.unit (s := S2x16x144x512) (k0_off20 i) S1x1x144x512.size (k0_off20_inb i he)).toLoadRect (harg4.unread x2)) (arg10.view.readCov M0 (Rect.unit (s := S2x144x512) ![0, 0, 0] S1x144x512.size inb_S2x144x512_S1x144x512_0_0_0).toLoadRect) ∧
      M1 = (⟨(Rect.unit (s := S2x144x512) ![0, 0, 0] S1x144x512.size inb_S2x144x512_S1x144x512_0_0_0), A0⟩ :: M0 : List (View.Piece (Elt Ideal) S2x144x512 .f32)) ∧
      A1 = fixStep (F := Ideal) s1 (masked (F := Ideal) (BitVec.ofNat 32 (i 1).val) (sel i) (flat (F := Ideal) (arg7.view.readCov R7 (Rect.unit (s := S2x512x512) ![1, 0, 0] S1x512x512.size inb_S2x512x512_S1x512x512_1_0_0).toLoadRect))) (View.readAt (Elt Ideal) arg4.view (Rect.unit (s := S2x16x144x512) (k0_off21 i) S1x1x144x512.size (k0_off21_inb i he)).toLoadRect (harg4.unread x2)) (arg10.view.readCov M1 (Rect.unit (s := S2x144x512) ![1, 0, 0] S1x144x512.size inb_S2x144x512_S1x144x512_1_0_0).toLoadRect) ∧
      M2 = (⟨(Rect.unit (s := S2x144x512) ![1, 0, 0] S1x144x512.size inb_S2x144x512_S1x144x512_1_0_0), A1⟩ :: M1 : List (View.Piece (Elt Ideal) S2x144x512 .f32)) ∧
      (runA (F := Ideal) c i arg2 harg2 arg3 harg3 arg4 harg4 arg5 harg5 arg6 harg6 arg7 harg7 arg8 harg8 arg9 harg9 arg10 harg10 x0 x1 x2 x3 hf hn ho he fs0 fs1 fs2 fs3).1 = [⟨Rect.unit (s := S512x256) ![0, 128] S512x128.size inb_S512x256_S512x128_0_128, k0_pay8 (F := Ideal) (arg10.view.readCov M2 (Rect.unit (s := S2x144x512) ![1, 0, 0] S1x144x512.size inb_S2x144x512_S1x144x512_1_0_0).toLoadRect)⟩, ⟨Rect.unit (s := S512x256) ![0, 0] S512x128.size inb_S512x256_S512x128_0_0, k0_pay7 (F := Ideal) (arg10.view.readCov M2 (Rect.unit (s := S2x144x512) ![0, 0, 0] S1x144x512.size inb_S2x144x512_S1x144x512_0_0_0).toLoadRect)⟩] := by
  refine ⟨_, _, _, _, _, _, _, _, _, _, rfl, rfl, rfl, rfl, rfl, rfl, rfl, rfl, rfl, rfl, ?_⟩
  have e1 : Scf.trips (k0_t1_loop i).lb (k0_t1_loop i).ub (k0_t1_loop i).st = (i 1).val / 2 := (trips_eq i).1
  have e2 : Scf.trips (k0_t2_loop i).lb (k0_t2_loop i).ub (k0_t2_loop i).st = 0 := (trips_eq i).2.1
  have e3 : Scf.trips (k0_t3_loop i).lb (k0_t3_loop i).ub (k0_t3_loop i).st = (i 1).val / 2 := (trips_eq i).2.2.1
  have e4 : Scf.trips (k0_t4_loop i).lb (k0_t4_loop i).ub (k0_t4_loop i).st = 0 := (trips_eq i).2.2.2
  unfold runA
  sl_unfold_run_names
  dsimp only
  simp only [e1, e2, e3, e4, pb_k0_t2, pb_k0_t4, List.nil_append, View.writes_nil]
  rfl

set_option maxHeartbeats 2000000 in
/-- Block with an even number of tiles before the diagonal, the shift fixed: what the body leaves in its output block. -/
theorem valueA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : Fixed i arg2 harg2 arg5 harg5 x0 x3) (hn : ¬Online i arg2 harg2 arg5 harg5 x0 x3) (ho : ¬k0_cond2 i = 1#1) (he : k0_cond3 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))
    (hq : ∀ y, ∃ z : ℝ, x0 y = (z : EReal)) (hk : ∀ y, ∃ z : ℝ, x1 y = (z : EReal)) (hone : ∀ h j k, x2 (ix4 h j 128 k) = (1 : EReal)) (hkn : ∀ y, (0 : EReal) ≤ x3 y)
    (f : Buf (Elt Ideal) (arg6.view.loc (c : Thread nD τ))) :
    arg6.view.read (Elt Ideal) (arg6.view.writes (Elt Ideal) f (runA (F := Ideal) c i arg2 harg2 arg3 harg3 arg4 harg4 arg5 harg5 arg6 harg6 arg7 harg7 arg8 harg8 arg9 harg9 arg10 harg10 x0 x1 x2 x3 hf hn ho he fs0 fs1 fs2 fs3).1) = attended (i 1).val x0 x1 x2 := by
  have hr := fun h c' j u => raw_real hq hk h c' j u
  have ht : ∀ h c' j u, raw x0 x1 h c' j u ≠ ⊤ := fun h c' j u => by
    obtain ⟨z, hz⟩ := hr h c' j u
    rw [hz]; exact EReal.coe_ne_top z
  have hb : ∀ h c' j u, raw x0 x1 h c' j u ≠ ⊥ := fun h c' j u => by
    obtain ⟨z, hz⟩ := hr h c' j u
    rw [hz]; exact EReal.coe_ne_bot z
  have hi : (i 1).val < 16 := (i 1).isLt
  have hp := even3 i ho
  obtain ⟨sh, hs0, hs1⟩ := fixed_real i arg2 harg2 arg5 harg5 x0 x3 hf hq hkn
  obtain ⟨s0, s1, E7, E10, R7, M0, A0, M1, A1, M2, es0, es1, eE7, eE10, eR7, eM0, eA0, eM1, eA1, eM2, e⟩ := piecesA c i arg2 harg2 arg3 harg3 arg4 harg4 arg5 harg5 arg6 harg6 arg7 harg7 arg8 harg8 arg9 harg9 arg10 harg10 x0 x1 x2 x3 hf hn ho he fs0 fs1 fs2 fs3
  have h0 := harg2.read_unread (Val := (Elt Ideal)) x0
  have h1 := harg3.read_unread (Val := (Elt Ideal)) x1
  have h2 := harg4.read_unread (Val := (Elt Ideal)) x2
  have qa : ∀ (u : Fin 512) (d : Fin 256), (View.readAt (Elt Ideal) arg2.view (Rect.unit (s := S512x512) ![0, 0] S512x256.size inb_S512x512_S512x256_0_0).toLoadRect (harg2.unread x0)) (ix2 u d) = x0 (ix2 u (col 0 d)) := fun u d => by
    refine (rdq arg2.view _ _ 0 rfl u d).trans ?_
    rw [h0]
  have qb : ∀ (u : Fin 512) (d : Fin 256), (View.readAt (Elt Ideal) arg2.view (Rect.unit (s := S512x512) ![0, 256] S512x256.size inb_S512x512_S512x256_0_256).toLoadRect (harg2.unread x0)) (ix2 u d) = x0 (ix2 u (col 1 d)) := fun u d => by
    refine (rdq arg2.view _ _ 1 rfl u d).trans ?_
    rw [h0]
  have k0 : ∀ (u : Fin 512) (d : Fin 256), (View.readAt (Elt Ideal) arg3.view (Rect.unit (s := S8192x512) ![0, 0] S512x256.size inb_S8192x512_S512x256_0_0).toLoadRect (harg3.unread x1)) (ix2 u d) = x1 (ix2 (key 0 u) (col 0 d)) := fun u d => by
    refine (rdk arg3.view _ _ 0 0 (by omega) rfl u d).trans ?_
    rw [h1]
  have k1 : ∀ (u : Fin 512) (d : Fin 256), (View.readAt (Elt Ideal) arg3.view (Rect.unit (s := S8192x512) ![0, 256] S512x256.size inb_S8192x512_S512x256_0_256).toLoadRect (harg3.unread x1)) (ix2 u d) = x1 (ix2 (key 0 u) (col 1 d)) := fun u d => by
    refine (rdk arg3.view _ _ 1 0 (by omega) rfl u d).trans ?_
    rw [h1]
  have v0 : ∀ (r : Fin 144) (u : Fin 512), (View.readAt (Elt Ideal) arg4.view (Rect.unit (s := S2x16x144x512) (k0_off20 i) S1x1x144x512.size (k0_off20_inb i he)).toLoadRect (harg4.unread x2)) (ix4 0 0 r u) = vals x2 0 r (i 1).val u := fun r u => by
    refine (rdv arg4.view _ _ 0 (i 1).val (by omega) (k0_off20_eq i) r u).trans ?_
    rw [h2]; rfl
  have v1 : ∀ (r : Fin 144) (u : Fin 512), (View.readAt (Elt Ideal) arg4.view (Rect.unit (s := S2x16x144x512) (k0_off21 i) S1x1x144x512.size (k0_off21_inb i he)).toLoadRect (harg4.unread x2)) (ix4 0 0 r u) = vals x2 1 r (i 1).val u := fun r u => by
    refine (rdv arg4.view _ _ 1 (i 1).val (by omega) (k0_off21_eq i) r u).trans ?_
    rw [h2]; rfl
  have s7 : ∀ (h : Fin 2) (u c' : Fin 512), arg7.view.read (Elt Ideal) (arg7.view.writes (Elt Ideal) arg7.view.junk E7) (ix3 h u c') = raw x0 x1 h c' 0 u := by
    rw [eE7]
    refine Fin.forall_fin_two.2 ⟨fun u c' => ?_, fun u c' => ?_⟩
    · exact (wro arg7.view _ _ _ _ 0 (by decide) u c').trans ((wrs arg7.view _ _ _ _ 0 rfl u c').trans (tile_logits k0 qa u c'))
    · exact (wrs arg7.view _ _ _ _ 1 rfl u c').trans (tile_logits k1 qb u c')
  have s10 : ∀ (h : Fin 2) (r : Fin 144) (c' : Fin 512), arg10.view.read (Elt Ideal) (arg10.view.writes (Elt Ideal) arg10.view.junk E10) (ix3 h r c') = (0 : EReal) := fun h r c' => by
    rw [eE10]
    exact (wrw arg10.view _ _ _ _ h r c').trans (zero_fill h r c')
  have W := loop1  Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) x0 x1 x2 h0 h1 h2 (fun h c' => sh h c') (fun c' => by rw [es0]; exact hs0 c') (fun c' => by rw [es1]; exact hs1 c') s7 s10 ((i 1).val / 2) (by rw [(trips_eq i).1])
  have w7 : ∀ (h : Fin 2) (u c' : Fin 512), arg7.view.read (Elt Ideal) (arg7.view.writes (Elt Ideal) arg7.view.junk R7) (ix3 h u c') = raw x0 x1 h c' (2 * ((i 1).val / 2)) u := fun h u c' => by
    rw [eR7, View.writes_append]; exact W.1 h u c'
  have w10 : ∀ (h : Fin 2) (r : Fin 144) (c' : Fin 512), arg10.view.read (Elt Ideal) (arg10.view.writes (Elt Ideal) arg10.view.junk M0) (ix3 h r c') = tot (2 * ((i 1).val / 2)) (sh h c') (causal (i 1).val (raw x0 x1 h) c') (vals x2 h r) := fun h r c' => by
    rw [eM0, View.writes_append]
    exact (W.2 h r c').trans (tot_congr (fun j hj u => (causal_before (by omega) _ _ _).symm))
  rw [← es0] at hs0
  rw [← es1] at hs1
  have hp' : 2 * ((i 1).val / 2) = (i 1).val := by omega
  rw [hp'] at w7 w10
  have y0 : ∀ (u c' : Fin 512), (masked (F := Ideal) (BitVec.ofNat 32 (i 1).val) (sel i) (flat (F := Ideal) (arg7.view.readCov R7 (Rect.unit (s := S2x512x512) ![0, 0, 0] S1x512x512.size inb_S2x512x512_S1x512x512_0_0_0).toLoadRect))) (ix2 u c') = causal (i 1).val (raw x0 x1 0) c' (i 1).val u := fun u c' => masked_causal i (fun u c' => (flat_apply _ u c').trans ((rdc arg7.view R7 _ 0 rfl u c').trans (w7 0 u c'))) u c'
  have d0 : ∀ (r : Fin 144) (c' : Fin 512), (arg10.view.readCov M0 (Rect.unit (s := S2x144x512) ![0, 0, 0] S1x144x512.size inb_S2x144x512_S1x144x512_0_0_0).toLoadRect) (ix3 0 r c') = tot (i 1).val (sh 0 c') (causal (i 1).val (raw x0 x1 0) c') (vals x2 0 r) := fun r c' => by
    refine (rdc arg10.view M0 _ 0 rfl r c').trans ?_
    exact w10 0 r c'
  have a0 : ∀ (r : Fin 144) (c' : Fin 512), A0 (ix3 0 r c') = tot ((i 1).val + 1) (sh 0 c') (causal (i 1).val (raw x0 x1 0) c') (vals x2 0 r) := fun r c' => by
    rw [eA0, fixStep_apply, d0, tot_succ, hs0]
    congr 1
    exact Finset.sum_congr rfl fun u _ => by rw [y0, v0]
  have y1 : ∀ (u c' : Fin 512), (masked (F := Ideal) (BitVec.ofNat 32 (i 1).val) (sel i) (flat (F := Ideal) (arg7.view.readCov R7 (Rect.unit (s := S2x512x512) ![1, 0, 0] S1x512x512.size inb_S2x512x512_S1x512x512_1_0_0).toLoadRect))) (ix2 u c') = causal (i 1).val (raw x0 x1 1) c' (i 1).val u := fun u c' => masked_causal i (fun u c' => (flat_apply _ u c').trans ((rdc arg7.view R7 _ 1 rfl u c').trans (w7 1 u c'))) u c'
  have d1 : ∀ (r : Fin 144) (c' : Fin 512), (arg10.view.readCov M1 (Rect.unit (s := S2x144x512) ![1, 0, 0] S1x144x512.size inb_S2x144x512_S1x144x512_1_0_0).toLoadRect) (ix3 0 r c') = tot (i 1).val (sh 1 c') (causal (i 1).val (raw x0 x1 1) c') (vals x2 1 r) := fun r c' => by
    refine (rdc arg10.view M1 _ 1 rfl r c').trans ?_
    rw [eM1]
    exact (wro arg10.view _ _ _ _ 1 (by decide) r c').trans (w10 1 r c')
  have a1 : ∀ (r : Fin 144) (c' : Fin 512), A1 (ix3 0 r c') = tot ((i 1).val + 1) (sh 1 c') (causal (i 1).val (raw x0 x1 1) c') (vals x2 1 r) := fun r c' => by
    rw [eA1, fixStep_apply, d1, tot_succ, hs1]
    congr 1
    exact Finset.sum_congr rfl fun u _ => by rw [y1, v1]
  refine out_read arg6.view f (i 1).val x0 x1 x2 ht hb hone _ _ _ e (fun c' => ?_) (fun c' => ?_)
  · exact ⟨sh 0 c', fun r => ((rdc arg10.view M2 _ 0 rfl r c').trans (by rw [eM2, eM1]; exact (wro arg10.view _ _ _ _ 0 (by decide) r c').trans (wrs arg10.view _ _ _ _ 0 rfl r c'))).trans (a0 r c')⟩
  · exact ⟨sh 1 c', fun r => ((rdc arg10.view M2 _ 1 rfl r c').trans (by rw [eM2]; exact wrs arg10.view _ _ _ _ 1 rfl r c')).trans (a1 r c')⟩

end Cert.AttnBIdeal.Hand

end
-- ==== Proof.AttnB.CaseB.lean ====
/- Block with an odd number of tiles before the diagonal, the shift fixed: what the body leaves in its output block. -/
module

public import proofs.«01_k».proof.Proof.AttnB.Spec

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000 in
/-- The stores of the body, in order. -/
theorem piecesB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : Fixed i arg2 harg2 arg5 harg5 x0 x3) (hn : ¬Online i arg2 harg2 arg5 harg5 x0 x3) (ho : k0_cond2 i = 1#1) (he : ¬k0_cond3 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))  :
    ∃ (s0 : FVec Ideal S1x512 .f32) (s1 : FVec Ideal S1x512 .f32) (E7 : List (View.Piece (Elt Ideal) S2x512x512 .f32)) (E10 : List (View.Piece (Elt Ideal) S2x144x512 .f32)) (R7 : List (View.Piece (Elt Ideal) S2x512x512 .f32)) (M0 : List (View.Piece (Elt Ideal) S2x144x512 .f32)) (L8 : List (View.Piece (Elt Ideal) S2x512x512 .f32)) (A0 : FVec Ideal S1x144x512 .f32) (M1 : List (View.Piece (Elt Ideal) S2x144x512 .f32)) (A1 : FVec Ideal S1x144x512 .f32) (M2 : List (View.Piece (Elt Ideal) S2x144x512 .f32)) (A2 : FVec Ideal S1x144x512 .f32) (M3 : List (View.Piece (Elt Ideal) S2x144x512 .f32)) (A3 : FVec Ideal S1x144x512 .f32) (M4 : List (View.Piece (Elt Ideal) S2x144x512 .f32)),
      s0 = (k0_pay168 (F := Ideal) (View.readAt (Elt Ideal) arg2.view (Rect.unit (s := S512x512) ![0, 0] S512x256.size inb_S512x512_S512x256_0_0).toLoadRect (harg2.unread x0)) (View.readAt (Elt Ideal) arg5.view (Rect.unit (s := S16x128) (k0_off1 i 0#32) S1x1.size (k0_off1_inb i 0)).toLoadRect (harg5.unread x3))) ∧
      s1 = (k0_pay1 (F := Ideal) (View.readAt (Elt Ideal) arg5.view (Rect.unit (s := S16x128) (k0_off1 i 1#32) S1x1.size (k0_off1_inb i 1)).toLoadRect (harg5.unread x3)) (k0_pay169 (View.readAt (Elt Ideal) arg2.view (Rect.unit (s := S512x512) ![0, 256] S512x256.size inb_S512x512_S512x256_0_256).toLoadRect (harg2.unread x0)))) ∧
      E7 = (([⟨(Rect.unit (s := S2x512x512) ![1, 0, 0] S1x512x512.size inb_S2x512x512_S1x512x512_1_0_0), k0_pay9 (F := Ideal) (View.readAt (Elt Ideal) arg3.view (Rect.unit (s := S8192x512) ![0, 256] S512x256.size inb_S8192x512_S512x256_0_256).toLoadRect (harg3.unread x1)) (View.readAt (Elt Ideal) arg2.view (Rect.unit (s := S512x512) ![0, 256] S512x256.size inb_S512x512_S512x256_0_256).toLoadRect (harg2.unread x0))⟩, ⟨(Rect.unit (s := S2x512x512) ![0, 0, 0] S1x512x512.size inb_S2x512x512_S1x512x512_0_0_0), k0_pay9 (F := Ideal) (View.readAt (Elt Ideal) arg3.view (Rect.unit (s := S8192x512) ![0, 0] S512x256.size inb_S8192x512_S512x256_0_0).toLoadRect (harg3.unread x1)) (View.readAt (Elt Ideal) arg2.view (Rect.unit (s := S512x512) ![0, 0] S512x256.size inb_S512x512_S512x256_0_0).toLoadRect (harg2.unread x0))⟩] : List (View.Piece (Elt Ideal) S2x512x512 .f32)) : List (View.Piece (Elt Ideal) S2x512x512 .f32)) ∧
      E10 = (([⟨(Rect.unit (s := S2x144x512) ![0, 0, 0] S2x144x512.size inb_S2x144x512_S2x144x512_0_0_0), k0_pay164 (F := Ideal)⟩] : List (View.Piece (Elt Ideal) S2x144x512 .f32)) : List (View.Piece (Elt Ideal) S2x144x512 .f32)) ∧
      R7 = ((pb_k0_t1 (F := Ideal) Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) ((i 1).val / 2)).1 ++ E7 : List (View.Piece (Elt Ideal) S2x512x512 .f32)) ∧
      M0 = ((pb_k0_t1 (F := Ideal) Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) ((i 1).val / 2)).2.2 ++ E10 : List (View.Piece (Elt Ideal) S2x144x512 .f32)) ∧
      L8 = ((⟨(Rect.unit (s := S2x512x512) ![1, 0, 0] S1x512x512.size inb_S2x512x512_S1x512x512_1_0_0), k0_pay9 (F := Ideal) (View.readAt (Elt Ideal) arg3.view (Rect.unit (s := S8192x512) (k0_off15 i) S512x256.size (k0_off15_inb i ho)).toLoadRect (harg3.unread x1)) (View.readAt (Elt Ideal) arg2.view (Rect.unit (s := S512x512) ![0, 256] S512x256.size inb_S512x512_S512x256_0_256).toLoadRect (harg2.unread x0))⟩ :: ⟨(Rect.unit (s := S2x512x512) ![0, 0, 0] S1x512x512.size inb_S2x512x512_S1x512x512_0_0_0), k0_pay9 (F := Ideal) (View.readAt (Elt Ideal) arg3.view (Rect.unit (s := S8192x512) (k0_off14 i) S512x256.size (k0_off14_inb i ho)).toLoadRect (harg3.unread x1)) (View.readAt (Elt Ideal) arg2.view (Rect.unit (s := S512x512) ![0, 0] S512x256.size inb_S512x512_S512x256_0_0).toLoadRect (harg2.unread x0))⟩ :: (pb_k0_t1 (F := Ideal) Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) ((i 1).val / 2)).2.1) : List (View.Piece (Elt Ideal) S2x512x512 .f32)) ∧
      A0 = fixStep (F := Ideal) s0 (flat (F := Ideal) (arg7.view.readCov R7 (Rect.unit (s := S2x512x512) ![0, 0, 0] S1x512x512.size inb_S2x512x512_S1x512x512_0_0_0).toLoadRect)) (View.readAt (Elt Ideal) arg4.view (Rect.unit (s := S2x16x144x512) (k0_off16 i) S1x1x144x512.size (k0_off16_inb i ho)).toLoadRect (harg4.unread x2)) (arg10.view.readCov M0 (Rect.unit (s := S2x144x512) ![0, 0, 0] S1x144x512.size inb_S2x144x512_S1x144x512_0_0_0).toLoadRect) ∧
      M1 = (⟨(Rect.unit (s := S2x144x512) ![0, 0, 0] S1x144x512.size inb_S2x144x512_S1x144x512_0_0_0), A0⟩ :: M0 : List (View.Piece (Elt Ideal) S2x144x512 .f32)) ∧
      A1 = fixStep (F := Ideal) s1 (flat (F := Ideal) (arg7.view.readCov R7 (Rect.unit (s := S2x512x512) ![1, 0, 0] S1x512x512.size inb_S2x512x512_S1x512x512_1_0_0).toLoadRect)) (View.readAt (Elt Ideal) arg4.view (Rect.unit (s := S2x16x144x512) (k0_off17 i) S1x1x144x512.size (k0_off17_inb i ho)).toLoadRect (harg4.unread x2)) (arg10.view.readCov M1 (Rect.unit (s := S2x144x512) ![1, 0, 0] S1x144x512.size inb_S2x144x512_S1x144x512_1_0_0).toLoadRect) ∧
      M2 = (⟨(Rect.unit (s := S2x144x512) ![1, 0, 0] S1x144x512.size inb_S2x144x512_S1x144x512_1_0_0), A1⟩ :: M1 : List (View.Piece (Elt Ideal) S2x144x512 .f32)) ∧
      A2 = fixStep (F := Ideal) s0 (masked (F := Ideal) (BitVec.ofNat 32 (i 1).val) (sel i) (flat (F := Ideal) (arg8.view.readCov L8 (Rect.unit (s := S2x512x512) ![0, 0, 0] S1x512x512.size inb_S2x512x512_S1x512x512_0_0_0).toLoadRect))) (View.readAt (Elt Ideal) arg4.view (Rect.unit (s := S2x16x144x512) (k0_off18 i) S1x1x144x512.size (k0_off18_inb i ho)).toLoadRect (harg4.unread x2)) (arg10.view.readCov M2 (Rect.unit (s := S2x144x512) ![0, 0, 0] S1x144x512.size inb_S2x144x512_S1x144x512_0_0_0).toLoadRect) ∧
      M3 = (⟨(Rect.unit (s := S2x144x512) ![0, 0, 0] S1x144x512.size inb_S2x144x512_S1x144x512_0_0_0), A2⟩ :: M2 : List (View.Piece (Elt Ideal) S2x144x512 .f32)) ∧
      A3 = fixStep (F := Ideal) s1 (masked (F := Ideal) (BitVec.ofNat 32 (i 1).val) (sel i) (flat (F := Ideal) (arg8.view.readCov L8 (Rect.unit (s := S2x512x512) ![1, 0, 0] S1x512x512.size inb_S2x512x512_S1x512x512_1_0_0).toLoadRect))) (View.readAt (Elt Ideal) arg4.view (Rect.unit (s := S2x16x144x512) (k0_off19 i) S1x1x144x512.size (k0_off19_inb i ho)).toLoadRect (harg4.unread x2)) (arg10.view.readCov M3 (Rect.unit (s := S2x144x512) ![1, 0, 0] S1x144x512.size inb_S2x144x512_S1x144x512_1_0_0).toLoadRect) ∧
      M4 = (⟨(Rect.unit (s := S2x144x512) ![1, 0, 0] S1x144x512.size inb_S2x144x512_S1x144x512_1_0_0), A3⟩ :: M3 : List (View.Piece (Elt Ideal) S2x144x512 .f32)) ∧
      (runB (F := Ideal) c i arg2 harg2 arg3 harg3 arg4 harg4 arg5 harg5 arg6 harg6 arg7 harg7 arg8 harg8 arg9 harg9 arg10 harg10 x0 x1 x2 x3 hf hn ho he fs0 fs1 fs2 fs3).1 = [⟨Rect.unit (s := S512x256) ![0, 128] S512x128.size inb_S512x256_S512x128_0_128, k0_pay8 (F := Ideal) (arg10.view.readCov M4 (Rect.unit (s := S2x144x512) ![1, 0, 0] S1x144x512.size inb_S2x144x512_S1x144x512_1_0_0).toLoadRect)⟩, ⟨Rect.unit (s := S512x256) ![0, 0] S512x128.size inb_S512x256_S512x128_0_0, k0_pay7 (F := Ideal) (arg10.view.readCov M4 (Rect.unit (s := S2x144x512) ![0, 0, 0] S1x144x512.size inb_S2x144x512_S1x144x512_0_0_0).toLoadRect)⟩] := by
  have e1 : Scf.trips (k0_t1_loop i).lb (k0_t1_loop i).ub (k0_t1_loop i).st = (i 1).val / 2 := (trips_eq i).1
  have e2 : Scf.trips (k0_t2_loop i).lb (k0_t2_loop i).ub (k0_t2_loop i).st = 0 := (trips_eq i).2.1
  have e3 : Scf.trips (k0_t3_loop i).lb (k0_t3_loop i).ub (k0_t3_loop i).st = (i 1).val / 2 := (trips_eq i).2.2.1
  have e4 : Scf.trips (k0_t4_loop i).lb (k0_t4_loop i).ub (k0_t4_loop i).st = 0 := (trips_eq i).2.2.2
  refine ⟨?s0, ?s1, ?E7, ?E10, ?R7, ?M0, ?L8, ?A0, ?M1, ?A1, ?M2, ?A2, ?M3, ?A3, ?M4, ?es0, ?es1, ?eE7, ?eE10, ?eR7, ?eM0, ?eL8, ?eA0, ?eM1, ?eA1, ?eM2, ?eA2, ?eM3, ?eA3, ?eM4, ?e⟩
  case e =>
    unfold runB
    sl_unfold_run_names
    dsimp only
    simp only [e1, e2, e3, e4, pb_k0_t2, pb_k0_t4, List.nil_append, View.writes_nil]
    rfl
  case eM4 => rfl
  case eM3 => rfl
  case eM2 => rfl
  case eM1 => rfl
  case es0 => rfl
  case es1 => rfl
  case eE7 => rfl
  case eE10 => rfl
  case eR7 => rfl
  case eL8 => rfl
  case eM0 => rfl
  case eA0 => rfl
  case eA1 => rfl
  case eA2 => rfl
  case eA3 => rfl

set_option maxHeartbeats 2000000 in
/-- Block with an odd number of tiles before the diagonal, the shift fixed: what the body leaves in its output block. -/
theorem valueB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : Fixed i arg2 harg2 arg5 harg5 x0 x3) (hn : ¬Online i arg2 harg2 arg5 harg5 x0 x3) (ho : k0_cond2 i = 1#1) (he : ¬k0_cond3 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))
    (hq : ∀ y, ∃ z : ℝ, x0 y = (z : EReal)) (hk : ∀ y, ∃ z : ℝ, x1 y = (z : EReal)) (hone : ∀ h j k, x2 (ix4 h j 128 k) = (1 : EReal)) (hkn : ∀ y, (0 : EReal) ≤ x3 y)
    (f : Buf (Elt Ideal) (arg6.view.loc (c : Thread nD τ))) :
    arg6.view.read (Elt Ideal) (arg6.view.writes (Elt Ideal) f (runB (F := Ideal) c i arg2 harg2 arg3 harg3 arg4 harg4 arg5 harg5 arg6 harg6 arg7 harg7 arg8 harg8 arg9 harg9 arg10 harg10 x0 x1 x2 x3 hf hn ho he fs0 fs1 fs2 fs3).1) = attended (i 1).val x0 x1 x2 := by
  have hr := fun h c' j u => raw_real hq hk h c' j u
  have ht : ∀ h c' j u, raw x0 x1 h c' j u ≠ ⊤ := fun h c' j u => by
    obtain ⟨z, hz⟩ := hr h c' j u
    rw [hz]; exact EReal.coe_ne_top z
  have hb : ∀ h c' j u, raw x0 x1 h c' j u ≠ ⊥ := fun h c' j u => by
    obtain ⟨z, hz⟩ := hr h c' j u
    rw [hz]; exact EReal.coe_ne_bot z
  have hi : (i 1).val < 16 := (i 1).isLt
  have hp := odd2 i ho
  obtain ⟨sh, hs0, hs1⟩ := fixed_real i arg2 harg2 arg5 harg5 x0 x3 hf hq hkn
  obtain ⟨s0, s1, E7, E10, R7, M0, L8, A0, M1, A1, M2, A2, M3, A3, M4, es0, es1, eE7, eE10, eR7, eM0, eL8, eA0, eM1, eA1, eM2, eA2, eM3, eA3, eM4, e⟩ := piecesB c i arg2 harg2 arg3 harg3 arg4 harg4 arg5 harg5 arg6 harg6 arg7 harg7 arg8 harg8 arg9 harg9 arg10 harg10 x0 x1 x2 x3 hf hn ho he fs0 fs1 fs2 fs3
  have h0 := harg2.read_unread (Val := (Elt Ideal)) x0
  have h1 := harg3.read_unread (Val := (Elt Ideal)) x1
  have h2 := harg4.read_unread (Val := (Elt Ideal)) x2
  have qa : ∀ (u : Fin 512) (d : Fin 256), (View.readAt (Elt Ideal) arg2.view (Rect.unit (s := S512x512) ![0, 0] S512x256.size inb_S512x512_S512x256_0_0).toLoadRect (harg2.unread x0)) (ix2 u d) = x0 (ix2 u (col 0 d)) := fun u d => by
    refine (rdq arg2.view _ _ 0 rfl u d).trans ?_
    rw [h0]
  have qb : ∀ (u : Fin 512) (d : Fin 256), (View.readAt (Elt Ideal) arg2.view (Rect.unit (s := S512x512) ![0, 256] S512x256.size inb_S512x512_S512x256_0_256).toLoadRect (harg2.unread x0)) (ix2 u d) = x0 (ix2 u (col 1 d)) := fun u d => by
    refine (rdq arg2.view _ _ 1 rfl u d).trans ?_
    rw [h0]
  have k0 : ∀ (u : Fin 512) (d : Fin 256), (View.readAt (Elt Ideal) arg3.view (Rect.unit (s := S8192x512) ![0, 0] S512x256.size inb_S8192x512_S512x256_0_0).toLoadRect (harg3.unread x1)) (ix2 u d) = x1 (ix2 (key 0 u) (col 0 d)) := fun u d => by
    refine (rdk arg3.view _ _ 0 0 (by omega) rfl u d).trans ?_
    rw [h1]
  have k1 : ∀ (u : Fin 512) (d : Fin 256), (View.readAt (Elt Ideal) arg3.view (Rect.unit (s := S8192x512) ![0, 256] S512x256.size inb_S8192x512_S512x256_0_256).toLoadRect (harg3.unread x1)) (ix2 u d) = x1 (ix2 (key 0 u) (col 1 d)) := fun u d => by
    refine (rdk arg3.view _ _ 1 0 (by omega) rfl u d).trans ?_
    rw [h1]
  have l0 : ∀ (u : Fin 512) (d : Fin 256), (View.readAt (Elt Ideal) arg3.view (Rect.unit (s := S8192x512) (k0_off14 i) S512x256.size (k0_off14_inb i ho)).toLoadRect (harg3.unread x1)) (ix2 u d) = x1 (ix2 (key (i 1).val u) (col 0 d)) := fun u d => by
    refine (rdk arg3.view _ _ 0 (i 1).val hi (k0_off14_eq i) u d).trans ?_
    rw [h1]
  have l1 : ∀ (u : Fin 512) (d : Fin 256), (View.readAt (Elt Ideal) arg3.view (Rect.unit (s := S8192x512) (k0_off15 i) S512x256.size (k0_off15_inb i ho)).toLoadRect (harg3.unread x1)) (ix2 u d) = x1 (ix2 (key (i 1).val u) (col 1 d)) := fun u d => by
    refine (rdk arg3.view _ _ 1 (i 1).val hi (k0_off15_eq i) u d).trans ?_
    rw [h1]
  have v0 : ∀ (r : Fin 144) (u : Fin 512), (View.readAt (Elt Ideal) arg4.view (Rect.unit (s := S2x16x144x512) (k0_off16 i) S1x1x144x512.size (k0_off16_inb i ho)).toLoadRect (harg4.unread x2)) (ix4 0 0 r u) = vals x2 0 r ((i 1).val - 1) u := fun r u => by
    refine (rdv arg4.view _ _ 0 ((i 1).val - 1) (by omega) (off16_eq i ho) r u).trans ?_
    rw [h2]; rfl
  have v1 : ∀ (r : Fin 144) (u : Fin 512), (View.readAt (Elt Ideal) arg4.view (Rect.unit (s := S2x16x144x512) (k0_off17 i) S1x1x144x512.size (k0_off17_inb i ho)).toLoadRect (harg4.unread x2)) (ix4 0 0 r u) = vals x2 1 r ((i 1).val - 1) u := fun r u => by
    refine (rdv arg4.view _ _ 1 ((i 1).val - 1) (by omega) (off17_eq i ho) r u).trans ?_
    rw [h2]; rfl
  have v2 : ∀ (r : Fin 144) (u : Fin 512), (View.readAt (Elt Ideal) arg4.view (Rect.unit (s := S2x16x144x512) (k0_off18 i) S1x1x144x512.size (k0_off18_inb i ho)).toLoadRect (harg4.unread x2)) (ix4 0 0 r u) = vals x2 0 r (i 1).val u := fun r u => by
    refine (rdv arg4.view _ _ 0 (i 1).val (by omega) (k0_off18_eq i) r u).trans ?_
    rw [h2]; rfl
  have v3 : ∀ (r : Fin 144) (u : Fin 512), (View.readAt (Elt Ideal) arg4.view (Rect.unit (s := S2x16x144x512) (k0_off19 i) S1x1x144x512.size (k0_off19_inb i ho)).toLoadRect (harg4.unread x2)) (ix4 0 0 r u) = vals x2 1 r (i 1).val u := fun r u => by
    refine (rdv arg4.view _ _ 1 (i 1).val (by omega) (k0_off19_eq i) r u).trans ?_
    rw [h2]; rfl
  have s7 : ∀ (h : Fin 2) (u c' : Fin 512), arg7.view.read (Elt Ideal) (arg7.view.writes (Elt Ideal) arg7.view.junk E7) (ix3 h u c') = raw x0 x1 h c' 0 u := by
    rw [eE7]
    refine Fin.forall_fin_two.2 ⟨fun u c' => ?_, fun u c' => ?_⟩
    · exact (wro arg7.view _ _ _ _ 0 (by decide) u c').trans ((wrs arg7.view _ _ _ _ 0 rfl u c').trans (tile_logits k0 qa u c'))
    · exact (wrs arg7.view _ _ _ _ 1 rfl u c').trans (tile_logits k1 qb u c')
  have s8 : ∀ (h : Fin 2) (u c' : Fin 512), arg8.view.read (Elt Ideal) (arg8.view.writes (Elt Ideal) arg8.view.junk L8) (ix3 h u c') = raw x0 x1 h c' (i 1).val u := by
    rw [eL8]
    refine Fin.forall_fin_two.2 ⟨fun u c' => ?_, fun u c' => ?_⟩
    · exact (wro arg8.view _ _ _ _ 0 (by decide) u c').trans ((wrs arg8.view _ _ _ _ 0 rfl u c').trans (tile_logits l0 qa u c'))
    · exact (wrs arg8.view _ _ _ _ 1 rfl u c').trans (tile_logits l1 qb u c')
  have s10 : ∀ (h : Fin 2) (r : Fin 144) (c' : Fin 512), arg10.view.read (Elt Ideal) (arg10.view.writes (Elt Ideal) arg10.view.junk E10) (ix3 h r c') = (0 : EReal) := fun h r c' => by
    rw [eE10]
    exact (wrw arg10.view _ _ _ _ h r c').trans (zero_fill h r c')
  have W := loop1  Variants.none c none i arg2 harg2 arg3 harg3 arg4 harg4 arg5 harg5 arg6 harg6 arg7 harg7 arg8 harg8 arg9 harg9 arg10 harg10 (BitVec.ofNat 32 (i 1).val) (sel i)  s0 s1 (harg2.unread x0) (harg3.unread x1) (harg4.unread x2) (arg7.view.writes (Elt Ideal) arg7.view.junk E7) fs1 (arg10.view.writes (Elt Ideal) arg10.view.junk E10) x0 x1 x2 h0 h1 h2 (fun h c' => sh h c') (fun c' => by rw [es0]; exact hs0 c') (fun c' => by rw [es1]; exact hs1 c') s7 s10 ((i 1).val / 2) (by rw [(trips_eq i).1])
  have w7 : ∀ (h : Fin 2) (u c' : Fin 512), arg7.view.read (Elt Ideal) (arg7.view.writes (Elt Ideal) arg7.view.junk R7) (ix3 h u c') = raw x0 x1 h c' (2 * ((i 1).val / 2)) u := fun h u c' => by
    rw [eR7, View.writes_append]; exact W.1 h u c'
  have w10 : ∀ (h : Fin 2) (r : Fin 144) (c' : Fin 512), arg10.view.read (Elt Ideal) (arg10.view.writes (Elt Ideal) arg10.view.junk M0) (ix3 h r c') = tot (2 * ((i 1).val / 2)) (sh h c') (causal (i 1).val (raw x0 x1 h) c') (vals x2 h r) := fun h r c' => by
    rw [eM0, View.writes_append]
    exact (W.2 h r c').trans (tot_congr (fun j hj u => (causal_before (by omega) _ _ _).symm))
  rw [← es0] at hs0
  rw [← es1] at hs1
  have hp' : 2 * ((i 1).val / 2) = ((i 1).val - 1) := by omega
  rw [hp'] at w7 w10
  have y0 : ∀ (u c' : Fin 512), (flat (F := Ideal) (arg7.view.readCov R7 (Rect.unit (s := S2x512x512) ![0, 0, 0] S1x512x512.size inb_S2x512x512_S1x512x512_0_0_0).toLoadRect)) (ix2 u c') = causal (i 1).val (raw x0 x1 0) c' ((i 1).val - 1) u := fun u c' => ((flat_apply _ u c').trans ((rdc arg7.view R7 _ 0 rfl u c').trans (w7 0 u c'))).trans (causal_before (by omega) _ _ _).symm
  have d0 : ∀ (r : Fin 144) (c' : Fin 512), (arg10.view.readCov M0 (Rect.unit (s := S2x144x512) ![0, 0, 0] S1x144x512.size inb_S2x144x512_S1x144x512_0_0_0).toLoadRect) (ix3 0 r c') = tot ((i 1).val - 1) (sh 0 c') (causal (i 1).val (raw x0 x1 0) c') (vals x2 0 r) := fun r c' => by
    refine (rdc arg10.view M0 _ 0 rfl r c').trans ?_
    exact w10 0 r c'
  have a0 : ∀ (r : Fin 144) (c' : Fin 512), A0 (ix3 0 r c') = tot ((i 1).val - 1 + 1) (sh 0 c') (causal (i 1).val (raw x0 x1 0) c') (vals x2 0 r) := fun r c' => by
    rw [eA0, fixStep_apply, d0, tot_succ, hs0]
    congr 1
    exact Finset.sum_congr rfl fun u _ => by rw [y0, v0]
  have y1 : ∀ (u c' : Fin 512), (flat (F := Ideal) (arg7.view.readCov R7 (Rect.unit (s := S2x512x512) ![1, 0, 0] S1x512x512.size inb_S2x512x512_S1x512x512_1_0_0).toLoadRect)) (ix2 u c') = causal (i 1).val (raw x0 x1 1) c' ((i 1).val - 1) u := fun u c' => ((flat_apply _ u c').trans ((rdc arg7.view R7 _ 1 rfl u c').trans (w7 1 u c'))).trans (causal_before (by omega) _ _ _).symm
  have d1 : ∀ (r : Fin 144) (c' : Fin 512), (arg10.view.readCov M1 (Rect.unit (s := S2x144x512) ![1, 0, 0] S1x144x512.size inb_S2x144x512_S1x144x512_1_0_0).toLoadRect) (ix3 0 r c') = tot ((i 1).val - 1) (sh 1 c') (causal (i 1).val (raw x0 x1 1) c') (vals x2 1 r) := fun r c' => by
    refine (rdc arg10.view M1 _ 1 rfl r c').trans ?_
    rw [eM1]
    exact (wro arg10.view _ _ _ _ 1 (by decide) r c').trans (w10 1 r c')
  have a1 : ∀ (r : Fin 144) (c' : Fin 512), A1 (ix3 0 r c') = tot ((i 1).val - 1 + 1) (sh 1 c') (causal (i 1).val (raw x0 x1 1) c') (vals x2 1 r) := fun r c' => by
    rw [eA1, fixStep_apply, d1, tot_succ, hs1]
    congr 1
    exact Finset.sum_congr rfl fun u _ => by rw [y1, v1]
  have hp'' : (i 1).val - 1 + 1 = (i 1).val := by omega
  have y2 : ∀ (u c' : Fin 512), (masked (F := Ideal) (BitVec.ofNat 32 (i 1).val) (sel i) (flat (F := Ideal) (arg8.view.readCov L8 (Rect.unit (s := S2x512x512) ![0, 0, 0] S1x512x512.size inb_S2x512x512_S1x512x512_0_0_0).toLoadRect))) (ix2 u c') = causal (i 1).val (raw x0 x1 0) c' (i 1).val u := fun u c' => masked_causal i (fun u c' => (flat_apply _ u c').trans ((rdc arg8.view L8 _ 0 rfl u c').trans (s8 0 u c'))) u c'
  have d2 : ∀ (r : Fin 144) (c' : Fin 512), (arg10.view.readCov M2 (Rect.unit (s := S2x144x512) ![0, 0, 0] S1x144x512.size inb_S2x144x512_S1x144x512_0_0_0).toLoadRect) (ix3 0 r c') = tot ((i 1).val - 1 + 1) (sh 0 c') (causal (i 1).val (raw x0 x1 0) c') (vals x2 0 r) := fun r c' => by
    refine (rdc arg10.view M2 _ 0 rfl r c').trans ?_
    rw [eM2, eM1]
    refine (wro arg10.view _ _ _ _ 0 (by decide) r c').trans ?_
    exact (wrs arg10.view _ _ _ _ 0 rfl r c').trans (a0 r c')
  rw [hp''] at d2
  have a2 : ∀ (r : Fin 144) (c' : Fin 512), A2 (ix3 0 r c') = tot ((i 1).val + 1) (sh 0 c') (causal (i 1).val (raw x0 x1 0) c') (vals x2 0 r) := fun r c' => by
    rw [eA2, fixStep_apply, d2, tot_succ, hs0]
    congr 1
    exact Finset.sum_congr rfl fun u _ => by rw [y2, v2]
  have y3 : ∀ (u c' : Fin 512), (masked (F := Ideal) (BitVec.ofNat 32 (i 1).val) (sel i) (flat (F := Ideal) (arg8.view.readCov L8 (Rect.unit (s := S2x512x512) ![1, 0, 0] S1x512x512.size inb_S2x512x512_S1x512x512_1_0_0).toLoadRect))) (ix2 u c') = causal (i 1).val (raw x0 x1 1) c' (i 1).val u := fun u c' => masked_causal i (fun u c' => (flat_apply _ u c').trans ((rdc arg8.view L8 _ 1 rfl u c').trans (s8 1 u c'))) u c'
  have d3 : ∀ (r : Fin 144) (c' : Fin 512), (arg10.view.readCov M3 (Rect.unit (s := S2x144x512) ![1, 0, 0] S1x144x512.size inb_S2x144x512_S1x144x512_1_0_0).toLoadRect) (ix3 0 r c') = tot ((i 1).val - 1 + 1) (sh 1 c') (causal (i 1).val (raw x0 x1 1) c') (vals x2 1 r) := fun r c' => by
    refine (rdc arg10.view M3 _ 1 rfl r c').trans ?_
    rw [eM3, eM2]
    refine (wro arg10.view _ _ _ _ 1 (by decide) r c').trans ?_
    exact (wrs arg10.view _ _ _ _ 1 rfl r c').trans (a1 r c')
  rw [hp''] at d3
  have a3 : ∀ (r : Fin 144) (c' : Fin 512), A3 (ix3 0 r c') = tot ((i 1).val + 1) (sh 1 c') (causal (i 1).val (raw x0 x1 1) c') (vals x2 1 r) := fun r c' => by
    rw [eA3, fixStep_apply, d3, tot_succ, hs1]
    congr 1
    exact Finset.sum_congr rfl fun u _ => by rw [y3, v3]
  refine out_read arg6.view f (i 1).val x0 x1 x2 ht hb hone _ _ _ e (fun c' => ?_) (fun c' => ?_)
  · exact ⟨sh 0 c', fun r => ((rdc arg10.view M4 _ 0 rfl r c').trans (by rw [eM4, eM3]; exact (wro arg10.view _ _ _ _ 0 (by decide) r c').trans (wrs arg10.view _ _ _ _ 0 rfl r c'))).trans (a2 r c')⟩
  · exact ⟨sh 1 c', fun r => ((rdc arg10.view M4 _ 1 rfl r c').trans (by rw [eM4]; exact wrs arg10.view _ _ _ _ 1 rfl r c')).trans (a3 r c')⟩

end Cert.AttnBIdeal.Hand

end
-- ==== Proof.AttnB.CaseC.lean ====
/- Block with an even number of tiles before the diagonal, the running maximum kept: what the body leaves in its output block. -/
module

public import proofs.«01_k».proof.Proof.AttnB.Spec

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The stores of the body, in order. -/
theorem piecesC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : ¬Fixed i arg2 harg2 arg5 harg5 x0 x3) (hn : Online i arg2 harg2 arg5 harg5 x0 x3) (ho : ¬k0_cond5 i = 1#1) (he : k0_cond6 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))  :
    ∃ (s0 : FVec Ideal S1x512 .f32) (s1 : FVec Ideal S1x512 .f32) (E7 : List (View.Piece (Elt Ideal) S2x512x512 .f32)) (E10 : List (View.Piece (Elt Ideal) S2x144x512 .f32)) (E9 : List (View.Piece (Elt Ideal) S2x1x512 .f32)) (R7 : List (View.Piece (Elt Ideal) S2x512x512 .f32)) (M0 : List (View.Piece (Elt Ideal) S2x144x512 .f32)) (N0 : List (View.Piece (Elt Ideal) S2x1x512 .f32)) (A0 : FVec Ideal S1x144x512 .f32) (B0 : FVec Ideal S1x1x512 .f32) (N1 : List (View.Piece (Elt Ideal) S2x1x512 .f32)) (M1 : List (View.Piece (Elt Ideal) S2x144x512 .f32)) (A1 : FVec Ideal S1x144x512 .f32) (B1 : FVec Ideal S1x1x512 .f32) (N2 : List (View.Piece (Elt Ideal) S2x1x512 .f32)) (M2 : List (View.Piece (Elt Ideal) S2x144x512 .f32)),
      s0 = (k0_pay168 (F := Ideal) (View.readAt (Elt Ideal) arg2.view (Rect.unit (s := S512x512) ![0, 0] S512x256.size inb_S512x512_S512x256_0_0).toLoadRect (harg2.unread x0)) (View.readAt (Elt Ideal) arg5.view (Rect.unit (s := S16x128) (k0_off1 i 0#32) S1x1.size (k0_off1_inb i 0)).toLoadRect (harg5.unread x3))) ∧
      s1 = (k0_pay1 (F := Ideal) (View.readAt (Elt Ideal) arg5.view (Rect.unit (s := S16x128) (k0_off1 i 1#32) S1x1.size (k0_off1_inb i 1)).toLoadRect (harg5.unread x3)) (k0_pay169 (View.readAt (Elt Ideal) arg2.view (Rect.unit (s := S512x512) ![0, 256] S512x256.size inb_S512x512_S512x256_0_256).toLoadRect (harg2.unread x0)))) ∧
      E7 = (([⟨(Rect.unit (s := S2x512x512) ![1, 0, 0] S1x512x512.size inb_S2x512x512_S1x512x512_1_0_0), k0_pay9 (F := Ideal) (View.readAt (Elt Ideal) arg3.view (Rect.unit (s := S8192x512) ![0, 256] S512x256.size inb_S8192x512_S512x256_0_256).toLoadRect (harg3.unread x1)) (View.readAt (Elt Ideal) arg2.view (Rect.unit (s := S512x512) ![0, 256] S512x256.size inb_S512x512_S512x256_0_256).toLoadRect (harg2.unread x0))⟩, ⟨(Rect.unit (s := S2x512x512) ![0, 0, 0] S1x512x512.size inb_S2x512x512_S1x512x512_0_0_0), k0_pay9 (F := Ideal) (View.readAt (Elt Ideal) arg3.view (Rect.unit (s := S8192x512) ![0, 0] S512x256.size inb_S8192x512_S512x256_0_0).toLoadRect (harg3.unread x1)) (View.readAt (Elt Ideal) arg2.view (Rect.unit (s := S512x512) ![0, 0] S512x256.size inb_S512x512_S512x256_0_0).toLoadRect (harg2.unread x0))⟩] : List (View.Piece (Elt Ideal) S2x512x512 .f32)) : List (View.Piece (Elt Ideal) S2x512x512 .f32)) ∧
      E10 = (([⟨(Rect.unit (s := S2x144x512) ![0, 0, 0] S2x144x512.size inb_S2x144x512_S2x144x512_0_0_0), k0_pay164 (F := Ideal)⟩] : List (View.Piece (Elt Ideal) S2x144x512 .f32)) : List (View.Piece (Elt Ideal) S2x144x512 .f32)) ∧
      E9 = (([⟨(Rect.unit (s := S2x1x512) ![0, 0, 0] S2x1x512.size inb_S2x1x512_S2x1x512_0_0_0), k0_pay163 (F := Ideal)⟩] : List (View.Piece (Elt Ideal) S2x1x512 .f32)) : List (View.Piece (Elt Ideal) S2x1x512 .f32)) ∧
      R7 = ((pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).1 ++ E7 : List (View.Piece (Elt Ideal) S2x512x512 .f32)) ∧
      M0 = ((pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).2.2.2 ++ E10 : List (View.Piece (Elt Ideal) S2x144x512 .f32)) ∧
      N0 = ((pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).2.2.1 ++ E9 : List (View.Piece (Elt Ideal) S2x1x512 .f32)) ∧
      A0 = accStep (F := Ideal) (masked (F := Ideal) (BitVec.ofNat 32 (i 1).val) (sel i) (flat (F := Ideal) (arg7.view.readCov R7 (Rect.unit (s := S2x512x512) ![0, 0, 0] S1x512x512.size inb_S2x512x512_S1x512x512_0_0_0).toLoadRect))) (arg9.view.readCov N0 (Rect.unit (s := S2x1x512) ![0, 0, 0] S1x1x512.size inb_S2x1x512_S1x1x512_0_0_0).toLoadRect) (View.readAt (Elt Ideal) arg4.view (Rect.unit (s := S2x16x144x512) (k0_off40 i) S1x1x144x512.size (k0_off40_inb i he)).toLoadRect (harg4.unread x2)) (arg10.view.readCov M0 (Rect.unit (s := S2x144x512) ![0, 0, 0] S1x144x512.size inb_S2x144x512_S1x144x512_0_0_0).toLoadRect) ∧
      B0 = maxStep (F := Ideal) (masked (F := Ideal) (BitVec.ofNat 32 (i 1).val) (sel i) (flat (F := Ideal) (arg7.view.readCov R7 (Rect.unit (s := S2x512x512) ![0, 0, 0] S1x512x512.size inb_S2x512x512_S1x512x512_0_0_0).toLoadRect))) (arg9.view.readCov N0 (Rect.unit (s := S2x1x512) ![0, 0, 0] S1x1x512.size inb_S2x1x512_S1x1x512_0_0_0).toLoadRect) ∧
      N1 = (⟨(Rect.unit (s := S2x1x512) ![0, 0, 0] S1x1x512.size inb_S2x1x512_S1x1x512_0_0_0), B0⟩ :: N0 : List (View.Piece (Elt Ideal) S2x1x512 .f32)) ∧
      M1 = (⟨(Rect.unit (s := S2x144x512) ![0, 0, 0] S1x144x512.size inb_S2x144x512_S1x144x512_0_0_0), A0⟩ :: M0 : List (View.Piece (Elt Ideal) S2x144x512 .f32)) ∧
      A1 = accStep (F := Ideal) (masked (F := Ideal) (BitVec.ofNat 32 (i 1).val) (sel i) (flat (F := Ideal) (arg7.view.readCov R7 (Rect.unit (s := S2x512x512) ![1, 0, 0] S1x512x512.size inb_S2x512x512_S1x512x512_1_0_0).toLoadRect))) (arg9.view.readCov N1 (Rect.unit (s := S2x1x512) ![1, 0, 0] S1x1x512.size inb_S2x1x512_S1x1x512_1_0_0).toLoadRect) (View.readAt (Elt Ideal) arg4.view (Rect.unit (s := S2x16x144x512) (k0_off41 i) S1x1x144x512.size (k0_off41_inb i he)).toLoadRect (harg4.unread x2)) (arg10.view.readCov M1 (Rect.unit (s := S2x144x512) ![1, 0, 0] S1x144x512.size inb_S2x144x512_S1x144x512_1_0_0).toLoadRect) ∧
      B1 = maxStep (F := Ideal) (masked (F := Ideal) (BitVec.ofNat 32 (i 1).val) (sel i) (flat (F := Ideal) (arg7.view.readCov R7 (Rect.unit (s := S2x512x512) ![1, 0, 0] S1x512x512.size inb_S2x512x512_S1x512x512_1_0_0).toLoadRect))) (arg9.view.readCov N1 (Rect.unit (s := S2x1x512) ![1, 0, 0] S1x1x512.size inb_S2x1x512_S1x1x512_1_0_0).toLoadRect) ∧
      N2 = (⟨(Rect.unit (s := S2x1x512) ![1, 0, 0] S1x1x512.size inb_S2x1x512_S1x1x512_1_0_0), B1⟩ :: N1 : List (View.Piece (Elt Ideal) S2x1x512 .f32)) ∧
      M2 = (⟨(Rect.unit (s := S2x144x512) ![1, 0, 0] S1x144x512.size inb_S2x144x512_S1x144x512_1_0_0), A1⟩ :: M1 : List (View.Piece (Elt Ideal) S2x144x512 .f32)) ∧
      (runC (F := Ideal) c i arg2 harg2 arg3 harg3 arg4 harg4 arg5 harg5 arg6 harg6 arg7 harg7 arg8 harg8 arg9 harg9 arg10 harg10 x0 x1 x2 x3 hf hn ho he fs0 fs1 fs2 fs3).1 = [⟨Rect.unit (s := S512x256) ![0, 128] S512x128.size inb_S512x256_S512x128_0_128, k0_pay8 (F := Ideal) (arg10.view.readCov M2 (Rect.unit (s := S2x144x512) ![1, 0, 0] S1x144x512.size inb_S2x144x512_S1x144x512_1_0_0).toLoadRect)⟩, ⟨Rect.unit (s := S512x256) ![0, 0] S512x128.size inb_S512x256_S512x128_0_0, k0_pay7 (F := Ideal) (arg10.view.readCov M2 (Rect.unit (s := S2x144x512) ![0, 0, 0] S1x144x512.size inb_S2x144x512_S1x144x512_0_0_0).toLoadRect)⟩] := by
  refine ⟨_, _, _, _, _, _, _, _, _, _, _, _, _, _, _, _, rfl, rfl, rfl, rfl, rfl, rfl, rfl, rfl, rfl, rfl, rfl, rfl, rfl, rfl, rfl, rfl, ?_⟩
  have e1 : Scf.trips (k0_t1_loop i).lb (k0_t1_loop i).ub (k0_t1_loop i).st = (i 1).val / 2 := (trips_eq i).1
  have e2 : Scf.trips (k0_t2_loop i).lb (k0_t2_loop i).ub (k0_t2_loop i).st = 0 := (trips_eq i).2.1
  have e3 : Scf.trips (k0_t3_loop i).lb (k0_t3_loop i).ub (k0_t3_loop i).st = (i 1).val / 2 := (trips_eq i).2.2.1
  have e4 : Scf.trips (k0_t4_loop i).lb (k0_t4_loop i).ub (k0_t4_loop i).st = 0 := (trips_eq i).2.2.2
  unfold runC
  sl_unfold_run_names
  dsimp only
  simp only [e1, e2, e3, e4, pb_k0_t2, pb_k0_t4, List.nil_append, View.writes_nil]
  rfl

set_option maxHeartbeats 2000000 in
/-- Block with an even number of tiles before the diagonal, the running maximum kept: what the body leaves in its output block. -/
theorem valueC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : ¬Fixed i arg2 harg2 arg5 harg5 x0 x3) (hn : Online i arg2 harg2 arg5 harg5 x0 x3) (ho : ¬k0_cond5 i = 1#1) (he : k0_cond6 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))
    (hq : ∀ y, ∃ z : ℝ, x0 y = (z : EReal)) (hk : ∀ y, ∃ z : ℝ, x1 y = (z : EReal)) (hone : ∀ h j k, x2 (ix4 h j 128 k) = (1 : EReal)) (hkn : ∀ y, (0 : EReal) ≤ x3 y)
    (f : Buf (Elt Ideal) (arg6.view.loc (c : Thread nD τ))) :
    arg6.view.read (Elt Ideal) (arg6.view.writes (Elt Ideal) f (runC (F := Ideal) c i arg2 harg2 arg3 harg3 arg4 harg4 arg5 harg5 arg6 harg6 arg7 harg7 arg8 harg8 arg9 harg9 arg10 harg10 x0 x1 x2 x3 hf hn ho he fs0 fs1 fs2 fs3).1) = attended (i 1).val x0 x1 x2 := by
  have hr := fun h c' j u => raw_real hq hk h c' j u
  have ht : ∀ h c' j u, raw x0 x1 h c' j u ≠ ⊤ := fun h c' j u => by
    obtain ⟨z, hz⟩ := hr h c' j u
    rw [hz]; exact EReal.coe_ne_top z
  have hb : ∀ h c' j u, raw x0 x1 h c' j u ≠ ⊥ := fun h c' j u => by
    obtain ⟨z, hz⟩ := hr h c' j u
    rw [hz]; exact EReal.coe_ne_bot z
  have hi : (i 1).val < 16 := (i 1).isLt
  have hp := even6 i ho
  obtain ⟨s0, s1, E7, E10, E9, R7, M0, N0, A0, B0, N1, M1, A1, B1, N2, M2, es0, es1, eE7, eE10, eE9, eR7, eM0, eN0, eA0, eB0, eN1, eM1, eA1, eB1, eN2, eM2, e⟩ := piecesC c i arg2 harg2 arg3 harg3 arg4 harg4 arg5 harg5 arg6 harg6 arg7 harg7 arg8 harg8 arg9 harg9 arg10 harg10 x0 x1 x2 x3 hf hn ho he fs0 fs1 fs2 fs3
  have h0 := harg2.read_unread (Val := (Elt Ideal)) x0
  have h1 := harg3.read_unread (Val := (Elt Ideal)) x1
  have h2 := harg4.read_unread (Val := (Elt Ideal)) x2
  have qa : ∀ (u : Fin 512) (d : Fin 256), (View.readAt (Elt Ideal) arg2.view (Rect.unit (s := S512x512) ![0, 0] S512x256.size inb_S512x512_S512x256_0_0).toLoadRect (harg2.unread x0)) (ix2 u d) = x0 (ix2 u (col 0 d)) := fun u d => by
    refine (rdq arg2.view _ _ 0 rfl u d).trans ?_
    rw [h0]
  have qb : ∀ (u : Fin 512) (d : Fin 256), (View.readAt (Elt Ideal) arg2.view (Rect.unit (s := S512x512) ![0, 256] S512x256.size inb_S512x512_S512x256_0_256).toLoadRect (harg2.unread x0)) (ix2 u d) = x0 (ix2 u (col 1 d)) := fun u d => by
    refine (rdq arg2.view _ _ 1 rfl u d).trans ?_
    rw [h0]
  have k0 : ∀ (u : Fin 512) (d : Fin 256), (View.readAt (Elt Ideal) arg3.view (Rect.unit (s := S8192x512) ![0, 0] S512x256.size inb_S8192x512_S512x256_0_0).toLoadRect (harg3.unread x1)) (ix2 u d) = x1 (ix2 (key 0 u) (col 0 d)) := fun u d => by
    refine (rdk arg3.view _ _ 0 0 (by omega) rfl u d).trans ?_
    rw [h1]
  have k1 : ∀ (u : Fin 512) (d : Fin 256), (View.readAt (Elt Ideal) arg3.view (Rect.unit (s := S8192x512) ![0, 256] S512x256.size inb_S8192x512_S512x256_0_256).toLoadRect (harg3.unread x1)) (ix2 u d) = x1 (ix2 (key 0 u) (col 1 d)) := fun u d => by
    refine (rdk arg3.view _ _ 1 0 (by omega) rfl u d).trans ?_
    rw [h1]
  have v0 : ∀ (r : Fin 144) (u : Fin 512), (View.readAt (Elt Ideal) arg4.view (Rect.unit (s := S2x16x144x512) (k0_off40 i) S1x1x144x512.size (k0_off40_inb i he)).toLoadRect (harg4.unread x2)) (ix4 0 0 r u) = vals x2 0 r (i 1).val u := fun r u => by
    refine (rdv arg4.view _ _ 0 (i 1).val (by omega) (k0_off40_eq i) r u).trans ?_
    rw [h2]; rfl
  have v1 : ∀ (r : Fin 144) (u : Fin 512), (View.readAt (Elt Ideal) arg4.view (Rect.unit (s := S2x16x144x512) (k0_off41 i) S1x1x144x512.size (k0_off41_inb i he)).toLoadRect (harg4.unread x2)) (ix4 0 0 r u) = vals x2 1 r (i 1).val u := fun r u => by
    refine (rdv arg4.view _ _ 1 (i 1).val (by omega) (k0_off41_eq i) r u).trans ?_
    rw [h2]; rfl
  have s7 : ∀ (h : Fin 2) (u c' : Fin 512), arg7.view.read (Elt Ideal) (arg7.view.writes (Elt Ideal) arg7.view.junk E7) (ix3 h u c') = raw x0 x1 h c' 0 u := by
    rw [eE7]
    refine Fin.forall_fin_two.2 ⟨fun u c' => ?_, fun u c' => ?_⟩
    · exact (wro arg7.view _ _ _ _ 0 (by decide) u c').trans ((wrs arg7.view _ _ _ _ 0 rfl u c').trans (tile_logits k0 qa u c'))
    · exact (wrs arg7.view _ _ _ _ 1 rfl u c').trans (tile_logits k1 qb u c')
  have s10 : ∀ (h : Fin 2) (r : Fin 144) (c' : Fin 512), arg10.view.read (Elt Ideal) (arg10.view.writes (Elt Ideal) arg10.view.junk E10) (ix3 h r c') = (0 : EReal) := fun h r c' => by
    rw [eE10]
    exact (wrw arg10.view _ _ _ _ h r c').trans (zero_fill h r c')
  have s9 : ∀ (h : Fin 2) (c' : Fin 512), arg9.view.read (Elt Ideal) (arg9.view.writes (Elt Ideal) arg9.view.junk E9) (ix3 h 0 c') = (⊥ : EReal) := fun h c' => by
    rw [eE9]
    exact (wrw arg9.view _ _ _ _ h 0 c').trans (bot_fill h c')
  have W := loop3  Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) x0 x1 x2 h0 h1 h2 hr s7 s9 s10 ((i 1).val / 2) (by rw [(trips_eq i).2.2.1])
  have w7 : ∀ (h : Fin 2) (u c' : Fin 512), arg7.view.read (Elt Ideal) (arg7.view.writes (Elt Ideal) arg7.view.junk R7) (ix3 h u c') = raw x0 x1 h c' (2 * ((i 1).val / 2)) u := fun h u c' => by
    rw [eR7, View.writes_append]; exact W.1 h u c'
  have w10 : ∀ (h : Fin 2) (c' : Fin 512), Kept (2 * ((i 1).val / 2)) (causal (i 1).val (raw x0 x1 h) c') (vals x2 h) (arg9.view.read (Elt Ideal) (arg9.view.writes (Elt Ideal) arg9.view.junk N0) (ix3 h 0 c')) (fun r => arg10.view.read (Elt Ideal) (arg10.view.writes (Elt Ideal) arg10.view.junk M0) (ix3 h r c')) := fun h c' => by
    rw [eN0, eM0, View.writes_append, View.writes_append]
    exact (W.2 h c').congr (fun j hj u => (causal_before (by omega) _ _ _).symm)
  have hp' : 2 * ((i 1).val / 2) = (i 1).val := by omega
  rw [hp'] at w7 w10
  have y0 : ∀ (u c' : Fin 512), (masked (F := Ideal) (BitVec.ofNat 32 (i 1).val) (sel i) (flat (F := Ideal) (arg7.view.readCov R7 (Rect.unit (s := S2x512x512) ![0, 0, 0] S1x512x512.size inb_S2x512x512_S1x512x512_0_0_0).toLoadRect))) (ix2 u c') = causal (i 1).val (raw x0 x1 0) c' (i 1).val u := fun u c' => masked_causal i (fun u c' => (flat_apply _ u c').trans ((rdc arg7.view R7 _ 0 rfl u c').trans (w7 0 u c'))) u c'
  have g0 : ∀ c', (arg9.view.readCov N0 (Rect.unit (s := S2x1x512) ![0, 0, 0] S1x1x512.size inb_S2x1x512_S1x1x512_0_0_0).toLoadRect) (ix3 0 0 c') = arg9.view.read (Elt Ideal) (arg9.view.writes (Elt Ideal) arg9.view.junk N0) (ix3 0 0 c') := fun c' => by
    refine (rdc arg9.view N0 _ 0 rfl 0 c').trans ?_
    rfl
  have d0 : ∀ (r : Fin 144) (c' : Fin 512), (arg10.view.readCov M0 (Rect.unit (s := S2x144x512) ![0, 0, 0] S1x144x512.size inb_S2x144x512_S1x144x512_0_0_0).toLoadRect) (ix3 0 r c') = arg10.view.read (Elt Ideal) (arg10.view.writes (Elt Ideal) arg10.view.junk M0) (ix3 0 r c') := fun r c' => by
    refine (rdc arg10.view M0 _ 0 rfl r c').trans ?_
    rfl
  have a0 : ∀ c', Kept ((i 1).val + 1) (causal (i 1).val (raw x0 x1 0) c') (vals x2 0) (B0 (ix3 0 0 c')) (fun r => A0 (ix3 0 r c')) := fun c' => by
    rw [eA0, eB0]
    exact kept_tile (s := causal (i 1).val (raw x0 x1 0)) (w10 0) g0 d0 y0 v0 (fun c' j u _ => causal_ne_top (ht 0) c' j u) (fun c' => causal_first (by omega) (hb 0) c') c'
  have y1 : ∀ (u c' : Fin 512), (masked (F := Ideal) (BitVec.ofNat 32 (i 1).val) (sel i) (flat (F := Ideal) (arg7.view.readCov R7 (Rect.unit (s := S2x512x512) ![1, 0, 0] S1x512x512.size inb_S2x512x512_S1x512x512_1_0_0).toLoadRect))) (ix2 u c') = causal (i 1).val (raw x0 x1 1) c' (i 1).val u := fun u c' => masked_causal i (fun u c' => (flat_apply _ u c').trans ((rdc arg7.view R7 _ 1 rfl u c').trans (w7 1 u c'))) u c'
  have g1 : ∀ c', (arg9.view.readCov N1 (Rect.unit (s := S2x1x512) ![1, 0, 0] S1x1x512.size inb_S2x1x512_S1x1x512_1_0_0).toLoadRect) (ix3 0 0 c') = arg9.view.read (Elt Ideal) (arg9.view.writes (Elt Ideal) arg9.view.junk N0) (ix3 1 0 c') := fun c' => by
    refine (rdc arg9.view N1 _ 1 rfl 0 c').trans ?_
    rw [eN1]
    exact wro arg9.view _ _ _ _ 1 (by decide) 0 c'
  have d1 : ∀ (r : Fin 144) (c' : Fin 512), (arg10.view.readCov M1 (Rect.unit (s := S2x144x512) ![1, 0, 0] S1x144x512.size inb_S2x144x512_S1x144x512_1_0_0).toLoadRect) (ix3 0 r c') = arg10.view.read (Elt Ideal) (arg10.view.writes (Elt Ideal) arg10.view.junk M0) (ix3 1 r c') := fun r c' => by
    refine (rdc arg10.view M1 _ 1 rfl r c').trans ?_
    rw [eM1]
    exact wro arg10.view _ _ _ _ 1 (by decide) r c'
  have a1 : ∀ c', Kept ((i 1).val + 1) (causal (i 1).val (raw x0 x1 1) c') (vals x2 1) (B1 (ix3 0 0 c')) (fun r => A1 (ix3 0 r c')) := fun c' => by
    rw [eA1, eB1]
    exact kept_tile (s := causal (i 1).val (raw x0 x1 1)) (w10 1) g1 d1 y1 v1 (fun c' j u _ => causal_ne_top (ht 1) c' j u) (fun c' => causal_first (by omega) (hb 1) c') c'
  refine out_read arg6.view f (i 1).val x0 x1 x2 ht hb hone _ _ _ e (fun c' => ?_) (fun c' => ?_)
  · obtain ⟨hM, ha⟩ := a0 c'
    rcases hM with ⟨hz, _⟩ | ⟨μ, hμ⟩
    · exact absurd hz (Nat.succ_ne_zero _)
    · exact ⟨μ, fun r => ((rdc arg10.view M2 _ 0 rfl r c').trans (by rw [eM2, eM1]; exact (wro arg10.view _ _ _ _ 0 (by decide) r c').trans (wrs arg10.view _ _ _ _ 0 rfl r c'))).trans ((ha r).trans (by rw [hμ]))⟩
  · obtain ⟨hM, ha⟩ := a1 c'
    rcases hM with ⟨hz, _⟩ | ⟨μ, hμ⟩
    · exact absurd hz (Nat.succ_ne_zero _)
    · exact ⟨μ, fun r => ((rdc arg10.view M2 _ 1 rfl r c').trans (by rw [eM2]; exact wrs arg10.view _ _ _ _ 1 rfl r c')).trans ((ha r).trans (by rw [hμ]))⟩

end Cert.AttnBIdeal.Hand

end
-- ==== Proof.AttnB.CaseD.lean ====
/- Block with an odd number of tiles before the diagonal, the running maximum kept: what the body leaves in its output block. -/
module

public import proofs.«01_k».proof.Proof.AttnB.Spec

@[expose] public section

set_option maxRecDepth 16384

noncomputable section

namespace Cert.AttnBIdeal.Hand

open Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000 in
/-- The stores of the body, in order. -/
theorem piecesD (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : ¬Fixed i arg2 harg2 arg5 harg5 x0 x3) (hn : Online i arg2 harg2 arg5 harg5 x0 x3) (ho : k0_cond5 i = 1#1) (he : ¬k0_cond6 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))  :
    ∃ (s0 : FVec Ideal S1x512 .f32) (s1 : FVec Ideal S1x512 .f32) (E7 : List (View.Piece (Elt Ideal) S2x512x512 .f32)) (E10 : List (View.Piece (Elt Ideal) S2x144x512 .f32)) (E9 : List (View.Piece (Elt Ideal) S2x1x512 .f32)) (R7 : List (View.Piece (Elt Ideal) S2x512x512 .f32)) (M0 : List (View.Piece (Elt Ideal) S2x144x512 .f32)) (N0 : List (View.Piece (Elt Ideal) S2x1x512 .f32)) (L8 : List (View.Piece (Elt Ideal) S2x512x512 .f32)) (A0 : FVec Ideal S1x144x512 .f32) (B0 : FVec Ideal S1x1x512 .f32) (N1 : List (View.Piece (Elt Ideal) S2x1x512 .f32)) (M1 : List (View.Piece (Elt Ideal) S2x144x512 .f32)) (A1 : FVec Ideal S1x144x512 .f32) (B1 : FVec Ideal S1x1x512 .f32) (N2 : List (View.Piece (Elt Ideal) S2x1x512 .f32)) (M2 : List (View.Piece (Elt Ideal) S2x144x512 .f32)) (A2 : FVec Ideal S1x144x512 .f32) (B2 : FVec Ideal S1x1x512 .f32) (N3 : List (View.Piece (Elt Ideal) S2x1x512 .f32)) (M3 : List (View.Piece (Elt Ideal) S2x144x512 .f32)) (A3 : FVec Ideal S1x144x512 .f32) (B3 : FVec Ideal S1x1x512 .f32) (N4 : List (View.Piece (Elt Ideal) S2x1x512 .f32)) (M4 : List (View.Piece (Elt Ideal) S2x144x512 .f32)),
      s0 = (k0_pay168 (F := Ideal) (View.readAt (Elt Ideal) arg2.view (Rect.unit (s := S512x512) ![0, 0] S512x256.size inb_S512x512_S512x256_0_0).toLoadRect (harg2.unread x0)) (View.readAt (Elt Ideal) arg5.view (Rect.unit (s := S16x128) (k0_off1 i 0#32) S1x1.size (k0_off1_inb i 0)).toLoadRect (harg5.unread x3))) ∧
      s1 = (k0_pay1 (F := Ideal) (View.readAt (Elt Ideal) arg5.view (Rect.unit (s := S16x128) (k0_off1 i 1#32) S1x1.size (k0_off1_inb i 1)).toLoadRect (harg5.unread x3)) (k0_pay169 (View.readAt (Elt Ideal) arg2.view (Rect.unit (s := S512x512) ![0, 256] S512x256.size inb_S512x512_S512x256_0_256).toLoadRect (harg2.unread x0)))) ∧
      E7 = (([⟨(Rect.unit (s := S2x512x512) ![1, 0, 0] S1x512x512.size inb_S2x512x512_S1x512x512_1_0_0), k0_pay9 (F := Ideal) (View.readAt (Elt Ideal) arg3.view (Rect.unit (s := S8192x512) ![0, 256] S512x256.size inb_S8192x512_S512x256_0_256).toLoadRect (harg3.unread x1)) (View.readAt (Elt Ideal) arg2.view (Rect.unit (s := S512x512) ![0, 256] S512x256.size inb_S512x512_S512x256_0_256).toLoadRect (harg2.unread x0))⟩, ⟨(Rect.unit (s := S2x512x512) ![0, 0, 0] S1x512x512.size inb_S2x512x512_S1x512x512_0_0_0), k0_pay9 (F := Ideal) (View.readAt (Elt Ideal) arg3.view (Rect.unit (s := S8192x512) ![0, 0] S512x256.size inb_S8192x512_S512x256_0_0).toLoadRect (harg3.unread x1)) (View.readAt (Elt Ideal) arg2.view (Rect.unit (s := S512x512) ![0, 0] S512x256.size inb_S512x512_S512x256_0_0).toLoadRect (harg2.unread x0))⟩] : List (View.Piece (Elt Ideal) S2x512x512 .f32)) : List (View.Piece (Elt Ideal) S2x512x512 .f32)) ∧
      E10 = (([⟨(Rect.unit (s := S2x144x512) ![0, 0, 0] S2x144x512.size inb_S2x144x512_S2x144x512_0_0_0), k0_pay164 (F := Ideal)⟩] : List (View.Piece (Elt Ideal) S2x144x512 .f32)) : List (View.Piece (Elt Ideal) S2x144x512 .f32)) ∧
      E9 = (([⟨(Rect.unit (s := S2x1x512) ![0, 0, 0] S2x1x512.size inb_S2x1x512_S2x1x512_0_0_0), k0_pay163 (F := Ideal)⟩] : List (View.Piece (Elt Ideal) S2x1x512 .f32)) : List (View.Piece (Elt Ideal) S2x1x512 .f32)) ∧
      R7 = ((pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).1 ++ E7 : List (View.Piece (Elt Ideal) S2x512x512 .f32)) ∧
      M0 = ((pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).2.2.2 ++ E10 : List (View.Piece (Elt Ideal) S2x144x512 .f32)) ∧
      N0 = ((pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).2.2.1 ++ E9 : List (View.Piece (Elt Ideal) S2x1x512 .f32)) ∧
      L8 = ((⟨(Rect.unit (s := S2x512x512) ![1, 0, 0] S1x512x512.size inb_S2x512x512_S1x512x512_1_0_0), k0_pay9 (F := Ideal) (View.readAt (Elt Ideal) arg3.view (Rect.unit (s := S8192x512) (k0_off35 i) S512x256.size (k0_off35_inb i ho)).toLoadRect (harg3.unread x1)) (View.readAt (Elt Ideal) arg2.view (Rect.unit (s := S512x512) ![0, 256] S512x256.size inb_S512x512_S512x256_0_256).toLoadRect (harg2.unread x0))⟩ :: ⟨(Rect.unit (s := S2x512x512) ![0, 0, 0] S1x512x512.size inb_S2x512x512_S1x512x512_0_0_0), k0_pay9 (F := Ideal) (View.readAt (Elt Ideal) arg3.view (Rect.unit (s := S8192x512) (k0_off34 i) S512x256.size (k0_off34_inb i ho)).toLoadRect (harg3.unread x1)) (View.readAt (Elt Ideal) arg2.view (Rect.unit (s := S512x512) ![0, 0] S512x256.size inb_S512x512_S512x256_0_0).toLoadRect (harg2.unread x0))⟩ :: (pb_k0_t3 (F := Ideal) Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) ((i 1).val / 2)).2.1) : List (View.Piece (Elt Ideal) S2x512x512 .f32)) ∧
      A0 = accStep (F := Ideal) (flat (F := Ideal) (arg7.view.readCov R7 (Rect.unit (s := S2x512x512) ![0, 0, 0] S1x512x512.size inb_S2x512x512_S1x512x512_0_0_0).toLoadRect)) (arg9.view.readCov N0 (Rect.unit (s := S2x1x512) ![0, 0, 0] S1x1x512.size inb_S2x1x512_S1x1x512_0_0_0).toLoadRect) (View.readAt (Elt Ideal) arg4.view (Rect.unit (s := S2x16x144x512) (k0_off36 i) S1x1x144x512.size (k0_off36_inb i ho)).toLoadRect (harg4.unread x2)) (arg10.view.readCov M0 (Rect.unit (s := S2x144x512) ![0, 0, 0] S1x144x512.size inb_S2x144x512_S1x144x512_0_0_0).toLoadRect) ∧
      B0 = maxStep (F := Ideal) (flat (F := Ideal) (arg7.view.readCov R7 (Rect.unit (s := S2x512x512) ![0, 0, 0] S1x512x512.size inb_S2x512x512_S1x512x512_0_0_0).toLoadRect)) (arg9.view.readCov N0 (Rect.unit (s := S2x1x512) ![0, 0, 0] S1x1x512.size inb_S2x1x512_S1x1x512_0_0_0).toLoadRect) ∧
      N1 = (⟨(Rect.unit (s := S2x1x512) ![0, 0, 0] S1x1x512.size inb_S2x1x512_S1x1x512_0_0_0), B0⟩ :: N0 : List (View.Piece (Elt Ideal) S2x1x512 .f32)) ∧
      M1 = (⟨(Rect.unit (s := S2x144x512) ![0, 0, 0] S1x144x512.size inb_S2x144x512_S1x144x512_0_0_0), A0⟩ :: M0 : List (View.Piece (Elt Ideal) S2x144x512 .f32)) ∧
      A1 = accStep (F := Ideal) (flat (F := Ideal) (arg7.view.readCov R7 (Rect.unit (s := S2x512x512) ![1, 0, 0] S1x512x512.size inb_S2x512x512_S1x512x512_1_0_0).toLoadRect)) (arg9.view.readCov N1 (Rect.unit (s := S2x1x512) ![1, 0, 0] S1x1x512.size inb_S2x1x512_S1x1x512_1_0_0).toLoadRect) (View.readAt (Elt Ideal) arg4.view (Rect.unit (s := S2x16x144x512) (k0_off37 i) S1x1x144x512.size (k0_off37_inb i ho)).toLoadRect (harg4.unread x2)) (arg10.view.readCov M1 (Rect.unit (s := S2x144x512) ![1, 0, 0] S1x144x512.size inb_S2x144x512_S1x144x512_1_0_0).toLoadRect) ∧
      B1 = maxStep (F := Ideal) (flat (F := Ideal) (arg7.view.readCov R7 (Rect.unit (s := S2x512x512) ![1, 0, 0] S1x512x512.size inb_S2x512x512_S1x512x512_1_0_0).toLoadRect)) (arg9.view.readCov N1 (Rect.unit (s := S2x1x512) ![1, 0, 0] S1x1x512.size inb_S2x1x512_S1x1x512_1_0_0).toLoadRect) ∧
      N2 = (⟨(Rect.unit (s := S2x1x512) ![1, 0, 0] S1x1x512.size inb_S2x1x512_S1x1x512_1_0_0), B1⟩ :: N1 : List (View.Piece (Elt Ideal) S2x1x512 .f32)) ∧
      M2 = (⟨(Rect.unit (s := S2x144x512) ![1, 0, 0] S1x144x512.size inb_S2x144x512_S1x144x512_1_0_0), A1⟩ :: M1 : List (View.Piece (Elt Ideal) S2x144x512 .f32)) ∧
      A2 = accStep (F := Ideal) (masked (F := Ideal) (BitVec.ofNat 32 (i 1).val) (sel i) (flat (F := Ideal) (arg8.view.readCov L8 (Rect.unit (s := S2x512x512) ![0, 0, 0] S1x512x512.size inb_S2x512x512_S1x512x512_0_0_0).toLoadRect))) (arg9.view.readCov N2 (Rect.unit (s := S2x1x512) ![0, 0, 0] S1x1x512.size inb_S2x1x512_S1x1x512_0_0_0).toLoadRect) (View.readAt (Elt Ideal) arg4.view (Rect.unit (s := S2x16x144x512) (k0_off38 i) S1x1x144x512.size (k0_off38_inb i ho)).toLoadRect (harg4.unread x2)) (arg10.view.readCov M2 (Rect.unit (s := S2x144x512) ![0, 0, 0] S1x144x512.size inb_S2x144x512_S1x144x512_0_0_0).toLoadRect) ∧
      B2 = maxStep (F := Ideal) (masked (F := Ideal) (BitVec.ofNat 32 (i 1).val) (sel i) (flat (F := Ideal) (arg8.view.readCov L8 (Rect.unit (s := S2x512x512) ![0, 0, 0] S1x512x512.size inb_S2x512x512_S1x512x512_0_0_0).toLoadRect))) (arg9.view.readCov N2 (Rect.unit (s := S2x1x512) ![0, 0, 0] S1x1x512.size inb_S2x1x512_S1x1x512_0_0_0).toLoadRect) ∧
      N3 = (⟨(Rect.unit (s := S2x1x512) ![0, 0, 0] S1x1x512.size inb_S2x1x512_S1x1x512_0_0_0), B2⟩ :: N2 : List (View.Piece (Elt Ideal) S2x1x512 .f32)) ∧
      M3 = (⟨(Rect.unit (s := S2x144x512) ![0, 0, 0] S1x144x512.size inb_S2x144x512_S1x144x512_0_0_0), A2⟩ :: M2 : List (View.Piece (Elt Ideal) S2x144x512 .f32)) ∧
      A3 = accStep (F := Ideal) (masked (F := Ideal) (BitVec.ofNat 32 (i 1).val) (sel i) (flat (F := Ideal) (arg8.view.readCov L8 (Rect.unit (s := S2x512x512) ![1, 0, 0] S1x512x512.size inb_S2x512x512_S1x512x512_1_0_0).toLoadRect))) (arg9.view.readCov N3 (Rect.unit (s := S2x1x512) ![1, 0, 0] S1x1x512.size inb_S2x1x512_S1x1x512_1_0_0).toLoadRect) (View.readAt (Elt Ideal) arg4.view (Rect.unit (s := S2x16x144x512) (k0_off39 i) S1x1x144x512.size (k0_off39_inb i ho)).toLoadRect (harg4.unread x2)) (arg10.view.readCov M3 (Rect.unit (s := S2x144x512) ![1, 0, 0] S1x144x512.size inb_S2x144x512_S1x144x512_1_0_0).toLoadRect) ∧
      B3 = maxStep (F := Ideal) (masked (F := Ideal) (BitVec.ofNat 32 (i 1).val) (sel i) (flat (F := Ideal) (arg8.view.readCov L8 (Rect.unit (s := S2x512x512) ![1, 0, 0] S1x512x512.size inb_S2x512x512_S1x512x512_1_0_0).toLoadRect))) (arg9.view.readCov N3 (Rect.unit (s := S2x1x512) ![1, 0, 0] S1x1x512.size inb_S2x1x512_S1x1x512_1_0_0).toLoadRect) ∧
      N4 = (⟨(Rect.unit (s := S2x1x512) ![1, 0, 0] S1x1x512.size inb_S2x1x512_S1x1x512_1_0_0), B3⟩ :: N3 : List (View.Piece (Elt Ideal) S2x1x512 .f32)) ∧
      M4 = (⟨(Rect.unit (s := S2x144x512) ![1, 0, 0] S1x144x512.size inb_S2x144x512_S1x144x512_1_0_0), A3⟩ :: M3 : List (View.Piece (Elt Ideal) S2x144x512 .f32)) ∧
      (runD (F := Ideal) c i arg2 harg2 arg3 harg3 arg4 harg4 arg5 harg5 arg6 harg6 arg7 harg7 arg8 harg8 arg9 harg9 arg10 harg10 x0 x1 x2 x3 hf hn ho he fs0 fs1 fs2 fs3).1 = [⟨Rect.unit (s := S512x256) ![0, 128] S512x128.size inb_S512x256_S512x128_0_128, k0_pay8 (F := Ideal) (arg10.view.readCov M4 (Rect.unit (s := S2x144x512) ![1, 0, 0] S1x144x512.size inb_S2x144x512_S1x144x512_1_0_0).toLoadRect)⟩, ⟨Rect.unit (s := S512x256) ![0, 0] S512x128.size inb_S512x256_S512x128_0_0, k0_pay7 (F := Ideal) (arg10.view.readCov M4 (Rect.unit (s := S2x144x512) ![0, 0, 0] S1x144x512.size inb_S2x144x512_S1x144x512_0_0_0).toLoadRect)⟩] := by
  have e1 : Scf.trips (k0_t1_loop i).lb (k0_t1_loop i).ub (k0_t1_loop i).st = (i 1).val / 2 := (trips_eq i).1
  have e2 : Scf.trips (k0_t2_loop i).lb (k0_t2_loop i).ub (k0_t2_loop i).st = 0 := (trips_eq i).2.1
  have e3 : Scf.trips (k0_t3_loop i).lb (k0_t3_loop i).ub (k0_t3_loop i).st = (i 1).val / 2 := (trips_eq i).2.2.1
  have e4 : Scf.trips (k0_t4_loop i).lb (k0_t4_loop i).ub (k0_t4_loop i).st = 0 := (trips_eq i).2.2.2
  refine ⟨?s0, ?s1, ?E7, ?E10, ?E9, ?R7, ?M0, ?N0, ?L8, ?A0, ?B0, ?N1, ?M1, ?A1, ?B1, ?N2, ?M2, ?A2, ?B2, ?N3, ?M3, ?A3, ?B3, ?N4, ?M4, ?es0, ?es1, ?eE7, ?eE10, ?eE9, ?eR7, ?eM0, ?eN0, ?eL8, ?eA0, ?eB0, ?eN1, ?eM1, ?eA1, ?eB1, ?eN2, ?eM2, ?eA2, ?eB2, ?eN3, ?eM3, ?eA3, ?eB3, ?eN4, ?eM4, ?e⟩
  case e =>
    unfold runD
    sl_unfold_run_names
    dsimp only
    simp only [e1, e2, e3, e4, pb_k0_t2, pb_k0_t4, List.nil_append, View.writes_nil]
    rfl
  case eM4 => rfl
  case eN4 => rfl
  case eM3 => rfl
  case eN3 => rfl
  case eM2 => rfl
  case eN2 => rfl
  case eM1 => rfl
  case eN1 => rfl
  case es0 => rfl
  case es1 => rfl
  case eE7 => rfl
  case eE10 => rfl
  case eE9 => rfl
  case eR7 => rfl
  case eL8 => rfl
  case eM0 => rfl
  case eN0 => rfl
  case eA0 => rfl
  case eB0 => rfl
  case eA1 => rfl
  case eB1 => rfl
  case eA2 => rfl
  case eB2 => rfl
  case eA3 => rfl
  case eB3 => rfl

set_option maxHeartbeats 2000000 in
/-- Block with an odd number of tiles before the diagonal, the running maximum kept: what the body leaves in its output block. -/
theorem valueD (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S2x16x144x512 .bf16) (harg4 : arg4.IsWhole) (arg5 : Memref sig .tc .vmem S16x128 .f32) (harg5 : arg5.IsWhole) (arg6 : Memref sig .tc .vmem S512x256 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x144x512 .f32) (harg10 : arg10.IsWhole)
    (x0 : Vec Ideal S512x512 .bf16) (x1 : Vec Ideal S8192x512 .bf16) (x2 : Vec Ideal S2x16x144x512 .bf16) (x3 : Vec Ideal S16x128 .f32) (hf : ¬Fixed i arg2 harg2 arg5 harg5 x0 x3) (hn : Online i arg2 harg2 arg5 harg5 x0 x3) (ho : k0_cond5 i = 1#1) (he : ¬k0_cond6 i = 1#1) (fs0 : Buf (Elt Ideal) (arg7.view.loc (c : Thread nD τ))) (fs1 : Buf (Elt Ideal) (arg8.view.loc (c : Thread nD τ))) (fs2 : Buf (Elt Ideal) (arg9.view.loc (c : Thread nD τ))) (fs3 : Buf (Elt Ideal) (arg10.view.loc (c : Thread nD τ)))
    (hq : ∀ y, ∃ z : ℝ, x0 y = (z : EReal)) (hk : ∀ y, ∃ z : ℝ, x1 y = (z : EReal)) (hone : ∀ h j k, x2 (ix4 h j 128 k) = (1 : EReal)) (hkn : ∀ y, (0 : EReal) ≤ x3 y)
    (f : Buf (Elt Ideal) (arg6.view.loc (c : Thread nD τ))) :
    arg6.view.read (Elt Ideal) (arg6.view.writes (Elt Ideal) f (runD (F := Ideal) c i arg2 harg2 arg3 harg3 arg4 harg4 arg5 harg5 arg6 harg6 arg7 harg7 arg8 harg8 arg9 harg9 arg10 harg10 x0 x1 x2 x3 hf hn ho he fs0 fs1 fs2 fs3).1) = attended (i 1).val x0 x1 x2 := by
  have hr := fun h c' j u => raw_real hq hk h c' j u
  have ht : ∀ h c' j u, raw x0 x1 h c' j u ≠ ⊤ := fun h c' j u => by
    obtain ⟨z, hz⟩ := hr h c' j u
    rw [hz]; exact EReal.coe_ne_top z
  have hb : ∀ h c' j u, raw x0 x1 h c' j u ≠ ⊥ := fun h c' j u => by
    obtain ⟨z, hz⟩ := hr h c' j u
    rw [hz]; exact EReal.coe_ne_bot z
  have hi : (i 1).val < 16 := (i 1).isLt
  have hp := odd5 i ho
  obtain ⟨s0, s1, E7, E10, E9, R7, M0, N0, L8, A0, B0, N1, M1, A1, B1, N2, M2, A2, B2, N3, M3, A3, B3, N4, M4, es0, es1, eE7, eE10, eE9, eR7, eM0, eN0, eL8, eA0, eB0, eN1, eM1, eA1, eB1, eN2, eM2, eA2, eB2, eN3, eM3, eA3, eB3, eN4, eM4, e⟩ := piecesD c i arg2 harg2 arg3 harg3 arg4 harg4 arg5 harg5 arg6 harg6 arg7 harg7 arg8 harg8 arg9 harg9 arg10 harg10 x0 x1 x2 x3 hf hn ho he fs0 fs1 fs2 fs3
  have h0 := harg2.read_unread (Val := (Elt Ideal)) x0
  have h1 := harg3.read_unread (Val := (Elt Ideal)) x1
  have h2 := harg4.read_unread (Val := (Elt Ideal)) x2
  have qa : ∀ (u : Fin 512) (d : Fin 256), (View.readAt (Elt Ideal) arg2.view (Rect.unit (s := S512x512) ![0, 0] S512x256.size inb_S512x512_S512x256_0_0).toLoadRect (harg2.unread x0)) (ix2 u d) = x0 (ix2 u (col 0 d)) := fun u d => by
    refine (rdq arg2.view _ _ 0 rfl u d).trans ?_
    rw [h0]
  have qb : ∀ (u : Fin 512) (d : Fin 256), (View.readAt (Elt Ideal) arg2.view (Rect.unit (s := S512x512) ![0, 256] S512x256.size inb_S512x512_S512x256_0_256).toLoadRect (harg2.unread x0)) (ix2 u d) = x0 (ix2 u (col 1 d)) := fun u d => by
    refine (rdq arg2.view _ _ 1 rfl u d).trans ?_
    rw [h0]
  have k0 : ∀ (u : Fin 512) (d : Fin 256), (View.readAt (Elt Ideal) arg3.view (Rect.unit (s := S8192x512) ![0, 0] S512x256.size inb_S8192x512_S512x256_0_0).toLoadRect (harg3.unread x1)) (ix2 u d) = x1 (ix2 (key 0 u) (col 0 d)) := fun u d => by
    refine (rdk arg3.view _ _ 0 0 (by omega) rfl u d).trans ?_
    rw [h1]
  have k1 : ∀ (u : Fin 512) (d : Fin 256), (View.readAt (Elt Ideal) arg3.view (Rect.unit (s := S8192x512) ![0, 256] S512x256.size inb_S8192x512_S512x256_0_256).toLoadRect (harg3.unread x1)) (ix2 u d) = x1 (ix2 (key 0 u) (col 1 d)) := fun u d => by
    refine (rdk arg3.view _ _ 1 0 (by omega) rfl u d).trans ?_
    rw [h1]
  have l0 : ∀ (u : Fin 512) (d : Fin 256), (View.readAt (Elt Ideal) arg3.view (Rect.unit (s := S8192x512) (k0_off34 i) S512x256.size (k0_off34_inb i ho)).toLoadRect (harg3.unread x1)) (ix2 u d) = x1 (ix2 (key (i 1).val u) (col 0 d)) := fun u d => by
    refine (rdk arg3.view _ _ 0 (i 1).val hi (k0_off34_eq i) u d).trans ?_
    rw [h1]
  have l1 : ∀ (u : Fin 512) (d : Fin 256), (View.readAt (Elt Ideal) arg3.view (Rect.unit (s := S8192x512) (k0_off35 i) S512x256.size (k0_off35_inb i ho)).toLoadRect (harg3.unread x1)) (ix2 u d) = x1 (ix2 (key (i 1).val u) (col 1 d)) := fun u d => by
    refine (rdk arg3.view _ _ 1 (i 1).val hi (k0_off35_eq i) u d).trans ?_
    rw [h1]
  have v0 : ∀ (r : Fin 144) (u : Fin 512), (View.readAt (Elt Ideal) arg4.view (Rect.unit (s := S2x16x144x512) (k0_off36 i) S1x1x144x512.size (k0_off36_inb i ho)).toLoadRect (harg4.unread x2)) (ix4 0 0 r u) = vals x2 0 r ((i 1).val - 1) u := fun r u => by
    refine (rdv arg4.view _ _ 0 ((i 1).val - 1) (by omega) (off36_eq i ho) r u).trans ?_
    rw [h2]; rfl
  have v1 : ∀ (r : Fin 144) (u : Fin 512), (View.readAt (Elt Ideal) arg4.view (Rect.unit (s := S2x16x144x512) (k0_off37 i) S1x1x144x512.size (k0_off37_inb i ho)).toLoadRect (harg4.unread x2)) (ix4 0 0 r u) = vals x2 1 r ((i 1).val - 1) u := fun r u => by
    refine (rdv arg4.view _ _ 1 ((i 1).val - 1) (by omega) (off37_eq i ho) r u).trans ?_
    rw [h2]; rfl
  have v2 : ∀ (r : Fin 144) (u : Fin 512), (View.readAt (Elt Ideal) arg4.view (Rect.unit (s := S2x16x144x512) (k0_off38 i) S1x1x144x512.size (k0_off38_inb i ho)).toLoadRect (harg4.unread x2)) (ix4 0 0 r u) = vals x2 0 r (i 1).val u := fun r u => by
    refine (rdv arg4.view _ _ 0 (i 1).val (by omega) (k0_off38_eq i) r u).trans ?_
    rw [h2]; rfl
  have v3 : ∀ (r : Fin 144) (u : Fin 512), (View.readAt (Elt Ideal) arg4.view (Rect.unit (s := S2x16x144x512) (k0_off39 i) S1x1x144x512.size (k0_off39_inb i ho)).toLoadRect (harg4.unread x2)) (ix4 0 0 r u) = vals x2 1 r (i 1).val u := fun r u => by
    refine (rdv arg4.view _ _ 1 (i 1).val (by omega) (k0_off39_eq i) r u).trans ?_
    rw [h2]; rfl
  have s7 : ∀ (h : Fin 2) (u c' : Fin 512), arg7.view.read (Elt Ideal) (arg7.view.writes (Elt Ideal) arg7.view.junk E7) (ix3 h u c') = raw x0 x1 h c' 0 u := by
    rw [eE7]
    refine Fin.forall_fin_two.2 ⟨fun u c' => ?_, fun u c' => ?_⟩
    · exact (wro arg7.view _ _ _ _ 0 (by decide) u c').trans ((wrs arg7.view _ _ _ _ 0 rfl u c').trans (tile_logits k0 qa u c'))
    · exact (wrs arg7.view _ _ _ _ 1 rfl u c').trans (tile_logits k1 qb u c')
  have s8 : ∀ (h : Fin 2) (u c' : Fin 512), arg8.view.read (Elt Ideal) (arg8.view.writes (Elt Ideal) arg8.view.junk L8) (ix3 h u c') = raw x0 x1 h c' (i 1).val u := by
    rw [eL8]
    refine Fin.forall_fin_two.2 ⟨fun u c' => ?_, fun u c' => ?_⟩
    · exact (wro arg8.view _ _ _ _ 0 (by decide) u c').trans ((wrs arg8.view _ _ _ _ 0 rfl u c').trans (tile_logits l0 qa u c'))
    · exact (wrs arg8.view _ _ _ _ 1 rfl u c').trans (tile_logits l1 qb u c')
  have s10 : ∀ (h : Fin 2) (r : Fin 144) (c' : Fin 512), arg10.view.read (Elt Ideal) (arg10.view.writes (Elt Ideal) arg10.view.junk E10) (ix3 h r c') = (0 : EReal) := fun h r c' => by
    rw [eE10]
    exact (wrw arg10.view _ _ _ _ h r c').trans (zero_fill h r c')
  have s9 : ∀ (h : Fin 2) (c' : Fin 512), arg9.view.read (Elt Ideal) (arg9.view.writes (Elt Ideal) arg9.view.junk E9) (ix3 h 0 c') = (⊥ : EReal) := fun h c' => by
    rw [eE9]
    exact (wrw arg9.view _ _ _ _ h 0 c').trans (bot_fill h c')
  have W := loop3  Variants.none c none i arg2 harg2 arg3 harg3 arg4 harg4 arg5 harg5 arg6 harg6 arg7 harg7 arg8 harg8 arg9 harg9 arg10 harg10 (BitVec.ofNat 32 (i 1).val) (sel i)  (harg2.unread x0) (harg3.unread x1) (harg4.unread x2) (arg7.view.writes (Elt Ideal) arg7.view.junk E7) fs1 (arg9.view.writes (Elt Ideal) arg9.view.junk E9) (arg10.view.writes (Elt Ideal) arg10.view.junk E10) x0 x1 x2 h0 h1 h2 hr s7 s9 s10 ((i 1).val / 2) (by rw [(trips_eq i).2.2.1])
  have w7 : ∀ (h : Fin 2) (u c' : Fin 512), arg7.view.read (Elt Ideal) (arg7.view.writes (Elt Ideal) arg7.view.junk R7) (ix3 h u c') = raw x0 x1 h c' (2 * ((i 1).val / 2)) u := fun h u c' => by
    rw [eR7, View.writes_append]; exact W.1 h u c'
  have w10 : ∀ (h : Fin 2) (c' : Fin 512), Kept (2 * ((i 1).val / 2)) (causal (i 1).val (raw x0 x1 h) c') (vals x2 h) (arg9.view.read (Elt Ideal) (arg9.view.writes (Elt Ideal) arg9.view.junk N0) (ix3 h 0 c')) (fun r => arg10.view.read (Elt Ideal) (arg10.view.writes (Elt Ideal) arg10.view.junk M0) (ix3 h r c')) := fun h c' => by
    rw [eN0, eM0, View.writes_append, View.writes_append]
    exact (W.2 h c').congr (fun j hj u => (causal_before (by omega) _ _ _).symm)
  have hp' : 2 * ((i 1).val / 2) = ((i 1).val - 1) := by omega
  rw [hp'] at w7 w10
  have y0 : ∀ (u c' : Fin 512), (flat (F := Ideal) (arg7.view.readCov R7 (Rect.unit (s := S2x512x512) ![0, 0, 0] S1x512x512.size inb_S2x512x512_S1x512x512_0_0_0).toLoadRect)) (ix2 u c') = causal (i 1).val (raw x0 x1 0) c' ((i 1).val - 1) u := fun u c' => ((flat_apply _ u c').trans ((rdc arg7.view R7 _ 0 rfl u c').trans (w7 0 u c'))).trans (causal_before (by omega) _ _ _).symm
  have g0 : ∀ c', (arg9.view.readCov N0 (Rect.unit (s := S2x1x512) ![0, 0, 0] S1x1x512.size inb_S2x1x512_S1x1x512_0_0_0).toLoadRect) (ix3 0 0 c') = arg9.view.read (Elt Ideal) (arg9.view.writes (Elt Ideal) arg9.view.junk N0) (ix3 0 0 c') := fun c' => by
    refine (rdc arg9.view N0 _ 0 rfl 0 c').trans ?_
    rfl
  have d0 : ∀ (r : Fin 144) (c' : Fin 512), (arg10.view.readCov M0 (Rect.unit (s := S2x144x512) ![0, 0, 0] S1x144x512.size inb_S2x144x512_S1x144x512_0_0_0).toLoadRect) (ix3 0 r c') = arg10.view.read (Elt Ideal) (arg10.view.writes (Elt Ideal) arg10.view.junk M0) (ix3 0 r c') := fun r c' => by
    refine (rdc arg10.view M0 _ 0 rfl r c').trans ?_
    rfl
  have a0 : ∀ c', Kept ((i 1).val - 1 + 1) (causal (i 1).val (raw x0 x1 0) c') (vals x2 0) (B0 (ix3 0 0 c')) (fun r => A0 (ix3 0 r c')) := fun c' => by
    rw [eA0, eB0]
    exact kept_tile (s := causal (i 1).val (raw x0 x1 0)) (w10 0) g0 d0 y0 v0 (fun c' j u _ => causal_ne_top (ht 0) c' j u) (fun c' => causal_first (by omega) (hb 0) c') c'
  have y1 : ∀ (u c' : Fin 512), (flat (F := Ideal) (arg7.view.readCov R7 (Rect.unit (s := S2x512x512) ![1, 0, 0] S1x512x512.size inb_S2x512x512_S1x512x512_1_0_0).toLoadRect)) (ix2 u c') = causal (i 1).val (raw x0 x1 1) c' ((i 1).val - 1) u := fun u c' => ((flat_apply _ u c').trans ((rdc arg7.view R7 _ 1 rfl u c').trans (w7 1 u c'))).trans (causal_before (by omega) _ _ _).symm
  have g1 : ∀ c', (arg9.view.readCov N1 (Rect.unit (s := S2x1x512) ![1, 0, 0] S1x1x512.size inb_S2x1x512_S1x1x512_1_0_0).toLoadRect) (ix3 0 0 c') = arg9.view.read (Elt Ideal) (arg9.view.writes (Elt Ideal) arg9.view.junk N0) (ix3 1 0 c') := fun c' => by
    refine (rdc arg9.view N1 _ 1 rfl 0 c').trans ?_
    rw [eN1]
    exact wro arg9.view _ _ _ _ 1 (by decide) 0 c'
  have d1 : ∀ (r : Fin 144) (c' : Fin 512), (arg10.view.readCov M1 (Rect.unit (s := S2x144x512) ![1, 0, 0] S1x144x512.size inb_S2x144x512_S1x144x512_1_0_0).toLoadRect) (ix3 0 r c') = arg10.view.read (Elt Ideal) (arg10.view.writes (Elt Ideal) arg10.view.junk M0) (ix3 1 r c') := fun r c' => by
    refine (rdc arg10.view M1 _ 1 rfl r c').trans ?_
    rw [eM1]
    exact wro arg10.view _ _ _ _ 1 (by decide) r c'
  have a1 : ∀ c', Kept ((i 1).val - 1 + 1) (causal (i 1).val (raw x0 x1 1) c') (vals x2 1) (B1 (ix3 0 0 c')) (fun r => A1 (ix3 0 r c')) := fun c' => by
    rw [eA1, eB1]
    exact kept_tile (s := causal (i 1).val (raw x0 x1 1)) (w10 1) g1 d1 y1 v1 (fun c' j u _ => causal_ne_top (ht 1) c' j u) (fun c' => causal_first (by omega) (hb 1) c') c'
  have hp'' : (i 1).val - 1 + 1 = (i 1).val := by omega
  have y2 : ∀ (u c' : Fin 512), (masked (F := Ideal) (BitVec.ofNat 32 (i 1).val) (sel i) (flat (F := Ideal) (arg8.view.readCov L8 (Rect.unit (s := S2x512x512) ![0, 0, 0] S1x512x512.size inb_S2x512x512_S1x512x512_0_0_0).toLoadRect))) (ix2 u c') = causal (i 1).val (raw x0 x1 0) c' (i 1).val u := fun u c' => masked_causal i (fun u c' => (flat_apply _ u c').trans ((rdc arg8.view L8 _ 0 rfl u c').trans (s8 0 u c'))) u c'
  have g2 : ∀ c', (arg9.view.readCov N2 (Rect.unit (s := S2x1x512) ![0, 0, 0] S1x1x512.size inb_S2x1x512_S1x1x512_0_0_0).toLoadRect) (ix3 0 0 c') = B0 (ix3 0 0 c') := fun c' => by
    refine (rdc arg9.view N2 _ 0 rfl 0 c').trans ?_
    rw [eN2, eN1]
    refine (wro arg9.view _ _ _ _ 0 (by decide) 0 c').trans ?_
    exact wrs arg9.view _ _ _ _ 0 rfl 0 c'
  have d2 : ∀ (r : Fin 144) (c' : Fin 512), (arg10.view.readCov M2 (Rect.unit (s := S2x144x512) ![0, 0, 0] S1x144x512.size inb_S2x144x512_S1x144x512_0_0_0).toLoadRect) (ix3 0 r c') = A0 (ix3 0 r c') := fun r c' => by
    refine (rdc arg10.view M2 _ 0 rfl r c').trans ?_
    rw [eM2, eM1]
    refine (wro arg10.view _ _ _ _ 0 (by decide) r c').trans ?_
    exact wrs arg10.view _ _ _ _ 0 rfl r c'
  rw [hp''] at a0
  have a2 : ∀ c', Kept ((i 1).val + 1) (causal (i 1).val (raw x0 x1 0) c') (vals x2 0) (B2 (ix3 0 0 c')) (fun r => A2 (ix3 0 r c')) := fun c' => by
    rw [eA2, eB2]
    exact kept_tile (s := causal (i 1).val (raw x0 x1 0)) (a0) g2 d2 y2 v2 (fun c' j u _ => causal_ne_top (ht 0) c' j u) (fun c' => causal_first (by omega) (hb 0) c') c'
  have y3 : ∀ (u c' : Fin 512), (masked (F := Ideal) (BitVec.ofNat 32 (i 1).val) (sel i) (flat (F := Ideal) (arg8.view.readCov L8 (Rect.unit (s := S2x512x512) ![1, 0, 0] S1x512x512.size inb_S2x512x512_S1x512x512_1_0_0).toLoadRect))) (ix2 u c') = causal (i 1).val (raw x0 x1 1) c' (i 1).val u := fun u c' => masked_causal i (fun u c' => (flat_apply _ u c').trans ((rdc arg8.view L8 _ 1 rfl u c').trans (s8 1 u c'))) u c'
  have g3 : ∀ c', (arg9.view.readCov N3 (Rect.unit (s := S2x1x512) ![1, 0, 0] S1x1x512.size inb_S2x1x512_S1x1x512_1_0_0).toLoadRect) (ix3 0 0 c') = B1 (ix3 0 0 c') := fun c' => by
    refine (rdc arg9.view N3 _ 1 rfl 0 c').trans ?_
    rw [eN3, eN2]
    refine (wro arg9.view _ _ _ _ 1 (by decide) 0 c').trans ?_
    exact wrs arg9.view _ _ _ _ 1 rfl 0 c'
  have d3 : ∀ (r : Fin 144) (c' : Fin 512), (arg10.view.readCov M3 (Rect.unit (s := S2x144x512) ![1, 0, 0] S1x144x512.size inb_S2x144x512_S1x144x512_1_0_0).toLoadRect) (ix3 0 r c') = A1 (ix3 0 r c') := fun r c' => by
    refine (rdc arg10.view M3 _ 1 rfl r c').trans ?_
    rw [eM3, eM2]
    refine (wro arg10.view _ _ _ _ 1 (by decide) r c').trans ?_
    exact wrs arg10.view _ _ _ _ 1 rfl r c'
  rw [hp''] at a1
  have a3 : ∀ c', Kept ((i 1).val + 1) (causal (i 1).val (raw x0 x1 1) c') (vals x2 1) (B3 (ix3 0 0 c')) (fun r => A3 (ix3 0 r c')) := fun c' => by
    rw [eA3, eB3]
    exact kept_tile (s := causal (i 1).val (raw x0 x1 1)) (a1) g3 d3 y3 v3 (fun c' j u _ => causal_ne_top (ht 1) c' j u) (fun c' => causal_first (by omega) (hb 1) c') c'
  refine out_read arg6.view f (i 1).val x0 x1 x2 ht hb hone _ _ _ e (fun c' => ?_) (fun c' => ?_)
  · obtain ⟨hM, ha⟩ := a2 c'
    rcases hM with ⟨hz, _⟩ | ⟨μ, hμ⟩
    · exact absurd hz (Nat.succ_ne_zero _)
    · exact ⟨μ, fun r => ((rdc arg10.view M4 _ 0 rfl r c').trans (by rw [eM4, eM3]; exact (wro arg10.view _ _ _ _ 0 (by decide) r c').trans (wrs arg10.view _ _ _ _ 0 rfl r c'))).trans ((ha r).trans (by rw [hμ]))⟩
  · obtain ⟨hM, ha⟩ := a3 c'
    rcases hM with ⟨hz, _⟩ | ⟨μ, hμ⟩
    · exact absurd hz (Nat.succ_ne_zero _)
    · exact ⟨μ, fun r => ((rdc arg10.view M4 _ 1 rfl r c').trans (by rw [eM4]; exact wrs arg10.view _ _ _ _ 1 rfl r c')).trans ((ha r).trans (by rw [hμ]))⟩

end Cert.AttnBIdeal.Hand

end
-- ==== Proof.AttnB.Value.lean ====
/- The causal attention over the latent keys and values: what every grid point leaves, and the array the call ends with. -/
module

public import proofs.«01_k».proof.Proof.AttnB.Frame
public import proofs.«01_k».proof.Proof.AttnB.Causal
public import proofs.«01_k».proof.Proof.AttnB.CaseA
public import proofs.«01_k».proof.Proof.AttnB.CaseB
public import proofs.«01_k».proof.Proof.AttnB.CaseC
public import proofs.«01_k».proof.Proof.AttnB.CaseD
public import Idealize.ShloMosaic.Lib.Pipeline.ValueKit
public import Idealize.ShloMosaic.Lib.Pointwise
public import Idealize.ShloMosaic.Lib.Claim

@[expose] public section

set_option maxRecDepth 16384

noncomputable section

namespace Cert.AttnBIdeal.Attended

open Cert.AttnBIdeal.Gen Cert.AttnBIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The queries, the keys, the values and the keys' norms as the call finds them. -/
abbrev A0 (c : Dev nD) : FVec Ideal S8192x2048 .bf16 := m ((c : Thread nD τ).loc main_arg0)
abbrev A1 (c : Dev nD) : FVec Ideal S8192x2048 .bf16 := m ((c : Thread nD τ).loc main_arg1)
abbrev A2 (c : Dev nD) : FVec Ideal S8192x1024 .bf16 := m ((c : Thread nD τ).loc main_arg2)
abbrev A3 (c : Dev nD) : FVec Ideal S16x128 .f32 := m ((c : Thread nD τ).loc main_arg3)

/-! ## The blocks -/

theorem places : ∀ t : Fin cfg0.N, win0_0.index t = ![t.val % 16, t.val / 16] ∧ win0_1.index t = ![0, t.val / 16]
    ∧ win0_2.index t = ![t.val / 16, 0, 0, 0] ∧ win0_3.index t = ![0, 0] ∧ win0_4.index t = ![t.val % 16, t.val / 16] :=
  (by decide +kernel : ∀ t : Fin grid0.N, _)

theorem row_of : ∀ t : Fin cfg0.N, ((grid0.coords t) 1).val = t.val % 16 :=
  (by decide +kernel : ∀ t : Fin grid0.N, ((grid0.coords t) 1).val = t.val % 16)

theorem block0 (c : Dev nD) (t : Fin cfg0.N) (x d : Fin 512) (R : Fin 8192) (D : Fin 2048) (hR : R.val = 512 * (t.val % 16) + x.val)
    (hD : D.val = 512 * (t.val / 16) + d.val) : (iblk m c 0 t : FVec Ideal S512x512 .bf16) (ix2 x d) = A0 m c (ix2 R D) := by
  blk_ext [iblk, V, places t]

theorem block1 (c : Dev nD) (t : Fin cfg0.N) (K : Fin 8192) (d : Fin 512) (D : Fin 2048)
    (hD : D.val = 512 * (t.val / 16) + d.val) : (iblk m c 1 t : FVec Ideal S8192x512 .bf16) (ix2 K d) = A1 m c (ix2 K D) := by
  blk_ext [iblk, V, places t]

theorem block3 (c : Dev nD) (t : Fin cfg0.N) (a : Fin 16) (b : Fin 128) : (iblk m c 3 t : FVec Ideal S16x128 .f32) (ix2 a b) = A3 m c (ix2 a b) := by
  blk_ext [iblk, V, places t]

theorem block2 (c : Dev nD) (t : Fin cfg0.N) (h : Fin 2) (j : Fin 16) (r : Fin 144) (hr : r.val < 128) (x : Fin 512) (R : Fin 8192) (w : Fin 1024)
    (hR : R.val = 512 * j.val + x.val) (hw : w.val = 256 * (t.val / 16) + 128 * h.val + r.val) :
    (iblk m c 2 t : FVec Ideal S2x16x144x512 .bf16) (ix4 h j r x) = A2 m c (ix2 R w) := by
  blk_simp [iblk, places t]
  entry_read
  pointwise
  rw [dif_pos (by blk_simp [places t]; exact hr)]
  blk_ext [places t]

theorem block_one (c : Dev nD) (t : Fin cfg0.N) (h : Fin 2) (j : Fin 16) (x : Fin 512) :
    (iblk m c 2 t : FVec Ideal S2x16x144x512 .bf16) (ix4 h j 128 x) = (1 : EReal) := by
  blk_simp [iblk, places t]
  entry_read
  pointwise
  rw [dif_neg (by blk_simp [places t]; decide)]

/-- The whole result, as the array the call writes. -/
def resultArr (c : Dev nD) : FVec Ideal S8192x1024 .bf16 := fun i =>
  result (fun R d => A0 m c (ix2 R d)) (fun R d => A1 m c (ix2 R d)) (fun R d => A2 m c (ix2 R d)) (i 0) (i 1)

theorem point (c : Dev nD) (t : Fin cfg0.N) (x : Fin 512) (y : Fin 256) (R : Fin 8192) (w : Fin 1024)
    (hR : R.val = 512 * (t.val % 16) + x.val) (hw : w.val = 256 * (t.val / 16) + y.val) :
    attended ((grid0.coords t) 1).val (iblk m c 0 t) (iblk m c 1 t) (iblk m c 2 t) (ix2 x y) = resultArr m c (ix2 R w) := by
  have ht : t.val < 64 := t.isLt
  rw [row_of]
  exact attended_eq _ _ _ (t.val % 16) (t.val / 16) (by omega) (by omega) _ _ _ (fun a d => block0 m c t a d _ _ rfl rfl)
    (fun K d => block1 m c t K d _ rfl) (fun h j r hr x => block2 m c t h j r hr x _ _ rfl rfl) x y R hR w hw

/-- The queries and keys real and the norms not negative, which is what the body needs of its blocks. -/
structure Good : Prop where
  queries : ∀ (c : Dev nD) y, ∃ z : ℝ, A0 m c y = (z : EReal)
  keys : ∀ (c : Dev nD) y, ∃ z : ℝ, A1 m c y = (z : EReal)
  norms : ∀ (c : Dev nD) y, (0 : EReal) ≤ A3 m c y

variable (hm : Good m)
include hm

theorem queries_block (c : Dev nD) (t : Fin cfg0.N) : ∀ y, ∃ z : ℝ, (iblk m c 0 t : FVec Ideal S512x512 .bf16) y = (z : EReal) := by
  intro y
  have ht : t.val < 64 := t.isLt
  idx_vars y
  rw [block0 m c t y0 y1 ⟨512 * (t.val % 16) + y0.val, by omega⟩ ⟨512 * (t.val / 16) + y1.val, by omega⟩ rfl rfl]
  exact hm.queries c _

theorem keys_block (c : Dev nD) (t : Fin cfg0.N) : ∀ y, ∃ z : ℝ, (iblk m c 1 t : FVec Ideal S8192x512 .bf16) y = (z : EReal) := by
  intro y
  have ht : t.val < 64 := t.isLt
  idx_vars y
  rw [block1 m c t y0 y1 ⟨512 * (t.val / 16) + y1.val, by omega⟩ rfl]
  exact hm.keys c _

theorem norms_block (c : Dev nD) (t : Fin cfg0.N) : ∀ y, (0 : EReal) ≤ (iblk m c 3 t : FVec Ideal S16x128 .f32) y := by
  intro y
  idx_vars y
  rw [block3 m c t y0 y1]
  exact hm.norms c _

omit hm

/-! ## The pipeline's proof data -/

/-- The proof data of the one pipeline on core `c`: the arrays as the region finds them; after the body each input's buffer at
    its block and the output's at the block's attention. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => attended ((grid0.coords t) 1).val (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = attended ((grid0.coords t) 1).val (iblk m c 0 t) (iblk m c 1 t) (iblk m c 2 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

include hm

set_option maxHeartbeats 3200000 in
/-- The body at any point leaves the block's attention, whichever of its four ways it takes. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hpar : (¬k0_cond2 (grid0.coords t) = 1#1 ∧ k0_cond3 (grid0.coords t) = 1#1 ∧ ¬k0_cond5 (grid0.coords t) = 1#1 ∧ k0_cond6 (grid0.coords t) = 1#1)
      ∨ (k0_cond2 (grid0.coords t) = 1#1 ∧ ¬k0_cond3 (grid0.coords t) = 1#1 ∧ k0_cond5 (grid0.coords t) = 1#1 ∧ ¬k0_cond6 (grid0.coords t) = 1#1) := by
    rw [odd_fixed, even_fixed, odd_online, even_online]; omega
  have hq := queries_block m hm c t
  have hk := keys_block m hm c t
  have hkn := norms_block m hm c t
  have hone := block_one m c t
  iintro ⟨⟨⟨HS0, HS1, HS2, HS3⟩, Hg⟩, Ho, ⟨%d0, H0⟩, ⟨%d1, H1⟩, ⟨%d2, H2⟩, ⟨%d3, H3⟩, ⟨%d4, H4⟩⟩
  iapply (runAny c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) hpar (fun d => d = attended ((grid0.coords t) 1).val (iblk m c 0 t) (iblk m c 1 t) (iblk m c 2 t))
    (fun hf hn ho he fs0 fs1 fs2 fs3 f => valueA c _ _ _ _ _ _ _ _ _ _ _ _ _ _ _ _ _ _ _ _ _ _ _ hf hn ho he fs0 fs1 fs2 fs3 hq hk hone hkn f)
    (fun hf hn ho he fs0 fs1 fs2 fs3 f => valueB c _ _ _ _ _ _ _ _ _ _ _ _ _ _ _ _ _ _ _ _ _ _ _ hf hn ho he fs0 fs1 fs2 fs3 hq hk hone hkn f)
    (fun hf hn ho he fs0 fs1 fs2 fs3 f => valueC c _ _ _ _ _ _ _ _ _ _ _ _ _ _ _ _ _ _ _ _ _ _ _ hf hn ho he fs0 fs1 fs2 fs3 hq hk hone hkn f)
    (fun hf hn ho he fs0 fs1 fs2 fs3 f => valueD c _ _ _ _ _ _ _ _ _ _ _ _ _ _ _ _ _ _ _ _ _ _ _ hf hn ho he fs0 fs1 fs2 fs3 hq hk hone hkn f) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%d, %hd, H4⟩, HS0, HS1, HS2, HS3⟩
  subst hd
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m hm c t) rfl .rfl fun _ => .rfl

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

omit hm in
theorem final (c : Dev nD) : (dats m 0 c).arrAt 4 (cfgs 0).N = resultArr m c := by
  refine (dats m 0 c).arrAt_eq_of_covers 4 _ (by decide +kernel) fun t _ y => ?_
  blk_simp
  rw [after0_4]
  idx_vars y
  exact point m c t y0 y1 _ _ (by blk_simp [places t]; omega) (by blk_simp [places t]; omega)

/-- The run ends with the attention, the arguments unchanged. -/
theorem run_result : θ_run defs (onTc (τ := τ) (main (F := Ideal))) ⟨m, fun _ => 0, ρ⟩ fun r => ∀ c : Dev nD,
      r.2.mem ((c.tc : Thread nD τ).loc main_v4) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ hm)

end Cert.AttnBIdeal.Attended

end
-- ==== Proof.Merge.Block.lean ====
/- The merge of the branches: what one grid point leaves in the output block, element by element. -/
module

public import proofs.«01_k».proof.Proof.Gen.MergeIdeal.Value
public import Idealize.ShloMosaic.Lib.Pipeline.ValueKit
public import Idealize.ShloMosaic.Lib.Pointwise

@[expose] public section

set_option maxRecDepth 16384

noncomputable section

namespace Cert.Merge.Hand

open Cert.MergeIdeal Cert.MergeIdeal.Gen Idealize.ShloMosaic Idealize.ShloMosaic.TcCoe Idealize.SL.Sem
open Idealize.ShloMosaic.Pipeline (Dat)

/-- The weight of memory token `j` among the scores `s`, before it is normalised. -/
def weight (s : Fin 256 → EReal) (j : Fin 256) : EReal :=
  Ideal.exp (s j - Finset.univ.fold max (Ideal.ofBits .f32 0xFF800000#32) s)

/-- The weighted values, normalised after the sum. -/
def attended (s v : Fin 256 → EReal) : EReal :=
  Ideal.div (∑ j, weight s j * v j) (∑ j, weight s j)

/-- Column `w` of the memory attention of one row: `q` the row's queries, `kv` the tokens' keys and then values. -/
def context (q : Fin 1024 → EReal) (kv : Fin 256 → Fin 2048 → EReal) (w : Fin 1024) : EReal :=
  attended (fun j => ∑ e : Fin 256, q ⟨256 * (w.val / 256) + e.val, by omega⟩ * kv j ⟨256 * (w.val / 256) + e.val, by omega⟩)
    (fun j => kv j ⟨1024 + w.val, by omega⟩)

/-- One gated branch's share of a merged element: `g` its gate, `o` its outputs, `z` their gates, `w` its weights. -/
def branch (g : EReal) (o z w : Fin 1024 → EReal) : EReal :=
  Ideal.logistic g * ∑ x, o x * (z x * Ideal.logistic (z x)) * w x

theorem head0 (q k v : FVec Ideal S256x256 .bf16) (r d : Fin 256) : k0_pay4 (F := Ideal) q k v (ix2 r d)
    = attended (fun j => ∑ e, (q (ix2 r e) * k (ix2 j e) : EReal)) (fun j => v (ix2 j d)) := by
  unfold attended weight
  pointwise! [k0_pay4]

theorem head1 (q k v : FVec Ideal S256x256 .bf16) (r d : Fin 256) : k0_pay5 (F := Ideal) q k v (ix2 r d)
    = attended (fun j => ∑ e, (q (ix2 r e) * k (ix2 j e) : EReal)) (fun j => v (ix2 j d)) := by
  unfold attended weight
  pointwise! [k0_pay5]

theorem head2 (q k : FVec Ideal S256x256 .bf16) (r j : Fin 256) :
    k0_pay6 (F := Ideal) q k (ix2 r j) = weight (fun j => ∑ e, (q (ix2 r e) * k (ix2 j e) : EReal)) j := by
  unfold weight
  pointwise! [k0_pay6]

theorem two (z0 o0 : FVec Ideal S256x1024 .bf16) (w0 : FVec Ideal S1x1024x2048 .bf16) (g0 : FVec Ideal S256x2048 .bf16)
    (z1 o1 : FVec Ideal S256x1024 .bf16) (w1 : FVec Ideal S1x1024x2048 .bf16) (g1 : FVec Ideal S256x2048 .bf16) (r : Fin 256) (n : Fin 2048) :
    k0_pay2 (F := Ideal) z0 o0 w0 g0 z1 o1 w1 g1 (ix2 r n)
      = branch (g0 (ix2 r n)) (fun x => o0 (ix2 r x)) (fun x => z0 (ix2 r x)) (fun x => w0 (ix3 0 x n))
        + branch (g1 (ix2 r n)) (fun x => o1 (ix2 r x)) (fun x => z1 (ix2 r x)) (fun x => w1 (ix3 0 x n)) := by
  unfold branch
  pointwise! [k0_pay2]

/-- The four heads side by side, the third given by its unnormalised weights. -/
def heads (h0 h1 p2 : FVec Ideal S256x256 .f32) (v2 q3 k3 v3 : FVec Ideal S256x256 .bf16) (r : Fin 256) (x : Fin 1024) : EReal :=
  if h : x.val < 256 then h0 (ix2 r ⟨x.val, by omega⟩)
  else if h : x.val - 256 < 256 then h1 (ix2 r ⟨x.val - 256, by omega⟩)
  else if h : x.val - 256 - 256 < 256 then
    Ideal.div (∑ j : Fin 256, (p2 (ix2 r j) * v2 (ix2 j ⟨x.val - 256 - 256, by omega⟩) : EReal)) (∑ j : Fin 256, (p2 (ix2 r j) : EReal))
  else attended (fun j => ∑ e, (q3 (ix2 r e) * k3 (ix2 j e) : EReal)) (fun j => v3 (ix2 j ⟨x.val - 256 - 256 - 256, by omega⟩))

theorem three (s : FVec Ideal S256x2048 .f32) (z : FVec Ideal S256x1024 .f32) (h0 h1 p2 : FVec Ideal S256x256 .f32)
    (v2 q3 k3 v3 : FVec Ideal S256x256 .bf16) (w : FVec Ideal S1x1024x2048 .bf16) (g : FVec Ideal S256x2048 .bf16) (r : Fin 256) (n : Fin 2048) :
    k0_pay8 (F := Ideal) s z h0 h1 p2 v2 q3 k3 v3 w g (ix2 r n)
      = s (ix2 r n) + branch (g (ix2 r n)) (heads h0 h1 p2 v2 q3 k3 v3 r) (fun x => z (ix2 r x)) (fun x => w (ix3 0 x n)) := by
  unfold branch heads attended weight
  pointwise! [k0_pay8]

variable (c : Dev nD) (i : grid0.Coords) (arg1 : Memref sig .tc .vmem S256x2048 .f32) (harg1 : arg1.IsWhole) (arg2 : Memref sig .tc .vmem S256x1024 .bf16) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x2048 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S256x1024 .bf16) (harg8 : arg8.IsWhole)
  (arg9 : Memref sig .tc .vmem S256x2048 .bf16) (harg9 : arg9.IsWhole) (arg10 : Memref sig .tc .vmem S256x2048 .bf16) (harg10 : arg10.IsWhole)
  (arg11 : Memref sig .tc .vmem S256x2048 .bf16) (harg11 : arg11.IsWhole) (arg12 : Memref sig .tc .vmem S3x1024x2048 .bf16) (harg12 : arg12.IsWhole)
  (arg13 : Memref sig .tc .vmem S2048x2048 .bf16) (harg13 : arg13.IsWhole) (arg14 : Memref sig .tc .vmem S256x2048 .f32) (harg14 : arg14.IsWhole)

/-- One merged element: the three gated branches, the third the memory attention. -/
def merged (g : Fin 3 → EReal) (oa ob q : Fin 1024 → EReal) (kv : Fin 256 → Fin 2048 → EReal) (z w : Fin 3 → Fin 1024 → EReal) : EReal :=
  branch (g 0) oa (z 0) (w 0) + branch (g 1) ob (z 1) (w 1) + branch (g 2) (context q kv) (z 2) (w 2)

theorem heads_eq (x3 : Vec Ideal S256x1024 .bf16) (x4 : Vec Ideal S256x2048 .bf16) (r : Fin 256) (x : Fin 1024) :
    heads (k0_pay4 (View.ld x3 (Rect.unit ![0, 0] ![256, 256] inb_S256x1024_S256x256_0_0))
        (View.ld x4 (Rect.unit ![0, 0] ![256, 256] inb_S256x2048_S256x256_0_0))
        (View.ld x4 (Rect.unit ![0, 1024] ![256, 256] inb_S256x2048_S256x256_0_1024)))
      (k0_pay5 (View.ld x3 (Rect.unit ![0, 256] ![256, 256] inb_S256x1024_S256x256_0_256))
        (View.ld x4 (Rect.unit ![0, 256] ![256, 256] inb_S256x2048_S256x256_0_256))
        (View.ld x4 (Rect.unit ![0, 1280] ![256, 256] inb_S256x2048_S256x256_0_1280)))
      (k0_pay6 (View.ld x3 (Rect.unit ![0, 512] ![256, 256] inb_S256x1024_S256x256_0_512))
        (View.ld x4 (Rect.unit ![0, 512] ![256, 256] inb_S256x2048_S256x256_0_512)))
      (View.ld x4 (Rect.unit ![0, 1536] ![256, 256] inb_S256x2048_S256x256_0_1536))
      (View.ld x3 (Rect.unit ![0, 768] ![256, 256] inb_S256x1024_S256x256_0_768))
      (View.ld x4 (Rect.unit ![0, 768] ![256, 256] inb_S256x2048_S256x256_0_768))
      (View.ld x4 (Rect.unit ![0, 1792] ![256, 256] inb_S256x2048_S256x256_0_1792)) r x
    = context (fun l => x3 (ix2 r l)) (fun j d => x4 (ix2 j d)) x := by
  have hx := x.isLt
  unfold heads context
  split_ifs with h h h
  · refine (head0 _ _ _ _ _).trans (congrArg₂ attended (funext fun j => Finset.sum_congr rfl fun e _ => congrArg₂ (· * ·) ?_ ?_) (funext fun j => ?_))
    all_goals
      pointwise
      blk_ext
  · refine (head1 _ _ _ _ _).trans (congrArg₂ attended (funext fun j => Finset.sum_congr rfl fun e _ => congrArg₂ (· * ·) ?_ ?_) (funext fun j => ?_))
    all_goals
      pointwise
      blk_ext
  · have e2 : ∀ j, k0_pay6 (F := Ideal) (View.ld x3 (Rect.unit ![0, 512] ![256, 256] inb_S256x1024_S256x256_0_512))
        (View.ld x4 (Rect.unit ![0, 512] ![256, 256] inb_S256x2048_S256x256_0_512)) (ix2 r j) = weight (fun j => ∑ e : Fin 256,
          (x3 (ix2 r ⟨256 * (x.val / 256) + e.val, by omega⟩) * x4 (ix2 j ⟨256 * (x.val / 256) + e.val, by omega⟩) : EReal)) j := fun j => by
      refine (head2 _ _ _ _).trans (congrArg (fun s => weight s j) (funext fun j => Finset.sum_congr rfl fun e _ => congrArg₂ (· * ·) ?_ ?_))
      all_goals
        pointwise
        blk_ext
    unfold attended
    refine congrArg₂ Ideal.div (Finset.sum_congr rfl fun j _ => congrArg₂ (· * ·) (e2 j) ?_) (Finset.sum_congr rfl fun j _ => e2 j)
    pointwise
    blk_ext
  · refine congrArg₂ attended (funext fun j => Finset.sum_congr rfl fun e _ => congrArg₂ (· * ·) ?_ ?_) (funext fun j => ?_)
    all_goals
      pointwise
      blk_ext

theorem block (x0 : Vec Ideal S256x2048 .f32) (x1 x2 x3 : Vec Ideal S256x1024 .bf16) (x4 : Vec Ideal S256x2048 .bf16)
    (x5 x6 x7 : Vec Ideal S256x1024 .bf16) (x8 x9 x10 : Vec Ideal S256x2048 .bf16) (x11 : Vec Ideal S3x1024x2048 .bf16)
    (x12 : Vec Ideal S2048x2048 .bf16) (r : Fin 256) (n : Fin 2048) :
    out0_A_13 c i arg1 harg1 arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7 x8 x9 x10 x11 x12 (ix2 r n)
    = x0 (ix2 r n) + ∑ k : Fin 2048, (merged ![x8 (ix2 r k), x9 (ix2 r k), x10 (ix2 r k)] (fun x => x1 (ix2 r x)) (fun x => x2 (ix2 r x))
        (fun x => x3 (ix2 r x)) (fun j d => x4 (ix2 j d)) ![fun x => x5 (ix2 r x), fun x => x6 (ix2 r x), fun x => x7 (ix2 r x)]
        (fun b x => x11 (ix3 b x k)) * x12 (ix2 k n) : EReal) := by
  frame_out
  pointwise [k0_pay1, k0_pay7, k0_pay3]
  refine congrArg (x0 (ix2 r n) + ·) (Finset.sum_congr rfl fun k _ => congrArg (· * x12 (ix2 k n)) ?_)
  refine (three _ _ _ _ _ _ _ _ _ _ _ _ _).trans (congrArg₂ (· + ·) ((two _ _ _ _ _ _ _ _ _ _).trans (congrArg₂ (· + ·) ?_ ?_)) ?_)
  · refine congrArg (branch _ _ _) (funext fun x => ?_)
    pointwise
    blk_ext
  · refine congrArg (branch _ _ _) (funext fun x => ?_)
    pointwise
    blk_ext
  · refine congr (congrArg₂ (branch _) (funext fun x => heads_eq x3 x4 r x) ?_) (funext fun x => ?_)
    · rfl
    · pointwise
      blk_ext

end Cert.Merge.Hand
-- ==== Proof.Merge.Array.lean ====
/- The merge of the branches: the blocks read off the arrays, and the array the call ends with. -/
module

public import proofs.«01_k».proof.Proof.Merge.Block
public import Idealize.ShloMosaic.Lib.Claim

@[expose] public section

set_option maxRecDepth 16384

noncomputable section

namespace Cert.Merge.Hand

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

theorem places : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 7] ∧ win0_6.index t = ![t.val, 9]
    ∧ win0_7.index t = ![t.val, 11] ∧ win0_8.index t = ![t.val, 0] ∧ win0_9.index t = ![t.val, 1] ∧ win0_10.index t = ![t.val, 2]
    ∧ win0_11.index t = ![0, 0, 0] ∧ win0_12.index t = ![0, 0] ∧ win0_13.index t = ![t.val, 0] :=
  (by decide +kernel : ∀ t : Fin grid0.N, _)

/-- The projected array, whose column segments hold the gates. -/
abbrev proj (c : Dev nD) : FVec Ideal S8192x13824 .bf16 := m ((c : Thread nD τ).loc main_arg5)

theorem block5 (c : Dev nD) (t : Fin cfg0.N) (r : Fin 256) (R : Fin 8192) (hR : R.val = 256 * t.val + r.val) (x : Fin 1024) :
    (X0_5 m c t : FVec Ideal S256x1024 .bf16) (ix2 r x) = proj m c (ix2 R ⟨7168 + x.val, by omega⟩) := by
  unfold X0_5 Pipeline.Window.fill
  rw [dif_pos (moved0_5 t _)]
  blk_ext [iblk, V, places t]

theorem block6 (c : Dev nD) (t : Fin cfg0.N) (r : Fin 256) (R : Fin 8192) (hR : R.val = 256 * t.val + r.val) (x : Fin 1024) :
    (X0_6 m c t : FVec Ideal S256x1024 .bf16) (ix2 r x) = proj m c (ix2 R ⟨9216 + x.val, by omega⟩) := by
  unfold X0_6 Pipeline.Window.fill
  rw [dif_pos (moved0_6 t _)]
  blk_ext [iblk, V, places t]

theorem block7 (c : Dev nD) (t : Fin cfg0.N) (r : Fin 256) (R : Fin 8192) (hR : R.val = 256 * t.val + r.val) (x : Fin 1024) :
    (X0_7 m c t : FVec Ideal S256x1024 .bf16) (ix2 r x) = proj m c (ix2 R ⟨11264 + x.val, by omega⟩) := by
  unfold X0_7 Pipeline.Window.fill
  rw [dif_pos (moved0_7 t _)]
  blk_ext [iblk, V, places t]

theorem block8 (c : Dev nD) (t : Fin cfg0.N) (r : Fin 256) (R : Fin 8192) (hR : R.val = 256 * t.val + r.val) (x : Fin 2048) :
    (X0_8 m c t : FVec Ideal S256x2048 .bf16) (ix2 r x) = proj m c (ix2 R ⟨x.val, by omega⟩) := by
  unfold X0_8 Pipeline.Window.fill
  rw [dif_pos (moved0_8 t _)]
  blk_ext [iblk, V, places t]

theorem block9 (c : Dev nD) (t : Fin cfg0.N) (r : Fin 256) (R : Fin 8192) (hR : R.val = 256 * t.val + r.val) (x : Fin 2048) :
    (X0_9 m c t : FVec Ideal S256x2048 .bf16) (ix2 r x) = proj m c (ix2 R ⟨2048 + x.val, by omega⟩) := by
  unfold X0_9 Pipeline.Window.fill
  rw [dif_pos (moved0_9 t _)]
  blk_ext [iblk, V, places t]

theorem block10 (c : Dev nD) (t : Fin cfg0.N) (r : Fin 256) (R : Fin 8192) (hR : R.val = 256 * t.val + r.val) (x : Fin 2048) :
    (X0_10 m c t : FVec Ideal S256x2048 .bf16) (ix2 r x) = proj m c (ix2 R ⟨4096 + x.val, by omega⟩) := by
  unfold X0_10 Pipeline.Window.fill
  rw [dif_pos (moved0_10 t _)]
  blk_ext [iblk, V, places t]

theorem block1 (c : Dev nD) (t : Fin cfg0.N) (r : Fin 256) (R : Fin 8192) (hR : R.val = 256 * t.val + r.val) (x : Fin 1024) :
    (iblk m c 1 t : FVec Ideal S256x1024 .bf16) (ix2 r x)
      = (m ((c : Thread nD τ).loc main_arg1) : FVec Ideal S8192x1024 .bf16) (ix2 R x) := by
  blk_ext [iblk, V, places t]

theorem block2 (c : Dev nD) (t : Fin cfg0.N) (r : Fin 256) (R : Fin 8192) (hR : R.val = 256 * t.val + r.val) (x : Fin 1024) :
    (iblk m c 2 t : FVec Ideal S256x1024 .bf16) (ix2 r x)
      = (m ((c : Thread nD τ).loc main_arg2) : FVec Ideal S8192x1024 .bf16) (ix2 R x) := by
  blk_ext [iblk, V, places t]

theorem block3 (c : Dev nD) (t : Fin cfg0.N) (r : Fin 256) (R : Fin 8192) (hR : R.val = 256 * t.val + r.val) (x : Fin 1024) :
    (iblk m c 3 t : FVec Ideal S256x1024 .bf16) (ix2 r x)
      = (m ((c : Thread nD τ).loc main_arg3) : FVec Ideal S8192x1024 .bf16) (ix2 R x) := by
  blk_ext [iblk, V, places t]

theorem block4 (c : Dev nD) (t : Fin cfg0.N) (j : Fin 256) (d : Fin 2048) :
    (iblk m c 4 t : FVec Ideal S256x2048 .bf16) (ix2 j d)
      = (m ((c : Thread nD τ).loc main_arg4) : FVec Ideal S256x2048 .bf16) (ix2 j d) := by
  blk_ext [iblk, V, places t]

theorem block0 (c : Dev nD) (t : Fin cfg0.N) (r : Fin 256) (R : Fin 8192) (hR : R.val = 256 * t.val + r.val) (n : Fin 2048) :
    (iblk m c 0 t : FVec Ideal S256x2048 .f32) (ix2 r n)
      = (m ((c : Thread nD τ).loc main_arg0) : FVec Ideal S1x8192x2048 .f32) (ix3 0 R n) := by
  blk_simp [iblk, places t]
  entry_read
  pointwise
  blk_ext [places t]

theorem block11 (c : Dev nD) (t : Fin cfg0.N) (b : Fin 3) (x : Fin 1024) (n : Fin 2048) :
    (iblk m c 11 t : FVec Ideal S3x1024x2048 .bf16) (ix3 b x n)
      = (m ((c : Thread nD τ).loc main_arg6) : FVec Ideal S1x3x1024x2048 .f32) (ix4 0 b x n) := by
  blk_simp [iblk, places t]
  entry_read
  pointwise
  blk_ext [places t]

theorem block12 (c : Dev nD) (t : Fin cfg0.N) (k n : Fin 2048) :
    (iblk m c 12 t : FVec Ideal S2048x2048 .bf16) (ix2 k n)
      = (m ((c : Thread nD τ).loc main_arg7) : FVec Ideal S1x2048x2048 .f32) (ix3 0 k n) := by
  blk_simp [iblk, places t]
  entry_read
  pointwise
  blk_ext [places t]

/-- Row `R` and column `n` of the layer's result, from the eight arrays. -/
def result (a0 : FVec Ideal S1x8192x2048 .f32) (a1 a2 a3 : FVec Ideal S8192x1024 .bf16) (a4 : FVec Ideal S256x2048 .bf16)
    (a5 : FVec Ideal S8192x13824 .bf16) (a6 : FVec Ideal S1x3x1024x2048 .f32) (a7 : FVec Ideal S1x2048x2048 .f32)
    (R : Fin 8192) (n : Fin 2048) : EReal :=
  a0 (ix3 0 R n) + ∑ k : Fin 2048,
    merged ![a5 (ix2 R ⟨k.val, by omega⟩), a5 (ix2 R ⟨2048 + k.val, by omega⟩), a5 (ix2 R ⟨4096 + k.val, by omega⟩)]
      (fun x => a1 (ix2 R x)) (fun x => a2 (ix2 R x)) (fun x => a3 (ix2 R x)) (fun j d => a4 (ix2 j d))
      ![fun x => a5 (ix2 R ⟨7168 + x.val, by omega⟩), fun x => a5 (ix2 R ⟨9216 + x.val, by omega⟩),
        fun x => a5 (ix2 R ⟨11264 + x.val, by omega⟩)]
      (fun b x => a6 (ix4 0 b x k)) * a7 (ix3 0 k n)

/-- The whole result, as the array the call writes. -/
def resultArr (c : Dev nD) : FVec Ideal S8192x2048 .f32 := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

theorem point (c : Dev nD) (t : Fin cfg0.N) (r : Fin 256) (n : Fin 2048) (R : Fin 8192) (N : Fin 2048)
    (hR : R.val = 256 * t.val + r.val) (hN : N.val = n.val) :
    outsAt0 m c t (ix2 r n) = resultArr m c (ix2 R N) := by
  obtain rfl : N = n := Fin.ext hN
  unfold outsAt0
  rw [block]
  show _ = result _ _ _ _ _ _ _ _ R N
  unfold result
  simp only [block0 m c t r R hR, block1 m c t r R hR, block2 m c t r R hR, block3 m c t r R hR, block4 m c t,
    block5 m c t r R hR, block6 m c t r R hR, block7 m c t r R hR, block8 m c t r R hR, block9 m c t r R hR,
    block10 m c t r R hR, block11 m c t, block12 m c t]

/-- The array the call ends with. -/
theorem final (c : Dev nD) : ((dats m 0 c).arrAt 13 cfg0.N : FVec Ideal S8192x2048 .f32) = resultArr m c := by
  refine (dats m 0 c).arrAt_eq_of_covers 13 _ (by decide +kernel) fun t _ y => ?_
  blk_simp
  rw [after0_13]
  idx_vars y
  exact point m c t y0 y1 _ _ (by blk_simp [places t]; omega) (by blk_simp [places t])

end Cert.Merge.Hand
-- ==== Proof.Merge.Reference.lean ====
/- The merge of the branches: the reference read at an index, and the two forms of the memory attention. -/
module

public import proofs.«01_k».proof.Proof.Merge.Array
public import proofs.«01_k».proof.Proof.Gen.RefMergeIdeal.Read
public import Idealize.ShloMosaic.Lib.IdealHost

@[expose] public section

set_option maxRecDepth 16384

noncomputable section

namespace Cert.Merge.Hand

open Cert.RefMergeIdeal Cert.RefMergeIdeal.Read Idealize.ShloMosaic Idealize.ShloMosaic.TcCoe Idealize.SL.Sem

/-- The pattern of minus infinity. -/
theorem bits_bot : Ideal.ofBits .f32 0xFF800000#32 = ⊥ := by
  simp [Ideal.ofBits, Ideal.ieee]

/-- The sigmoid written with an exponential and a quotient. -/
theorem sigmoid_eq (x : EReal) : Ideal.div 1 (1 + Ideal.exp (-x)) = Ideal.logistic x := rfl

/-- The largest of finitely many real scores is real. -/
theorem max_real (s : Fin 256 → EReal) (hs : ∀ j, ∃ f : ℝ, s j = f) :
    ∃ M : ℝ, Finset.univ.fold max (Ideal.ofBits .f32 0xFF800000#32) s = M := by
  rw [bits_bot]
  have htop : Finset.univ.fold max ⊥ s < ⊤ := by
    rw [Finset.fold_max_lt]
    refine ⟨bot_lt_top, fun j _ => ?_⟩
    obtain ⟨f, hf⟩ := hs j
    rw [hf]; exact EReal.coe_lt_top f
  have hbot : ⊥ < Finset.univ.fold max ⊥ s := by
    rw [Finset.lt_fold_max]
    obtain ⟨f, hf⟩ := hs 0
    exact Or.inr ⟨0, Finset.mem_univ _, hf ▸ EReal.bot_lt_coe f⟩
  exact ⟨_, (EReal.coe_toReal htop.ne hbot.ne').symm⟩

/-- The sum of reals, taken among the extended reals. -/
theorem sum_real (f : Fin 256 → ℝ) : ((∑ j, f j : ℝ) : EReal) = ∑ j, (f j : EReal) := by
  refine Finset.induction_on Finset.univ (by simp) fun j t hj ih => ?_
  rw [Finset.sum_insert hj, Finset.sum_insert hj, EReal.coe_add, ih]

/-- Real scores give weights with a positive real sum. -/
theorem total_real (s : Fin 256 → EReal) (hs : ∀ j, ∃ f : ℝ, s j = f) : ∃ S : ℝ, 0 < S ∧ ∑ j, weight s j = S := by
  obtain ⟨M, hM⟩ := max_real s hs
  choose f hf using hs
  refine ⟨∑ j, Real.exp (f j - M), Finset.sum_pos (fun j _ => Real.exp_pos _) ⟨0, Finset.mem_univ _⟩, ?_⟩
  rw [sum_real]
  refine Finset.sum_congr rfl fun j _ => ?_
  unfold weight
  rw [hM, hf, ← EReal.coe_sub, Ideal.exp_coe]

/-- A sum times a nonnegative real is the sum of the products. -/
theorem sum_mul_real (a : Fin 256 → EReal) (r : ℝ) (hr : 0 ≤ r) : (∑ j, a j) * (r : EReal) = ∑ j, a j * (r : EReal) := by
  refine Finset.induction_on Finset.univ (by simp) fun j t hj ih => ?_
  rw [Finset.sum_insert hj, Finset.sum_insert hj, ← ih]
  exact EReal.right_distrib_of_nonneg_of_ne_top (EReal.coe_nonneg.2 hr) (EReal.coe_ne_top r) _ _

/-- With real scores it is the same to normalise each weight or the weighted sum. -/
theorem attended_eq (s v : Fin 256 → EReal) (hs : ∀ j, ∃ f : ℝ, s j = f) :
    ∑ j, v j * Ideal.div (weight s j) (∑ j, weight s j) = attended s v := by
  obtain ⟨S, hS, hsum⟩ := total_real s hs
  unfold attended
  rw [hsum, Ideal.div_coe hS.ne', sum_mul_real _ _ (by positivity)]
  refine Finset.sum_congr rfl fun j _ => ?_
  rw [Ideal.div_coe hS.ne', ← mul_assoc, mul_comm (v j)]

/-- A sum of products of reals is real. -/
theorem dot_real (p q : Fin 256 → EReal) (hp : ∀ e, ∃ f : ℝ, p e = f) (hq : ∀ e, ∃ f : ℝ, q e = f) :
    ∃ f : ℝ, ∑ e, p e * q e = f := by
  choose f hf using hp
  choose g hg using hq
  exact ⟨∑ e, f e * g e, by rw [sum_real]; exact Finset.sum_congr rfl fun e _ => by rw [hf, hg, EReal.coe_mul]⟩

variable (a0 : FVec Ideal S1x8192x2048 .f32) (a1 a2 a3 : FVec Ideal S8192x1024 .bf16) (a4 : FVec Ideal S256x2048 .bf16)
  (a5 : FVec Ideal S8192x13824 .bf16) (a6 : FVec Ideal S1x3x1024x2048 .f32) (a7 : FVec Ideal S1x2048x2048 .f32)

theorem scores_eq (h : Fin 4) (R : Fin 8192) (j : Fin 256) : val_main_v14 (F := Ideal) a3 a4 (ix3 h R j)
    = ∑ e : Fin 256, (a3 (ix2 R ⟨256 * h.val + e.val, by omega⟩) * a4 (ix2 j ⟨256 * h.val + e.val, by omega⟩) : EReal) := by
  pointwise [val_main_v14, val_main_v11, val_main_v10, val_main_v9, val_main_v3, val_main_v2]
  simp only [mul_comm h.val 256]

theorem max_eq (h : Fin 4) (R : Fin 8192) : val_main_v15 (F := Ideal) a3 a4 (ix2 h R)
    = Finset.univ.fold max (Ideal.ofBits .f32 0xFF800000#32) (fun j : Fin 256 => (val_main_v14 (F := Ideal) a3 a4 (ix3 h R j) : EReal)) := by
  unfold val_main_v15
  generalize val_main_v14 (F := Ideal) a3 a4 = v
  pointwise! [val_main_cst]

theorem largest_eq (h : Fin 4) (R : Fin 8192) : val_main_v17 (F := Ideal) a3 a4 (ix2 h R)
    = Finset.univ.fold max (Ideal.ofBits .f32 0xFF800000#32) (fun j : Fin 256 => (val_main_v14 (F := Ideal) a3 a4 (ix3 h R j) : EReal)) := by
  rw [← max_eq]
  rw [val_main_v17_apply, val_main_v16_apply]
  generalize val_main_v15 (F := Ideal) a3 a4 (ix2 h R) = v
  show max (Ideal.ofBits .f32 0xFF800000#32) v = v
  rw [bits_bot]
  exact max_eq_right bot_le

theorem weights_eq (h : Fin 4) (R : Fin 8192) (j : Fin 256) :
    val_main_v21 (F := Ideal) a3 a4 (ix3 h R j) = weight (fun j => val_main_v14 (F := Ideal) a3 a4 (ix3 h R j)) j := by
  unfold weight
  rw [← largest_eq]
  unfold val_main_v21 val_main_v20 val_main_v19 val_main_v18
  generalize val_main_v14 (F := Ideal) a3 a4 = v
  generalize val_main_v17 (F := Ideal) a3 a4 = u
  pointwise!

theorem context_eq (R : Fin 8192) (w : Fin 1024) (hq : ∀ d, ∃ f : ℝ, (a3 (ix2 R d) : EReal) = f)
    (hk : ∀ (j : Fin 256) (d : Fin 2048), d.val < 1024 → ∃ f : ℝ, (a4 (ix2 j d) : EReal) = f) :
    val_main_v28 (F := Ideal) a3 a4 (ix2 R w) = context (fun x => a3 (ix2 R x)) (fun j d => a4 (ix2 j d)) w := by
  unfold context
  rw [← attended_eq _ _ fun j => dot_real _ _ (fun e => hq _) (fun e => hk j _ (by have := w.isLt; have := e.isLt; show 256 * (w.val / 256) + e.val < 1024; omega))]
  pointwise [val_main_v28, val_main_v27, val_main_v26, val_main_v25, val_main_v24, val_main_v23, val_main_v22, val_main_v13, val_main_v12, val_main_v3, val_main_cst_1]
  simp only [weights_eq, scores_eq]

/-- The branch outputs, each under the gate that multiplies it. -/
theorem gated_eq (b : Fin 3) (R : Fin 8192) (x : Fin 1024) : val_main_v38 (F := Ideal) a1 a2 a3 a4 a5 (ix3 R b x)
    = (![a1 (ix2 R x), a2 (ix2 R x), val_main_v28 (F := Ideal) a3 a4 (ix2 R x)] : Fin 3 → EReal) b
      * ((![a5 (ix2 R ⟨7168 + x.val, by omega⟩), a5 (ix2 R ⟨9216 + x.val, by omega⟩), a5 (ix2 R ⟨11264 + x.val, by omega⟩)] : Fin 3 → EReal) b
        * Ideal.logistic ((![a5 (ix2 R ⟨7168 + x.val, by omega⟩), a5 (ix2 R ⟨9216 + x.val, by omega⟩), a5 (ix2 R ⟨11264 + x.val, by omega⟩)] : Fin 3 → EReal) b)) := by
  fin_cases b <;>
  pointwise [val_main_v38, val_main_v37, val_main_v36, val_main_v35, val_main_v34, val_main_v33, val_main_v32, val_main_v31, val_main_v30, val_main_v29, val_main_v8, val_main_v7, val_main_v6, val_main_v4, val_main_v1, val_main_v0, val_main_call0_v5, val_main_call0_v4, val_main_call0_v3, val_main_call0_v2, val_main_call0_v1, val_main_call0_v0, val_main_call0_cst, val_main_call0_cst_0, val_main_call1_v5, val_main_call1_v4, val_main_call1_v3, val_main_call1_v2, val_main_call1_v1, val_main_call1_v0, val_main_call1_cst, val_main_call1_cst_0, val_main_call2_v5, val_main_call2_v4, val_main_call2_v3, val_main_call2_v2, val_main_call2_v1, val_main_call2_v0, val_main_call2_cst, val_main_call2_cst_0] <;>
  rfl

theorem sum_eq (R : Fin 8192) (k : Fin 2048) : val_main_v49 (F := Ideal) a1 a2 a3 a4 a5 a6 (ix2 R k)
    = ∑ b : Fin 3, (Ideal.logistic (a5 (ix2 R ⟨2048 * b.val + k.val, by omega⟩))
        * ∑ x : Fin 1024, (a6 (ix4 0 b x k) * val_main_v38 (F := Ideal) a1 a2 a3 a4 a5 (ix3 R b x) : EReal) : EReal) := by
  pointwise [val_main_v49, val_main_v48, val_main_v47, val_main_v46, val_main_v45, val_main_v44, val_main_v43, val_main_v42, val_main_v41, val_main_v40, val_main_v39, val_main_v5, val_main_v4, val_main_cst_2, val_main_cst_3]
  simp only [sigmoid_eq, mul_comm _ 2048]

theorem reference_apply (R : Fin 8192) (n : Fin 2048) : val_main_v53 (F := Ideal) a0 a1 a2 a3 a4 a5 a6 a7 (ix2 R n)
    = a0 (ix3 0 R n) + ∑ k : Fin 2048, (val_main_v49 (F := Ideal) a1 a2 a3 a4 a5 a6 (ix2 R k) * a7 (ix3 0 k n) : EReal) := by
  pointwise! [val_main_v53, val_main_v52, val_main_v51, val_main_v50]

end Cert.Merge.Hand
-- ==== Proof.AttnB.Reference.lean ====
/- The reference of the causal attention, element by element. -/
module

public import proofs.«01_k».proof.Proof.AttnB.Causal
public import proofs.«01_k».proof.Proof.Merge.Reference
public import proofs.«01_k».proof.Proof.Gen.RefAttnBIdeal.Read

@[expose] public section

set_option maxRecDepth 16384

noncomputable section

namespace Cert.AttnBIdeal.Hand

open Idealize.ShloMosaic

/-- The pattern of two. -/
theorem bits_two : Ideal.ofBits .f32 0x40000000#32 = ((2 : ℝ) : EReal) := by
  simp [Ideal.ofBits, Ideal.ieee, -EReal.coe_mul]; norm_num

/-- The largest of logits that are real or masked, one of them real. -/
theorem largest_real (s : Fin 8192 → EReal) (hs : ∀ K, s K ≠ ⊤) (h0 : s 0 ≠ ⊥) :
    ∃ M : ℝ, Finset.univ.fold max (Ideal.ofBits .f32 0xFF800000#32) s = M := by
  rw [Cert.Merge.Hand.bits_bot]
  have htop : Finset.univ.fold max ⊥ s < ⊤ := by
    rw [Finset.fold_max_lt]
    exact ⟨bot_lt_top, fun j _ => (hs j).lt_top⟩
  have hbot : ⊥ < Finset.univ.fold max ⊥ s := by
    rw [Finset.lt_fold_max]
    exact Or.inr ⟨0, Finset.mem_univ _, h0.bot_lt⟩
  exact ⟨_, (EReal.coe_toReal htop.ne hbot.ne').symm⟩

/-- A power of two is the weight. -/
theorem power_eq (M : ℝ) (s : EReal) (hs : s ≠ ⊤) : Ideal.pow (Ideal.ofBits .f32 0x40000000#32) (s - M) = weight M s := by
  rw [bits_two]
  unfold weight
  by_cases hb : s = ⊥
  · rw [hb, EReal.bot_sub, Ideal.exp2_bot, Ideal.pow_coe_bot, if_neg (by norm_num), if_pos (by norm_num)]
  · obtain ⟨r, rfl⟩ := real_of s hs hb
    rw [← EReal.coe_sub, Ideal.exp2_coe, Ideal.pow_coe_coe]

/-- Normalised weights: it is the same to normalise each weight, under the largest logit, or the weighted sum, under no shift. -/
theorem normalised (s u : Fin 8192 → EReal) (M : ℝ) (hs : ∀ K, s K ≠ ⊤) (h0 : s 0 ≠ ⊥) :
    ∑ K : Fin 8192, u K * Ideal.div (weight M (s K)) (∑ K : Fin 8192, weight M (s K))
    = Ideal.div (tot 16 (0 : ℝ) (tiles s) (tiles u)) (tot 16 (0 : ℝ) (tiles s) (fun _ _ => 1)) := by
  have hk : tiles s 0 0 ≠ ⊥ := h0
  obtain ⟨Z, hZ, hZe⟩ := total_real 16 M (tiles s) (fun j _ x => hs (key j x)) (by norm_num) hk
  have hsum : ∑ K : Fin 8192, weight M (s K) = Z := by
    rw [← hZe]
    refine Eq.trans ?_ (tot_all M s (fun _ => 1)).symm
    exact Finset.sum_congr rfl fun K _ => (one_mul _).symm
  rw [← ratio_shift 16 M 0 (tiles s) (tiles u) (fun j _ x => hs (key j x)) (by norm_num) hk, hZe, tot_all, hsum, Ideal.div_coe hZ.ne', mul_comm]
  rw [real_mul_sum _ _ _ (by positivity)]
  refine Finset.sum_congr rfl fun K _ => ?_
  rw [Ideal.div_coe hZ.ne', ← mul_assoc, mul_comm]

end Cert.AttnBIdeal.Hand

namespace Cert.AttnBIdeal.Hand

section
open Cert.RefAttnBIdeal Cert.RefAttnBIdeal.Read Idealize.ShloMosaic

variable (a0 a1 : FVec Ideal Cert.RefAttnBIdeal.S8192x2048 .bf16) (a2 : FVec Ideal Cert.RefAttnBIdeal.S8192x1024 .bf16)

theorem product_eq (H : Fin 8) (R K : Fin 8192) : val_main_v6 (F := Ideal) a0 a1 (ix3 H R K)
    = ∑ d : Fin 256, (a0 (ix2 R (column H d)) * a1 (ix2 K (column H d)) : EReal) := by
  unfold column
  pointwise [val_main_v6, val_main_v3, val_main_v2, val_main_v1, val_main_v0]
  simp only [mul_comm H.val 256]

theorem order_eq (R K : Fin 8192) : val_main_v13 (F := Ideal) (ix2 R K) = if K.val ≤ R.val then 1#1 else 0#1 := by
  have hR := R.isLt
  have hK := K.isLt
  rw [val_main_v13_apply, val_main_v12_apply, val_main_v11_apply, val_main_v10_apply, val_main_v9_apply, val_main_v8_apply, val_main_v7_apply]
  refine (WordCmp.cmpi_sle_ofNat (w := 32) (a := K.val) (b := R.val) (by omega) (by omega)).trans ?_
  by_cases h : K.val ≤ R.val
  · rw [if_pos h, decide_eq_true h]; rfl
  · rw [if_neg h, decide_eq_false h]; rfl

theorem logit_eq (H : Fin 8) (R K : Fin 8192) : val_main_v14 (F := Ideal) a0 a1 (ix3 H R K)
    = seen (fun R d => a0 (ix2 R d)) (fun R d => a1 (ix2 R d)) H R K := by
  rw [val_main_v14_apply, val_main_call0_v1_apply, val_main_call0_v2_apply, val_main_call0_v0_apply, val_main_cst_apply, product_eq]
  unfold seen
  have e : val_main_v13 (F := Ideal) (idx_main_call0_v1 (ix3 H R K)) = if K.val ≤ R.val then 1#1 else 0#1 := order_eq R K
  rw [e]
  by_cases h : K.val ≤ R.val
  · rw [if_pos h, if_pos h]; rfl
  · rw [if_neg h, if_neg h]; exact Cert.Merge.Hand.bits_bot

theorem largest_eq (H : Fin 8) (R : Fin 8192) : val_main_v15 (F := Ideal) a0 a1 (ix2 H R)
    = Finset.univ.fold max (Ideal.ofBits .f32 0xFF800000#32) (fun K : Fin 8192 => (val_main_v14 (F := Ideal) a0 a1 (ix3 H R K) : EReal)) := by
  unfold val_main_v15
  generalize val_main_v14 (F := Ideal) a0 a1 = v
  pointwise! [val_main_cst_0]

theorem shift_eq (H : Fin 8) (R K : Fin 8192) : val_main_v17 (F := Ideal) a0 a1 (ix3 H R K) = val_main_v15 (F := Ideal) a0 a1 (ix2 H R) := by
  unfold val_main_v17 val_main_v16
  generalize val_main_v15 (F := Ideal) a0 a1 = u
  pointwise!

theorem weight_eq (H : Fin 8) (R K : Fin 8192) (M : ℝ) (hM : val_main_v15 (F := Ideal) a0 a1 (ix2 H R) = (M : EReal))
    (hs : val_main_v14 (F := Ideal) a0 a1 (ix3 H R K) ≠ (⊤ : EReal)) :
    val_main_v20 (F := Ideal) a0 a1 (ix3 H R K) = weight M (val_main_v14 (F := Ideal) a0 a1 (ix3 H R K)) := by
  refine Eq.trans ?_ (power_eq M _ hs)
  rw [val_main_v20_apply, val_main_v19_apply, val_main_cst_1_apply, val_main_v18_apply, shift_eq, hM]
  generalize val_main_v14 (F := Ideal) a0 a1 (ix3 H R K) = s
  rfl

theorem total_eq (H : Fin 8) (R K : Fin 8192) : val_main_v23 (F := Ideal) a0 a1 (ix3 H R K)
    = ∑ K : Fin 8192, (val_main_v20 (F := Ideal) a0 a1 (ix3 H R K) : EReal) := by
  unfold val_main_v23 val_main_v22 val_main_v21
  generalize val_main_v20 (F := Ideal) a0 a1 = u
  pointwise! [val_main_cst_2]

theorem share_eq (H : Fin 8) (R K : Fin 8192) (M : ℝ) (hM : val_main_v15 (F := Ideal) a0 a1 (ix2 H R) = (M : EReal))
    (hs : ∀ K, val_main_v14 (F := Ideal) a0 a1 (ix3 H R K) ≠ (⊤ : EReal)) :
    val_main_v24 (F := Ideal) a0 a1 (ix3 H R K) = Ideal.div (weight M (val_main_v14 (F := Ideal) a0 a1 (ix3 H R K)))
      (∑ K : Fin 8192, weight M (val_main_v14 (F := Ideal) a0 a1 (ix3 H R K))) := by
  rw [val_main_v24_apply, total_eq]
  simp only [weight_eq a0 a1 H R _ M hM (hs _)]
  generalize val_main_v14 (F := Ideal) a0 a1 = u
  rfl

theorem gathered_eq (R : Fin 8192) (w : Fin 1024) : val_main_v28 (F := Ideal) a0 a1 a2 (ix2 R w)
    = ∑ K : Fin 8192, (a2 (ix2 K w) * val_main_v24 (F := Ideal) a0 a1 (ix3 ⟨w.val / 128, by omega⟩ R K) : EReal) := by
  pointwise [val_main_v28, val_main_v27, val_main_v26, val_main_v25, val_main_v5, val_main_v4]

/-- One head's shares gather what the attention gathers. -/
theorem shares_eq (H : Fin 8) (R : Fin 8192) (s u : Fin 8192 → EReal) (hv : ∀ K, val_main_v14 (F := Ideal) a0 a1 (ix3 H R K) = s K)
    (hs : ∀ K, s K ≠ ⊤) (h0 : s 0 ≠ ⊥) : ∑ K : Fin 8192, (u K * val_main_v24 (F := Ideal) a0 a1 (ix3 H R K) : EReal)
    = Ideal.div (tot 16 (0 : ℝ) (tiles s) (tiles u)) (tot 16 (0 : ℝ) (tiles s) (fun _ _ => 1)) := by
  have hm := largest_eq a0 a1 H R
  simp only [hv] at hm
  obtain ⟨M, hM⟩ := largest_real s hs h0
  rw [← normalised s u M hs h0]
  refine Finset.sum_congr rfl fun K _ => congrArg (u K * ·) ?_
  rw [share_eq a0 a1 H R K M (hm.trans hM) fun K => by rw [hv]; exact hs K]
  simp only [hv]

/-- The reference's result, element by element. -/
theorem reference_eq (hq : ∀ R d, ∃ f : ℝ, (a0 (ix2 R d) : EReal) = f) (hk : ∀ R d, ∃ f : ℝ, (a1 (ix2 R d) : EReal) = f)
    (R : Fin 8192) (w : Fin 1024) :
    val_main_v28 (F := Ideal) a0 a1 a2 (ix2 R w) = result (fun R d => a0 (ix2 R d)) (fun R d => a1 (ix2 R d)) (fun R d => a2 (ix2 R d)) R w := by
  have real : ∀ H K, ∃ z : ℝ, ∑ d : Fin 256, (a0 (ix2 R (column H d)) * a1 (ix2 K (column H d)) : EReal) = z := fun H K =>
    Cert.Merge.Hand.dot_real _ _ (fun d => hq _ _) (fun d => hk _ _)
  have htop : ∀ H K, seen (fun R d => a0 (ix2 R d)) (fun R d => a1 (ix2 R d)) H R K ≠ ⊤ := fun H K => by
    obtain ⟨z, hz⟩ := real H K
    unfold seen
    split
    · dsimp only; rw [hz]; exact EReal.coe_ne_top z
    · exact bot_ne_top
  have h0 : ∀ H, seen (fun R d => a0 (ix2 R d)) (fun R d => a1 (ix2 R d)) H R 0 ≠ ⊥ := fun H => by
    obtain ⟨z, hz⟩ := real H 0
    unfold seen
    rw [if_pos (show (0 : Fin 8192).val ≤ R.val from Nat.zero_le _)]
    dsimp only; rw [hz]; exact EReal.coe_ne_bot z
  rw [gathered_eq]
  unfold result
  exact shares_eq a0 a1 _ R _ _ (logit_eq a0 a1 _ R) (htop _) (h0 _)

end

end Cert.AttnBIdeal.Hand

end
-- ==== Proof.Merge.Claims.lean ====
/- The merge of the branches: the two runs side by side, where the memory attention's queries and keys are finite. -/
module

public import proofs.«01_k».proof.Defs
public import proofs.«01_k».proof.Proof.Gen.Pre_finite_attention
public import proofs.«01_k».proof.Proof.Merge.Reference

@[expose] public section

set_option maxRecDepth 16384

noncomputable section

namespace Cert.Merge.Hand

open Cert.RefMergeIdeal.Read Idealize.ShloMosaic Idealize.ShloMosaic.TcCoe Idealize.SL.Sem

section
open Cert.RefMergeIdeal
variable (a0 : FVec Ideal S1x8192x2048 .f32) (a1 a2 a3 : FVec Ideal S8192x1024 .bf16) (a4 : FVec Ideal S256x2048 .bf16)
  (a5 : FVec Ideal S8192x13824 .bf16) (a6 : FVec Ideal S1x3x1024x2048 .f32) (a7 : FVec Ideal S1x2048x2048 .f32)

/-- The gated sum over the branches is the kernel's, with the weights on the other side of each product. -/
theorem merged_eq (R : Fin 8192) (k : Fin 2048) (hq : ∀ d, ∃ f : ℝ, (a3 (ix2 R d) : EReal) = f)
    (hk : ∀ (j : Fin 256) (d : Fin 2048), d.val < 1024 → ∃ f : ℝ, (a4 (ix2 j d) : EReal) = f) :
    val_main_v49 (F := Ideal) a1 a2 a3 a4 a5 a6 (ix2 R k)
    = merged ![a5 (ix2 R ⟨k.val, by omega⟩), a5 (ix2 R ⟨2048 + k.val, by omega⟩), a5 (ix2 R ⟨4096 + k.val, by omega⟩)]
      (fun x => a1 (ix2 R x)) (fun x => a2 (ix2 R x)) (fun x => a3 (ix2 R x)) (fun j d => a4 (ix2 j d))
      ![fun x => a5 (ix2 R ⟨7168 + x.val, by omega⟩), fun x => a5 (ix2 R ⟨9216 + x.val, by omega⟩),
        fun x => a5 (ix2 R ⟨11264 + x.val, by omega⟩)]
      (fun b x => a6 (ix4 0 b x k)) := by
  rw [sum_eq, Fin.sum_univ_three]
  unfold merged branch
  have e0 : (⟨2048 * (0 : Fin 3).val + k.val, by omega⟩ : Fin 13824) = ⟨k.val, by omega⟩ := Fin.ext (by simp)
  have e1 : (⟨2048 * (1 : Fin 3).val + k.val, by omega⟩ : Fin 13824) = ⟨2048 + k.val, by omega⟩ := Fin.ext (by simp)
  have e2 : (⟨2048 * (2 : Fin 3).val + k.val, by omega⟩ : Fin 13824) = ⟨4096 + k.val, by omega⟩ := Fin.ext (by simp)
  rw [e0, e1, e2]
  simp only [gated_eq, context_eq a3 a4 R _ hq hk, mul_comm (a6 _)]
  rfl

/-- The reference's result, row by row. -/
theorem reference_eq (hq : ∀ R d, ∃ f : ℝ, (a3 (ix2 R d) : EReal) = f)
    (hk : ∀ (j : Fin 256) (d : Fin 2048), d.val < 1024 → ∃ f : ℝ, (a4 (ix2 j d) : EReal) = f) (R : Fin 8192) (n : Fin 2048) :
    val_main_v53 (F := Ideal) a0 a1 a2 a3 a4 a5 a6 a7 (ix2 R n) = result a0 a1 a2 a3 a4 a5 a6 a7 R n := by
  rw [reference_apply]
  unfold result
  exact congrArg (a0 (ix3 0 R n) + ·) (Finset.sum_congr rfl fun k _ => congrArg (· * a7 (ix3 0 k n)) (merged_eq a1 a2 a3 a4 a5 a6 R k (hq R) hk))

end

/-- The pattern of plus infinity. -/
theorem bits_top : Ideal.ofBits .f32 0x7F800000#32 = ⊤ := by
  simp [Ideal.ofBits, Ideal.ieee]

/-- An element whose absolute value is below plus infinity is real. -/
theorem real_of_lt (x : EReal) (h : BitVec.ofBool (decide ((FloatOps.absf (F := Ideal) (φ := .f32) x : EReal) < Ideal.ofBits .f32 0x7F800000#32)) = 1#1) :
    ∃ f : ℝ, x = f := by
  rw [bits_top] at h
  induction x with
  | bot => exact absurd h (by simp [Ideal.absf_def])
  | top => exact absurd h (by simp [Ideal.absf_def])
  | coe f => exact ⟨f, rfl⟩

section
open Cert.Pre_finite_attention
variable (a0 : FVec Ideal S1x8192x2048 .f32) (a1 a2 a3 : FVec Ideal S8192x1024 .bf16) (a4 : FVec Ideal S256x2048 .bf16)
  (a5 : FVec Ideal S8192x13824 .bf16) (a6 : FVec Ideal S1x3x1024x2048 .f32) (a7 : FVec Ideal S1x2048x2048 .f32)

/-- The precondition's first half makes every query real. -/
theorem queries_real (h : (fn (F := Ideal) a0 a1 a2 a3 a4 a5 a6 a7).1 = (fun _ => 1#1)) (R : Fin 8192) (d : Fin 1024) :
    ∃ f : ℝ, (a3 (ix2 R d) : EReal) = f := by
  have := congrFun h (ix2 R d)
  unfold fn at this
  dsimp only at this
  pointwise at this
  exact real_of_lt _ this

/-- The precondition's second half makes every key real. -/
theorem keys_real (h : (fn (F := Ideal) a0 a1 a2 a3 a4 a5 a6 a7).2 = (fun _ => 1#1)) (j : Fin 256) (d : Fin 2048) (hd : d.val < 1024) :
    ∃ f : ℝ, (a4 (ix2 j d) : EReal) = f := by
  have := congrFun h (ix2 j ⟨d.val, hd⟩)
  unfold fn at this
  dsimp only at this
  pointwise at this
  exact real_of_lt _ this

end

theorem kernel_run (m : (ℓ : Loc Cert.MergeIdeal.nD Cert.MergeIdeal.τ Cert.MergeIdeal.sig) → Buf (Elt Ideal) ℓ)
    (ρ : Dev Cert.MergeIdeal.nD → PrngReg) :
    θ_run Cert.MergeIdeal.defs (onTc (τ := Cert.MergeIdeal.τ) (Cert.MergeIdeal.main (F := Ideal))) ⟨m, fun _ => 0, ρ⟩
      fun r => ∀ c : Dev Cert.MergeIdeal.nD,
        r.2.mem ((c.tc : Thread Cert.MergeIdeal.nD Cert.MergeIdeal.τ).loc Cert.MergeIdeal.main_v5) = resultArr m c
        ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
        ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
        ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
        ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
        ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
        ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
        ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
        ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7) :=
  (θ_run _ _ _).mono (fun r h c => ⟨(h c).1.trans (final m c), (h c).2⟩) (Cert.MergeIdeal.Value.run_blocks m ρ)

theorem reference_arr (m : (ℓ : Loc Cert.MergeIdeal.nD Cert.MergeIdeal.τ Cert.MergeIdeal.sig) → Buf (Elt Ideal) ℓ)
    (hm : Pre_MergeIdeal_finite_attention m) (c : Dev Cert.MergeIdeal.nD) :
    val_main_v53 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) = resultArr m c := by
  funext i
  idx_vars i
  exact reference_eq _ _ _ _ _ _ _ _ (queries_real _ _ _ _ _ _ _ _ (hm c).1) (keys_real _ _ _ _ _ _ _ _ (hm c).2) i0 i1

theorem algebraic : algebraic_MergeIdeal_RefMergeIdeal_pre_finite_attention := fun m g m' g' hm hagree =>
  ⟨_, kernel_run m g,
    (θ_run _ _ _).mono (fun r h c => ⟨(h c).1.trans ((val_main_v53_eq _ _).trans (by
      obtain ⟨h0, h1, h2, h3, h4, h5, h6, h7⟩ := hagree c
      rw [h0, h1, h2, h3, h4, h5, h6, h7]
      exact reference_arr m hm c)), (h c).2⟩) (Cert.RefMergeIdeal.Value.run m' g')⟩

end Cert.Merge.Hand
-- ==== Proof.AttnB.Claims.lean ====
/- The causal attention: the two runs side by side, where the queries and keys are finite and the norms not negative. -/
module

public import proofs.«01_k».proof.Defs
public import proofs.«01_k».proof.Proof.Gen.Pre_finite_latent
public import proofs.«01_k».proof.Proof.AttnB.Value
public import proofs.«01_k».proof.Proof.AttnB.Reference
public import proofs.«01_k».proof.Proof.Merge.Claims

@[expose] public section

set_option maxRecDepth 16384

noncomputable section

namespace Cert.AttnBIdeal.Hand

open Cert.RefAttnBIdeal.Read Idealize.ShloMosaic Idealize.ShloMosaic.TcCoe Idealize.SL.Sem

section
open Cert.Pre_finite_latent
variable (a0 a1 : FVec Ideal S8192x2048 .bf16) (a2 : FVec Ideal S8192x1024 .bf16) (a3 : FVec Ideal S16x128 .f32)

theorem queries_real (h : (fn (F := Ideal) a0 a1 a2 a3).1 = (fun _ => 1#1)) (R : Fin 8192) (d : Fin 2048) :
    ∃ f : ℝ, (a0 (ix2 R d) : EReal) = f := by
  have := congrFun h (ix2 R d)
  unfold fn at this
  dsimp only at this
  pointwise at this
  exact Cert.Merge.Hand.real_of_lt _ this

theorem keys_real (h : (fn (F := Ideal) a0 a1 a2 a3).2.1 = (fun _ => 1#1)) (R : Fin 8192) (d : Fin 2048) :
    ∃ f : ℝ, (a1 (ix2 R d) : EReal) = f := by
  have := congrFun h (ix2 R d)
  unfold fn at this
  dsimp only at this
  pointwise at this
  exact Cert.Merge.Hand.real_of_lt _ this

theorem bit_true (p : Prop) [Decidable p] (h : BitVec.ofBool (decide p) = 1#1) : p := by
  by_contra hp
  rw [decide_eq_false hp] at h
  exact absurd h (by decide)

theorem norms_nonneg (h : (fn (F := Ideal) a0 a1 a2 a3).2.2 = (fun _ => 1#1)) (a : Fin 16) (b : Fin 128) :
    (0 : EReal) ≤ a3 (ix2 a b) := by
  have := congrFun h (ix2 a b)
  unfold fn at this
  dsimp only at this
  pointwise at this
  exact bit_true _ this

end

/-- The precondition is what the body needs of its blocks. -/
theorem good (m : (ℓ : Loc Cert.AttnBIdeal.nD Cert.AttnBIdeal.τ Cert.AttnBIdeal.sig) → Buf (Elt Ideal) ℓ)
    (hm : Pre_AttnBIdeal_finite_latent m) : Cert.AttnBIdeal.Attended.Good m where
  queries c y := by
    idx_vars y
    exact queries_real _ _ _ _ (hm c).1 y0 y1
  keys c y := by
    idx_vars y
    exact keys_real _ _ _ _ (hm c).2.1 y0 y1
  norms c y := by
    idx_vars y
    exact norms_nonneg _ _ _ _ (hm c).2.2 y0 y1

theorem reference_arr (m : (ℓ : Loc Cert.AttnBIdeal.nD Cert.AttnBIdeal.τ Cert.AttnBIdeal.sig) → Buf (Elt Ideal) ℓ)
    (hm : Pre_AttnBIdeal_finite_latent m) (c : Dev Cert.AttnBIdeal.nD) :
    val_main_v28 (F := Ideal) (m ((c.tc : Thread Cert.AttnBIdeal.nD Cert.AttnBIdeal.τ).loc Cert.AttnBIdeal.main_arg0))
      (m ((c.tc : Thread Cert.AttnBIdeal.nD Cert.AttnBIdeal.τ).loc Cert.AttnBIdeal.main_arg1))
      (m ((c.tc : Thread Cert.AttnBIdeal.nD Cert.AttnBIdeal.τ).loc Cert.AttnBIdeal.main_arg2)) = Cert.AttnBIdeal.Attended.resultArr m c := by
  funext i
  idx_vars i
  exact reference_eq _ _ _ (queries_real _ _ _ _ (hm c).1) (keys_real _ _ _ _ (hm c).2.1) i0 i1

theorem algebraic : algebraic_AttnBIdeal_RefAttnBIdeal_pre_finite_latent := fun m g m' g' hm hagree =>
  ⟨_, Cert.AttnBIdeal.Attended.run_result m g (good m hm),
    (θ_run _ _ _).mono (fun r h c => ⟨(h c).1.trans ((val_main_v28_eq _ _).trans (by
      obtain ⟨h0, h1, h2, h3⟩ := hagree c
      rw [h0, h1, h2]
      exact reference_arr m hm c)), (h c).2⟩) (Cert.RefAttnBIdeal.Value.run m' g')⟩

end Cert.AttnBIdeal.Hand

end
-- ==== Proof.Regroup.Block.lean ====
/- The regrouping call: its two prefetched tables, the side condition they meet, and what the body leaves in one output block. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Regroup

open Cert.KernelIdeal Cert.KernelIdeal.Gen Idealize.ShloMosaic Idealize.ShloMosaic.TcCoe Idealize.SL.Sem
open Idealize.ShloMosaic.Tactic
open Idealize.ShloMosaic.Pipeline (Dat)

variable {F : FTy → Type} [FloatOps F]
variable (m : (ℓ : Loc nD τ sig) → Buf (Elt F) ℓ) (ρ : Dev nD → PrngReg)

/-! ## The tables -/

/-- The first table's words: each unit's first source row, counted in sixteens. -/
theorem tbl_start (x : S108.Idx) : tbl m 0 x = lit0 (S108.rowMajor x) := by
  unfold tbl V hostOps0
  after_results
  rfl

/-- The second table's words: how many of each unit's 128 rows are taken. -/
theorem tbl_valid (x : S108.Idx) : tbl m 1 x = lit1 (S108.rowMajor x) := by
  unfold tbl V hostOps0
  after_results
  rfl

/-- The tables' contents as the literals. -/
def words : pre0.Contents (Elt F) := fun
  | ⟨0, _⟩ => fun x => lit0 (S108.rowMajor x)
  | ⟨1, _⟩ => fun x => lit1 (S108.rowMajor x)
  | ⟨_ + 2, h⟩ => absurd h (by simp)

theorem tbl_eq : tbl m = words := by
  funext j x
  match j with
  | ⟨0, _⟩ => exact tbl_start m x
  | ⟨1, _⟩ => exact tbl_valid m x

/-- Every window's block lies inside its array, at offsets that are multiples of eight. -/
theorem ok : Ok (F := F) m := by
  unfold Ok; rw [tbl_eq m]
  exact of_decide_eq_true (by sl_kernel_rfl)

/-! ## The regrouped array -/

/-- Each unit's source rows lie inside the source array. -/
theorem start_le (u : Fin 108) : (lit0 u).toNat * 16 + 128 ≤ 13712 := by
  revert u; decide +kernel

/-- The source row of row `r` of the regrouped array. -/
abbrev srcRow (r : Fin 13824) : Fin 13712 :=
  ⟨(lit0 ⟨r.val / 128, by omega⟩).toNat * 16 + r.val % 128, by
    have := start_le ⟨r.val / 128, by omega⟩
    omega⟩

/-- Row `r` of the regrouped array is its source row where its unit takes it, zero elsewhere. -/
def regrouped (X : S13712x2048.Idx → F .f32) : S13824x2048.Idx → F .bf16 := fun i =>
  FloatOps.truncf .bf16 bitsLt_bf16_f32
    (if (i 0).val % 128 < (lit1 ⟨(i 0).val / 128, by have h : (i 0).val < 13824 := (i 0).isLt; omega⟩).toNat then
      X (ValueIdx.ix2 (srcRow (i 0)) (i 1))
    else FloatOps.ofBits .f32 0x00000000#32)

/-! ## One output block -/

theorem valid_le (u : Fin 108) : (lit1 u).toNat ≤ 128 := by
  revert u; decide +kernel

/-- Unit `k` of block `t` reads the tables at word `4 t + k`. -/
theorem off_eq (t : Fin 27) (k : Fin 4) : k0_off1 (grid0.coords t) (BitVec.ofNat 32 k.val) 0 = 4 * t.val + k.val := by
  revert t k; decide +kernel

/-- Both tables at the place that unit `k` of block `t` reads. -/
theorem start_word (z : S108.Idx) (u : Fin 108) (hz : (z 0).val = u.val) : tbl m 0 z = lit0 u := by
  rw [tbl_start]
  congr 1
  apply Fin.ext
  rw [Shape.rowMajor_val_one, hz]

theorem valid_word (z : S108.Idx) (u : Fin 108) (hz : (z 0).val = u.val) : tbl m 1 z = lit1 u := by
  rw [tbl_valid]
  congr 1
  apply Fin.ext
  rw [Shape.rowMajor_val_one, hz]

/-- The place of the word that unit `k` of block `t` reads. -/
abbrev place (t : Fin 27) (k : Fin 4) : S108.Idx :=
  (Rect.unit (s := S108) (k0_off1 (grid0.coords t) (BitVec.ofNat 32 k.val)) S1.size (k0_off1_inb (grid0.coords t) k)).emb
    (Shape.Idx.first (numel1_S1.symm ▸ Nat.one_pos))

theorem place_eq (t : Fin 27) (k : Fin 4) (u : Fin 108) (hu : u.val = 4 * t.val + k.val) : (place t k 0).val = u.val := by
  have h : ((Shape.Idx.first (numel1_S1.symm ▸ Nat.one_pos) : S1.Idx) 0).val < 1 := ((Shape.Idx.first (numel1_S1.symm ▸ Nat.one_pos) : S1.Idx) 0).isLt
  refine Eq.trans (b := k0_off1 (grid0.coords t) (BitVec.ofNat 32 k.val) 0 + 1 * ((Shape.Idx.first (numel1_S1.symm ▸ Nat.one_pos) : S1.Idx) 0).val) rfl ?_
  rw [off_eq]; omega

/-- The offset an index map computes of a table word. -/
theorem start_mul (u : Fin 108) : (Scalar.muli (lit0 u) 16#32).toNat = (lit0 u).toNat * 16 := by
  revert u; decide +kernel

/-- A row is kept where its place is before the unit's count, as the kernel compares them. -/
theorem kept (w : BitVec 32) (hw : w.toNat ≤ 128) (n : ℕ) (hn : n < 128) {α : Type} (a b : α) :
    Scalar.select (IntOp.cmpi CmpIPredicate.slt (BitVec.ofNat 32 n) w) a b = if n < w.toNat then a else b := by
  have e : w = BitVec.ofNat 32 w.toNat := by simp
  have h1 : n < 2 ^ (32 - 1) := by omega
  have h2 : w.toNat < 2 ^ (32 - 1) := by omega
  by_cases h : n < w.toNat
  · rw [if_pos h, e, WordCmp.select_of_eq_one ((WordCmp.cmpi_slt_ofNat_eq_one_iff h1 h2).2 h)]
  · rw [if_neg h, e, WordCmp.select_of_eq_zero ((WordCmp.cmpi_slt_ofNat_eq_zero_iff h1 h2).2 h)]

/-- What one unit's store leaves, row by row. -/
theorem unit_eq (w : BitVec 32) (hw : w.toNat ≤ 128) (v : Vec F S128x2048 .f32) (x : S128x2048.Idx) :
    k0_pay1 (iota Kind.tc S128x2048 32 [0] iota_S128x2048_d0_w32) w v x
      = FloatOps.truncf .bf16 bitsLt_bf16_f32 (if (x 0).val < w.toNat then v x else FloatOps.ofBits .f32 0x00000000#32) := by
  unfold k0_pay1
  pointwise
  rw [kept w hw _ (x 0).isLt]

theorem iblk0 (c : Dev nD) (t : Fin 27) (y : S128x2048.Idx) (i : S13712x2048.Idx) (u : Fin 108) (hu : u.val = 4 * t.val + 0)
    (h0 : (i 0).val = (lit0 u).toNat * 16 + (y 0).val) (h1 : (i 1).val = (y 1).val) :
    iblk m (ok m) c 0 t y = V m c main_v1 i := by
  show V m c main_v1 ((((cfgM m (ok m)).win 0).blk t).view.emb y) = _
  congr 1
  funext a
  apply Fin.ext
  match a with
  | ⟨0, _⟩ =>
    refine Eq.trans (b := (Scalar.muli (tbl m 0 (place t 0)) 16#32).toNat + 1 * (y 0).val) rfl ((?_ : _ = _).trans h0.symm)
    rw [start_word m _ u (place_eq t 0 u hu), start_mul, Nat.one_mul]
  | ⟨1, _⟩ =>
    refine Eq.trans (b := 0 + 1 * (y 1).val) rfl ((?_ : _ = _).trans h1.symm)
    omega

theorem iblk1 (c : Dev nD) (t : Fin 27) (y : S128x2048.Idx) (i : S13712x2048.Idx) (u : Fin 108) (hu : u.val = 4 * t.val + 1)
    (h0 : (i 0).val = (lit0 u).toNat * 16 + (y 0).val) (h1 : (i 1).val = (y 1).val) :
    iblk m (ok m) c 1 t y = V m c main_v1 i := by
  show V m c main_v1 ((((cfgM m (ok m)).win 1).blk t).view.emb y) = _
  congr 1
  funext a
  apply Fin.ext
  match a with
  | ⟨0, _⟩ =>
    refine Eq.trans (b := (Scalar.muli (tbl m 0 (place t 1)) 16#32).toNat + 1 * (y 0).val) rfl ((?_ : _ = _).trans h0.symm)
    rw [start_word m _ u (place_eq t 1 u hu), start_mul, Nat.one_mul]
  | ⟨1, _⟩ =>
    refine Eq.trans (b := 0 + 1 * (y 1).val) rfl ((?_ : _ = _).trans h1.symm)
    omega

theorem iblk2 (c : Dev nD) (t : Fin 27) (y : S128x2048.Idx) (i : S13712x2048.Idx) (u : Fin 108) (hu : u.val = 4 * t.val + 2)
    (h0 : (i 0).val = (lit0 u).toNat * 16 + (y 0).val) (h1 : (i 1).val = (y 1).val) :
    iblk m (ok m) c 2 t y = V m c main_v1 i := by
  show V m c main_v1 ((((cfgM m (ok m)).win 2).blk t).view.emb y) = _
  congr 1
  funext a
  apply Fin.ext
  match a with
  | ⟨0, _⟩ =>
    refine Eq.trans (b := (Scalar.muli (tbl m 0 (place t 2)) 16#32).toNat + 1 * (y 0).val) rfl ((?_ : _ = _).trans h0.symm)
    rw [start_word m _ u (place_eq t 2 u hu), start_mul, Nat.one_mul]
  | ⟨1, _⟩ =>
    refine Eq.trans (b := 0 + 1 * (y 1).val) rfl ((?_ : _ = _).trans h1.symm)
    omega

theorem iblk3 (c : Dev nD) (t : Fin 27) (y : S128x2048.Idx) (i : S13712x2048.Idx) (u : Fin 108) (hu : u.val = 4 * t.val + 3)
    (h0 : (i 0).val = (lit0 u).toNat * 16 + (y 0).val) (h1 : (i 1).val = (y 1).val) :
    iblk m (ok m) c 3 t y = V m c main_v1 i := by
  show V m c main_v1 ((((cfgM m (ok m)).win 3).blk t).view.emb y) = _
  congr 1
  funext a
  apply Fin.ext
  match a with
  | ⟨0, _⟩ =>
    refine Eq.trans (b := (Scalar.muli (tbl m 0 (place t 3)) 16#32).toNat + 1 * (y 0).val) rfl ((?_ : _ = _).trans h0.symm)
    rw [start_word m _ u (place_eq t 3 u hu), start_mul, Nat.one_mul]
  | ⟨1, _⟩ =>
    refine Eq.trans (b := 0 + 1 * (y 1).val) rfl ((?_ : _ = _).trans h1.symm)
    omega

/-- What the body leaves in block `t` of the output, at an index: the regrouped array there. -/
theorem out_apply (c : Dev nD) (t : Fin 27) (y : S512x2048.Idx) (i : S13824x2048.Idx)
    (h0 : (i 0).val = 512 * t.val + (y 0).val) (h1 : (i 1).val = (y 1).val) :
    outsAt0 m (ok m) c t y = regrouped (V m c main_v1) i := by
  have key : ∀ (k : Fin 4) (w : BitVec 32) (b : Vec F S128x2048 .f32) (x : S128x2048.Idx)
      (hu : 4 * t.val + k.val < 108)
      (hw : w = lit1 ⟨4 * t.val + k.val, hu⟩)
      (hb : ∀ z : S13712x2048.Idx, (z 0).val = (lit0 ⟨4 * t.val + k.val, hu⟩).toNat * 16 + (x 0).val → (z 1).val = (x 1).val → b x = V m c main_v1 z)
      (hy0 : (y 0).val = 128 * k.val + (x 0).val) (hy1 : (y 1).val = (x 1).val),
      k0_pay1 (iota Kind.tc S128x2048 32 [0] iota_S128x2048_d0_w32) w b x = regrouped (V m c main_v1) i := by
    intro k w b x hu hw hb hy0 hy1
    subst hw
    have hx : (x 0).val < 128 := (x 0).isLt
    rw [unit_eq _ (valid_le _)]
    unfold regrouped
    have hd : (i 0).val / 128 = 4 * t.val + k.val := by omega
    have hm : (i 0).val % 128 = (x 0).val := by omega
    rw [hb (ValueIdx.ix2 (srcRow (i 0)) (i 1)) (by
      show (lit0 ⟨(i 0).val / 128, _⟩).toNat * 16 + (i 0).val % 128 = _
      simp only [hd, hm]) (by show (i 1).val = _; omega)]
    simp only [hd, hm]
  have ht := t.isLt
  unfold outsAt0
  frame_out
  canon_tiles x e
  · exact key 3 _ _ x (by show _ < _; omega) (valid_word m (place t 3) _ (place_eq t 3 _ rfl))
      (fun z z0 z1 => (congrFun ((hs0_3 m (ok m) t).read_unread _) x).trans (iblk3 m c t x z _ rfl z0 z1)) e0 e1
  · exact key 2 _ _ x (by show _ < _; omega) (valid_word m (place t 2) _ (place_eq t 2 _ rfl))
      (fun z z0 z1 => (congrFun ((hs0_2 m (ok m) t).read_unread _) x).trans (iblk2 m c t x z _ rfl z0 z1)) e0 e1
  · exact key 1 _ _ x (by show _ < _; omega) (valid_word m (place t 1) _ (place_eq t 1 _ rfl))
      (fun z z0 z1 => (congrFun ((hs0_1 m (ok m) t).read_unread _) x).trans (iblk1 m c t x z _ rfl z0 z1)) e0 e1
  · exact key 0 _ _ x (by show _ < _; omega) (valid_word m (place t 0) _ (place_eq t 0 _ rfl))
      (fun z z0 z1 => (congrFun ((hs0_0 m (ok m) t).read_unread _) x).trans (iblk0 m c t x z _ rfl z0 z1)) (by show _ = 128 * 0 + _; omega) e1

end Cert.Regroup
-- ==== Proof.Regroup.Array.lean ====
/- The regrouping call: the array it ends with, and its run. -/
module

public import proofs.«01_k».proof.Proof.Regroup.Block

@[expose] public section

set_option maxRecDepth 16384

noncomputable section

namespace Cert.Regroup

open Cert.KernelIdeal Cert.KernelIdeal.Gen Idealize.ShloMosaic Idealize.ShloMosaic.TcCoe Idealize.SL.Sem
open Idealize.ShloMosaic.Tactic
open Idealize.ShloMosaic.Pipeline (Dat)

variable {F : FTy → Type} [FloatOps F]
variable (m : (ℓ : Loc nD τ sig) → Buf (Elt F) ℓ) (ρ : Dev nD → PrngReg)

theorem index4 (t : Fin 27) : cc0_transform_4 (grid0.coords t) 0 = t.val ∧ cc0_transform_4 (grid0.coords t) 1 = 0 := by
  revert t; decide +kernel

/-- Where block `t` of the output lies in its array. -/
def spot (t : Fin 27) (y : S512x2048.Idx) : S13824x2048.Idx :=
  ValueIdx.ix2 ⟨512 * t.val + (y 0).val, by have h : (y 0).val < 512 := (y 0).isLt; omega⟩ (y 1)

theorem emb_eq (t : Fin 27) (y : S512x2048.Idx) : (((cfgM m (ok m)).win 4).blk t).view.emb y = spot t y := by
  funext a
  apply Fin.ext
  match a with
  | ⟨0, _⟩ =>
    refine Eq.trans (b := cc0_transform_4 (grid0.coords t) 0 * 512 + 1 * (y 0).val) rfl (Eq.trans ?_ (rfl : 512 * t.val + (y 0).val = _))
    rw [(index4 t).1]; omega
  | ⟨1, _⟩ =>
    refine Eq.trans (b := cc0_transform_4 (grid0.coords t) 1 * 2048 + 1 * (y 1).val) rfl (Eq.trans ?_ (rfl : (y 1).val = _))
    rw [(index4 t).2]; omega

theorem flushed (c : Dev nD) (t : Fin 27) : (dats m (ok m) 0 c).flushed 4 t
    = ((((cfgM m (ok m)).win 4).blk t).view.read (Elt F) (regrouped (V m c main_v1)) : Vec F S512x2048 .bf16) := by
  funext y
  refine Eq.trans (b := outsAt0 m (ok m) c t y) (congrFun (after0_4 m (ok m) c t) y) ?_
  refine (out_apply m c t y (spot t y) rfl rfl).trans ?_
  exact congrArg (regrouped (V m c main_v1)) (emb_eq m t y).symm

theorem spot_mem (t : Fin 27) (y : S512x2048.Idx) : spot t y ∈ (((cfgM m (ok m)).win 4).blk t).view.set := by
  rw [← emb_eq m]
  exact View.emb_mem_set _ _

theorem covered (i : S13824x2048.Idx) : ∃ t : Fin 27, i ∈ (((cfgM m (ok m)).win 4).blk t).view.set := by
  have h0 : (i 0).val < 13824 := (i 0).isLt
  have e : spot ⟨(i 0).val / 512, by omega⟩ (ValueIdx.ix2 ⟨(i 0).val % 512, Nat.mod_lt _ (by decide)⟩ (i 1)) = i := by
    funext a
    apply Fin.ext
    match a with
    | ⟨0, _⟩ => show 512 * ((i 0).val / 512) + (i 0).val % 512 = (i 0).val; omega
    | ⟨1, _⟩ => rfl
  have h := spot_mem m ⟨(i 0).val / 512, by omega⟩ (ValueIdx.ix2 ⟨(i 0).val % 512, Nat.mod_lt _ (by decide)⟩ (i 1))
  rw [e] at h
  exact ⟨_, h⟩

/-- The output array after the last point. -/
theorem final (c : Dev nD) : (dats m (ok m) 0 c).arrAt 4 (cfgM m (ok m)).N = regrouped (V m c main_v1) :=
  (dats m (ok m) 0 c).arrAt_eq_of_cover 4 _ (fun t _ => flushed m c t) (fun i => by
    obtain ⟨t, h⟩ := covered m i
    exact ⟨t, flush0_4 _ _, h⟩)

/-- The source array as the call finds it: the weight's columns as rows. -/
theorem source (c : Dev nD) (a : Fin 13712) (b : Fin 2048) : V m c main_v1 (ValueIdx.ix2 a b)
    = shapeCast S2048x13712 (m ((c : Thread nD τ).loc main_arg0)) shapeCasts_S1x2048x13712_S2048x13712 (ValueIdx.ix2 b a) := by
  unfold V hostOps0
  after_results
  exact transpose_apply [1, 0] _ transposes_S2048x13712_S13712x2048_1_0 _ _ (fun b => match b with
    | ⟨0, _⟩ => rfl
    | ⟨1, _⟩ => rfl)

/-- The call's run: the result is the regrouped array, the argument as launched. -/
theorem run : θ_run defs (onTc (τ := τ) (main (F := F))) ⟨m, fun _ => 0, ρ⟩ fun r => ∀ c : Dev nD,
    r.2.mem ((c : Thread nD τ).loc main_v2) = regrouped (V m c main_v1)
    ∧ r.2.mem ((c : Thread nD τ).loc main_arg0) = m ((c : Thread nD τ).loc main_arg0) :=
  (θ_run defs _ _).mono (fun r h c => ⟨((h.1 c).1 4).trans (final m c), h.2 c⟩)
    (θ_run_and (run_main m ρ (ok m)) (unchanged m ρ (ok m)))

end Cert.Regroup
-- ==== Proof.Regroup.Reference.lean ====
/- The reference's regrouped weight, segment by segment. -/
module

public import proofs.«01_k».proof.Proof.Regroup.Block
public import proofs.«01_k».proof.Proof.Gen.ReferenceIdeal.Read

@[expose] public section

set_option maxRecDepth 16384

noncomputable section

namespace Cert.Regroup

open Cert.KernelIdeal.Gen Cert.ReferenceIdeal Cert.ReferenceIdeal.Read Idealize.ShloMosaic
open Cert.KernelIdeal (lit0 lit1)
open Idealize.ShloMosaic.Tactic

variable {F : FTy → Type} [FloatOps F]

/-- The unit a row of the regrouped array belongs to. -/
abbrev unitOf (i : S13824x2048.Idx) : Fin 108 :=
  ⟨(i 0).val / 128, by have h : (i 0).val < 13824 := (i 0).isLt; omega⟩

/-- A row its unit takes. -/
theorem row_kept (X : Cert.KernelIdeal.S13712x2048.Idx → F .f32) (i : S13824x2048.Idx) (k : Fin 13712)
    (hv : (i 0).val % 128 < (lit1 (unitOf i)).toNat) (hk : (lit0 (unitOf i)).toNat * 16 + (i 0).val % 128 = k.val) :
    regrouped X i = FloatOps.truncf .bf16 bitsLt_bf16_f32 (X (ValueIdx.ix2 k (i 1))) := by
  have e : srcRow (i 0) = k := Fin.ext hk
  unfold regrouped
  rw [if_pos hv, e]

/-- A row its unit leaves at zero. -/
theorem row_zero (X : Cert.KernelIdeal.S13712x2048.Idx → F .f32) (i : S13824x2048.Idx)
    (hv : ¬ (i 0).val % 128 < (lit1 (unitOf i)).toNat) :
    regrouped X i = FloatOps.truncf .bf16 bitsLt_bf16_f32 (FloatOps.ofBits .f32 0x00000000#32 : F .f32) := by
  unfold regrouped
  rw [if_neg hv]

/-- The weight's columns as rows. -/
abbrev columns (x0 : (⟨S1x2048x13712, .f32⟩ : BufTy).Contents (Elt F)) : Cert.KernelIdeal.S13712x2048.Idx → F .f32 :=
  fun k => val_main_v0 (F := F) x0 (ValueIdx.ix2 (k 1) (k 0))

/-- The reference's result read at an index: the joined columns, narrowed. -/
theorem result_apply (x0 : (⟨S1x2048x13712, .f32⟩ : BufTy).Contents (Elt F)) (i : S13824x2048.Idx) :
    val_main_v19 (F := F) x0 i
      = FloatOps.truncf .bf16 bitsLt_bf16_f32 (val_main_v17 (F := F) x0 (ValueIdx.ix2 (i 1) (i 0))) := by
  rw [val_main_v19_apply, val_main_v18_apply]
  refine congrArg (fun j => FloatOps.truncf .bf16 bitsLt_bf16_f32 (val_main_v17 (F := F) x0 j)) (funext fun a => ?_)
  match a with
  | ⟨0, _⟩ => rfl
  | ⟨1, _⟩ => rfl

/-- Rows 0 to 6143. -/
theorem seg0 (x0 : (⟨S1x2048x13712, .f32⟩ : BufTy).Contents (Elt F)) (i : S13824x2048.Idx)
    (h0 : 0 ≤ (i 0).val) (h1 : (i 0).val < 6144) : val_main_v19 (F := F) x0 i = regrouped (columns x0) i := by
  have hu : ∀ u : Fin 108, 0 ≤ u.val → u.val < 48 → (lit0 u).toNat * 16 + 0 = 7568 + 128 * u.val ∧ (lit1 u).toNat = 128 := by decide +kernel
  obtain ⟨hs, hv⟩ := hu (unitOf i) (by show 0 ≤ (i 0).val / 128; omega) (by show (i 0).val / 128 < 48; omega)
  have hs' : (lit0 (unitOf i)).toNat * 16 + 0 = 7568 + 128 * ((i 0).val / 128) := hs
  rw [result_apply, row_kept _ i ⟨7568 + ((i 0).val - 0), by omega⟩ (by omega) (by show _ = 7568 + ((i 0).val - 0); omega)]
  congr 1
  refine Eq.trans (b := val_main_v14 (F := F) x0 (ValueIdx.ix2 (i 1) ⟨(i 0).val - 0, by omega⟩)) ?_ ?_
  · unfold val_main_v17
    refine concatenate_apply_piece (t := S2048x13824) (1 : Fin 2) _ _ _ 0 (by show 0 < 16; decide) S2048x6144 (val_main_v14 (F := F) x0) rfl rfl 0 (by sl_kernel_rfl) _ (fun b hb => ?_) ?_
    · match b with
      | ⟨0, _⟩ => rfl
      | ⟨1, _⟩ => exact absurd rfl hb
    · show 0 + ((i 0).val - 0) = (i 0).val
      omega
  · rw [val_main_v14_apply]
    refine congrArg (val_main_v0 (F := F) x0) (funext fun a => ?_)
    match a with
    | ⟨0, _⟩ => rfl
    | ⟨1, _⟩ => exact Fin.ext rfl

/-- Rows 6144 to 7167. -/
theorem seg1 (x0 : (⟨S1x2048x13712, .f32⟩ : BufTy).Contents (Elt F)) (i : S13824x2048.Idx)
    (h0 : 6144 ≤ (i 0).val) (h1 : (i 0).val < 7168) : val_main_v19 (F := F) x0 i = regrouped (columns x0) i := by
  have hu : ∀ u : Fin 108, 48 ≤ u.val → u.val < 56 → (lit0 u).toNat * 16 + 6144 = 0 + 128 * u.val ∧ (lit1 u).toNat = 128 := by decide +kernel
  obtain ⟨hs, hv⟩ := hu (unitOf i) (by show 48 ≤ (i 0).val / 128; omega) (by show (i 0).val / 128 < 56; omega)
  have hs' : (lit0 (unitOf i)).toNat * 16 + 6144 = 0 + 128 * ((i 0).val / 128) := hs
  rw [result_apply, row_kept _ i ⟨0 + ((i 0).val - 6144), by omega⟩ (by omega) (by show _ = 0 + ((i 0).val - 6144); omega)]
  congr 1
  refine Eq.trans (b := val_main_v1 (F := F) x0 (ValueIdx.ix2 (i 1) ⟨(i 0).val - 6144, by omega⟩)) ?_ ?_
  · unfold val_main_v17
    refine concatenate_apply_piece (t := S2048x13824) (1 : Fin 2) _ _ _ 1 (by show 1 < 16; decide) S2048x1024 (val_main_v1 (F := F) x0) rfl rfl 6144 (by sl_kernel_rfl) _ (fun b hb => ?_) ?_
    · match b with
      | ⟨0, _⟩ => rfl
      | ⟨1, _⟩ => exact absurd rfl hb
    · show 6144 + ((i 0).val - 6144) = (i 0).val
      omega
  · rw [val_main_v1_apply]
    refine congrArg (val_main_v0 (F := F) x0) (funext fun a => ?_)
    match a with
    | ⟨0, _⟩ => rfl
    | ⟨1, _⟩ => exact Fin.ext (Nat.zero_add _).symm

/-- Rows 7168 to 8191. -/
theorem seg2 (x0 : (⟨S1x2048x13712, .f32⟩ : BufTy).Contents (Elt F)) (i : S13824x2048.Idx)
    (h0 : 7168 ≤ (i 0).val) (h1 : (i 0).val < 8192) : val_main_v19 (F := F) x0 i = regrouped (columns x0) i := by
  have hu : ∀ u : Fin 108, 56 ≤ u.val → u.val < 64 → (lit0 u).toNat * 16 + 7168 = 1536 + 128 * u.val ∧ (lit1 u).toNat = 128 := by decide +kernel
  obtain ⟨hs, hv⟩ := hu (unitOf i) (by show 56 ≤ (i 0).val / 128; omega) (by show (i 0).val / 128 < 64; omega)
  have hs' : (lit0 (unitOf i)).toNat * 16 + 7168 = 1536 + 128 * ((i 0).val / 128) := hs
  rw [result_apply, row_kept _ i ⟨1536 + ((i 0).val - 7168), by omega⟩ (by omega) (by show _ = 1536 + ((i 0).val - 7168); omega)]
  congr 1
  refine Eq.trans (b := val_main_v4 (F := F) x0 (ValueIdx.ix2 (i 1) ⟨(i 0).val - 7168, by omega⟩)) ?_ ?_
  · unfold val_main_v17
    refine concatenate_apply_piece (t := S2048x13824) (1 : Fin 2) _ _ _ 2 (by show 2 < 16; decide) S2048x1024 (val_main_v4 (F := F) x0) rfl rfl 7168 (by sl_kernel_rfl) _ (fun b hb => ?_) ?_
    · match b with
      | ⟨0, _⟩ => rfl
      | ⟨1, _⟩ => exact absurd rfl hb
    · show 7168 + ((i 0).val - 7168) = (i 0).val
      omega
  · rw [val_main_v4_apply]
    refine congrArg (val_main_v0 (F := F) x0) (funext fun a => ?_)
    match a with
    | ⟨0, _⟩ => rfl
    | ⟨1, _⟩ => exact Fin.ext rfl

/-- Rows 8192 to 9215. -/
theorem seg3 (x0 : (⟨S1x2048x13712, .f32⟩ : BufTy).Contents (Elt F)) (i : S13824x2048.Idx)
    (h0 : 8192 ≤ (i 0).val) (h1 : (i 0).val < 9216) : val_main_v19 (F := F) x0 i = regrouped (columns x0) i := by
  have hu : ∀ u : Fin 108, 64 ≤ u.val → u.val < 72 → (lit0 u).toNat * 16 + 8192 = 2560 + 128 * u.val ∧ (lit1 u).toNat = 128 := by decide +kernel
  obtain ⟨hs, hv⟩ := hu (unitOf i) (by show 64 ≤ (i 0).val / 128; omega) (by show (i 0).val / 128 < 72; omega)
  have hs' : (lit0 (unitOf i)).toNat * 16 + 8192 = 2560 + 128 * ((i 0).val / 128) := hs
  rw [result_apply, row_kept _ i ⟨2560 + ((i 0).val - 8192), by omega⟩ (by omega) (by show _ = 2560 + ((i 0).val - 8192); omega)]
  congr 1
  refine Eq.trans (b := val_main_v5 (F := F) x0 (ValueIdx.ix2 (i 1) ⟨(i 0).val - 8192, by omega⟩)) ?_ ?_
  · unfold val_main_v17
    refine concatenate_apply_piece (t := S2048x13824) (1 : Fin 2) _ _ _ 3 (by show 3 < 16; decide) S2048x1024 (val_main_v5 (F := F) x0) rfl rfl 8192 (by sl_kernel_rfl) _ (fun b hb => ?_) ?_
    · match b with
      | ⟨0, _⟩ => rfl
      | ⟨1, _⟩ => exact absurd rfl hb
    · show 8192 + ((i 0).val - 8192) = (i 0).val
      omega
  · rw [val_main_v5_apply]
    refine congrArg (val_main_v0 (F := F) x0) (funext fun a => ?_)
    match a with
    | ⟨0, _⟩ => rfl
    | ⟨1, _⟩ => exact Fin.ext rfl

/-- Rows 9216 to 10239. -/
theorem seg4 (x0 : (⟨S1x2048x13712, .f32⟩ : BufTy).Contents (Elt F)) (i : S13824x2048.Idx)
    (h0 : 9216 ≤ (i 0).val) (h1 : (i 0).val < 10240) : val_main_v19 (F := F) x0 i = regrouped (columns x0) i := by
  have hu : ∀ u : Fin 108, 72 ≤ u.val → u.val < 80 → (lit0 u).toNat * 16 + 9216 = 4496 + 128 * u.val ∧ (lit1 u).toNat = 128 := by decide +kernel
  obtain ⟨hs, hv⟩ := hu (unitOf i) (by show 72 ≤ (i 0).val / 128; omega) (by show (i 0).val / 128 < 80; omega)
  have hs' : (lit0 (unitOf i)).toNat * 16 + 9216 = 4496 + 128 * ((i 0).val / 128) := hs
  rw [result_apply, row_kept _ i ⟨4496 + ((i 0).val - 9216), by omega⟩ (by omega) (by show _ = 4496 + ((i 0).val - 9216); omega)]
  congr 1
  refine Eq.trans (b := val_main_v11 (F := F) x0 (ValueIdx.ix2 (i 1) ⟨(i 0).val - 9216, by omega⟩)) ?_ ?_
  · unfold val_main_v17
    refine concatenate_apply_piece (t := S2048x13824) (1 : Fin 2) _ _ _ 4 (by show 4 < 16; decide) S2048x1024 (val_main_v11 (F := F) x0) rfl rfl 9216 (by sl_kernel_rfl) _ (fun b hb => ?_) ?_
    · match b with
      | ⟨0, _⟩ => rfl
      | ⟨1, _⟩ => exact absurd rfl hb
    · show 9216 + ((i 0).val - 9216) = (i 0).val
      omega
  · rw [val_main_v11_apply]
    refine congrArg (val_main_v0 (F := F) x0) (funext fun a => ?_)
    match a with
    | ⟨0, _⟩ => rfl
    | ⟨1, _⟩ => exact Fin.ext rfl

/-- Rows 10240 to 11263. -/
theorem seg5 (x0 : (⟨S1x2048x13712, .f32⟩ : BufTy).Contents (Elt F)) (i : S13824x2048.Idx)
    (h0 : 10240 ≤ (i 0).val) (h1 : (i 0).val < 11264) : val_main_v19 (F := F) x0 i = regrouped (columns x0) i := by
  have hu : ∀ u : Fin 108, 80 ≤ u.val → u.val < 88 → (lit0 u).toNat * 16 + 10240 = 5520 + 128 * u.val ∧ (lit1 u).toNat = 128 := by decide +kernel
  obtain ⟨hs, hv⟩ := hu (unitOf i) (by show 80 ≤ (i 0).val / 128; omega) (by show (i 0).val / 128 < 88; omega)
  have hs' : (lit0 (unitOf i)).toNat * 16 + 10240 = 5520 + 128 * ((i 0).val / 128) := hs
  rw [result_apply, row_kept _ i ⟨5520 + ((i 0).val - 10240), by omega⟩ (by omega) (by show _ = 5520 + ((i 0).val - 10240); omega)]
  congr 1
  refine Eq.trans (b := val_main_v12 (F := F) x0 (ValueIdx.ix2 (i 1) ⟨(i 0).val - 10240, by omega⟩)) ?_ ?_
  · unfold val_main_v17
    refine concatenate_apply_piece (t := S2048x13824) (1 : Fin 2) _ _ _ 5 (by show 5 < 16; decide) S2048x1024 (val_main_v12 (F := F) x0) rfl rfl 10240 (by sl_kernel_rfl) _ (fun b hb => ?_) ?_
    · match b with
      | ⟨0, _⟩ => rfl
      | ⟨1, _⟩ => exact absurd rfl hb
    · show 10240 + ((i 0).val - 10240) = (i 0).val
      omega
  · rw [val_main_v12_apply]
    refine congrArg (val_main_v0 (F := F) x0) (funext fun a => ?_)
    match a with
    | ⟨0, _⟩ => rfl
    | ⟨1, _⟩ => exact Fin.ext rfl

/-- Rows 11264 to 12287. -/
theorem seg6 (x0 : (⟨S1x2048x13712, .f32⟩ : BufTy).Contents (Elt F)) (i : S13824x2048.Idx)
    (h0 : 11264 ≤ (i 0).val) (h1 : (i 0).val < 12288) : val_main_v19 (F := F) x0 i = regrouped (columns x0) i := by
  have hu : ∀ u : Fin 108, 88 ≤ u.val → u.val < 96 → (lit0 u).toNat * 16 + 11264 = 6544 + 128 * u.val ∧ (lit1 u).toNat = 128 := by decide +kernel
  obtain ⟨hs, hv⟩ := hu (unitOf i) (by show 88 ≤ (i 0).val / 128; omega) (by show (i 0).val / 128 < 96; omega)
  have hs' : (lit0 (unitOf i)).toNat * 16 + 11264 = 6544 + 128 * ((i 0).val / 128) := hs
  rw [result_apply, row_kept _ i ⟨6544 + ((i 0).val - 11264), by omega⟩ (by omega) (by show _ = 6544 + ((i 0).val - 11264); omega)]
  congr 1
  refine Eq.trans (b := val_main_v13 (F := F) x0 (ValueIdx.ix2 (i 1) ⟨(i 0).val - 11264, by omega⟩)) ?_ ?_
  · unfold val_main_v17
    refine concatenate_apply_piece (t := S2048x13824) (1 : Fin 2) _ _ _ 6 (by show 6 < 16; decide) S2048x1024 (val_main_v13 (F := F) x0) rfl rfl 11264 (by sl_kernel_rfl) _ (fun b hb => ?_) ?_
    · match b with
      | ⟨0, _⟩ => rfl
      | ⟨1, _⟩ => exact absurd rfl hb
    · show 11264 + ((i 0).val - 11264) = (i 0).val
      omega
  · rw [val_main_v13_apply]
    refine congrArg (val_main_v0 (F := F) x0) (funext fun a => ?_)
    match a with
    | ⟨0, _⟩ => rfl
    | ⟨1, _⟩ => exact Fin.ext rfl

/-- Rows 12288 to 12799. -/
theorem seg7 (x0 : (⟨S1x2048x13712, .f32⟩ : BufTy).Contents (Elt F)) (i : S13824x2048.Idx)
    (h0 : 12288 ≤ (i 0).val) (h1 : (i 0).val < 12800) : val_main_v19 (F := F) x0 i = regrouped (columns x0) i := by
  have hu : ∀ u : Fin 108, 96 ≤ u.val → u.val < 100 → (lit0 u).toNat * 16 + 12288 = 3664 + 128 * u.val ∧ (lit1 u).toNat = 128 := by decide +kernel
  obtain ⟨hs, hv⟩ := hu (unitOf i) (by show 96 ≤ (i 0).val / 128; omega) (by show (i 0).val / 128 < 100; omega)
  have hs' : (lit0 (unitOf i)).toNat * 16 + 12288 = 3664 + 128 * ((i 0).val / 128) := hs
  rw [result_apply, row_kept _ i ⟨3664 + ((i 0).val - 12288), by omega⟩ (by omega) (by show _ = 3664 + ((i 0).val - 12288); omega)]
  congr 1
  refine Eq.trans (b := val_main_v8 (F := F) x0 (ValueIdx.ix2 (i 1) ⟨(i 0).val - 12288, by omega⟩)) ?_ ?_
  · unfold val_main_v17
    refine concatenate_apply_piece (t := S2048x13824) (1 : Fin 2) _ _ _ 7 (by show 7 < 16; decide) S2048x512 (val_main_v8 (F := F) x0) rfl rfl 12288 (by sl_kernel_rfl) _ (fun b hb => ?_) ?_
    · match b with
      | ⟨0, _⟩ => rfl
      | ⟨1, _⟩ => exact absurd rfl hb
    · show 12288 + ((i 0).val - 12288) = (i 0).val
      omega
  · rw [val_main_v8_apply]
    refine congrArg (val_main_v0 (F := F) x0) (funext fun a => ?_)
    match a with
    | ⟨0, _⟩ => rfl
    | ⟨1, _⟩ => exact Fin.ext rfl

/-- Rows 12800 to 13055. -/
theorem seg8 (x0 : (⟨S1x2048x13712, .f32⟩ : BufTy).Contents (Elt F)) (i : S13824x2048.Idx)
    (h0 : 12800 ≤ (i 0).val) (h1 : (i 0).val < 13056) : val_main_v19 (F := F) x0 i = regrouped (columns x0) i := by
  have hu : ∀ u : Fin 108, 100 ≤ u.val → u.val < 102 → (lit0 u).toNat * 16 + 12800 = 1024 + 128 * u.val ∧ (lit1 u).toNat = 128 := by decide +kernel
  obtain ⟨hs, hv⟩ := hu (unitOf i) (by show 100 ≤ (i 0).val / 128; omega) (by show (i 0).val / 128 < 102; omega)
  have hs' : (lit0 (unitOf i)).toNat * 16 + 12800 = 1024 + 128 * ((i 0).val / 128) := hs
  rw [result_apply, row_kept _ i ⟨1024 + ((i 0).val - 12800), by omega⟩ (by omega) (by show _ = 1024 + ((i 0).val - 12800); omega)]
  congr 1
  refine Eq.trans (b := val_main_v2 (F := F) x0 (ValueIdx.ix2 (i 1) ⟨(i 0).val - 12800, by omega⟩)) ?_ ?_
  · unfold val_main_v17
    refine concatenate_apply_piece (t := S2048x13824) (1 : Fin 2) _ _ _ 8 (by show 8 < 16; decide) S2048x256 (val_main_v2 (F := F) x0) rfl rfl 12800 (by sl_kernel_rfl) _ (fun b hb => ?_) ?_
    · match b with
      | ⟨0, _⟩ => rfl
      | ⟨1, _⟩ => exact absurd rfl hb
    · show 12800 + ((i 0).val - 12800) = (i 0).val
      omega
  · rw [val_main_v2_apply]
    refine congrArg (val_main_v0 (F := F) x0) (funext fun a => ?_)
    match a with
    | ⟨0, _⟩ => rfl
    | ⟨1, _⟩ => exact Fin.ext rfl

/-- Rows 13056 to 13311. -/
theorem seg9 (x0 : (⟨S1x2048x13712, .f32⟩ : BufTy).Contents (Elt F)) (i : S13824x2048.Idx)
    (h0 : 13056 ≤ (i 0).val) (h1 : (i 0).val < 13312) : val_main_v19 (F := F) x0 i = regrouped (columns x0) i := by
  have hu : ∀ u : Fin 108, 102 ≤ u.val → u.val < 104 → (lit0 u).toNat * 16 + 13056 = 1280 + 128 * u.val ∧ (lit1 u).toNat = 128 := by decide +kernel
  obtain ⟨hs, hv⟩ := hu (unitOf i) (by show 102 ≤ (i 0).val / 128; omega) (by show (i 0).val / 128 < 104; omega)
  have hs' : (lit0 (unitOf i)).toNat * 16 + 13056 = 1280 + 128 * ((i 0).val / 128) := hs
  rw [result_apply, row_kept _ i ⟨1280 + ((i 0).val - 13056), by omega⟩ (by omega) (by show _ = 1280 + ((i 0).val - 13056); omega)]
  congr 1
  refine Eq.trans (b := val_main_v3 (F := F) x0 (ValueIdx.ix2 (i 1) ⟨(i 0).val - 13056, by omega⟩)) ?_ ?_
  · unfold val_main_v17
    refine concatenate_apply_piece (t := S2048x13824) (1 : Fin 2) _ _ _ 9 (by show 9 < 16; decide) S2048x256 (val_main_v3 (F := F) x0) rfl rfl 13056 (by sl_kernel_rfl) _ (fun b hb => ?_) ?_
    · match b with
      | ⟨0, _⟩ => rfl
      | ⟨1, _⟩ => exact absurd rfl hb
    · show 13056 + ((i 0).val - 13056) = (i 0).val
      omega
  · rw [val_main_v3_apply]
    refine congrArg (val_main_v0 (F := F) x0) (funext fun a => ?_)
    match a with
    | ⟨0, _⟩ => rfl
    | ⟨1, _⟩ => exact Fin.ext rfl

/-- Rows 13312 to 13567. -/
theorem seg10 (x0 : (⟨S1x2048x13712, .f32⟩ : BufTy).Contents (Elt F)) (i : S13824x2048.Idx)
    (h0 : 13312 ≤ (i 0).val) (h1 : (i 0).val < 13568) : val_main_v19 (F := F) x0 i = regrouped (columns x0) i := by
  have hu : ∀ u : Fin 108, 104 ≤ u.val → u.val < 106 → (lit0 u).toNat * 16 + 13312 = 4176 + 128 * u.val ∧ (lit1 u).toNat = 128 := by decide +kernel
  obtain ⟨hs, hv⟩ := hu (unitOf i) (by show 104 ≤ (i 0).val / 128; omega) (by show (i 0).val / 128 < 106; omega)
  have hs' : (lit0 (unitOf i)).toNat * 16 + 13312 = 4176 + 128 * ((i 0).val / 128) := hs
  rw [result_apply, row_kept _ i ⟨4176 + ((i 0).val - 13312), by omega⟩ (by omega) (by show _ = 4176 + ((i 0).val - 13312); omega)]
  congr 1
  refine Eq.trans (b := val_main_v9 (F := F) x0 (ValueIdx.ix2 (i 1) ⟨(i 0).val - 13312, by omega⟩)) ?_ ?_
  · unfold val_main_v17
    refine concatenate_apply_piece (t := S2048x13824) (1 : Fin 2) _ _ _ 10 (by show 10 < 16; decide) S2048x256 (val_main_v9 (F := F) x0) rfl rfl 13312 (by sl_kernel_rfl) _ (fun b hb => ?_) ?_
    · match b with
      | ⟨0, _⟩ => rfl
      | ⟨1, _⟩ => exact absurd rfl hb
    · show 13312 + ((i 0).val - 13312) = (i 0).val
      omega
  · rw [val_main_v9_apply]
    refine congrArg (val_main_v0 (F := F) x0) (funext fun a => ?_)
    match a with
    | ⟨0, _⟩ => rfl
    | ⟨1, _⟩ => exact Fin.ext rfl

/-- Rows 13568 to 13631. -/
theorem seg11 (x0 : (⟨S1x2048x13712, .f32⟩ : BufTy).Contents (Elt F)) (i : S13824x2048.Idx)
    (h0 : 13568 ≤ (i 0).val) (h1 : (i 0).val < 13632) : val_main_v19 (F := F) x0 i = regrouped (columns x0) i := by
  have hu : ∀ u : Fin 108, 106 ≤ u.val → u.val < 107 → (lit0 u).toNat * 16 + 13568 = 3584 + 128 * u.val ∧ (lit1 u).toNat = 80 := by decide +kernel
  obtain ⟨hs, hv⟩ := hu (unitOf i) (by show 106 ≤ (i 0).val / 128; omega) (by show (i 0).val / 128 < 107; omega)
  have hs' : (lit0 (unitOf i)).toNat * 16 + 13568 = 3584 + 128 * ((i 0).val / 128) := hs
  rw [result_apply, row_kept _ i ⟨3584 + ((i 0).val - 13568), by omega⟩ (by omega) (by show _ = 3584 + ((i 0).val - 13568); omega)]
  congr 1
  refine Eq.trans (b := val_main_v6 (F := F) x0 (ValueIdx.ix2 (i 1) ⟨(i 0).val - 13568, by omega⟩)) ?_ ?_
  · unfold val_main_v17
    refine concatenate_apply_piece (t := S2048x13824) (1 : Fin 2) _ _ _ 11 (by show 11 < 16; decide) S2048x64 (val_main_v6 (F := F) x0) rfl rfl 13568 (by sl_kernel_rfl) _ (fun b hb => ?_) ?_
    · match b with
      | ⟨0, _⟩ => rfl
      | ⟨1, _⟩ => exact absurd rfl hb
    · show 13568 + ((i 0).val - 13568) = (i 0).val
      omega
  · rw [val_main_v6_apply]
    refine congrArg (val_main_v0 (F := F) x0) (funext fun a => ?_)
    match a with
    | ⟨0, _⟩ => rfl
    | ⟨1, _⟩ => exact Fin.ext rfl

/-- Rows 13632 to 13647. -/
theorem seg12 (x0 : (⟨S1x2048x13712, .f32⟩ : BufTy).Contents (Elt F)) (i : S13824x2048.Idx)
    (h0 : 13632 ≤ (i 0).val) (h1 : (i 0).val < 13648) : val_main_v19 (F := F) x0 i = regrouped (columns x0) i := by
  have hu : ∀ u : Fin 108, 106 ≤ u.val → u.val < 107 → (lit0 u).toNat * 16 + 13632 = 3648 + 128 * u.val ∧ (lit1 u).toNat = 80 := by decide +kernel
  obtain ⟨hs, hv⟩ := hu (unitOf i) (by show 106 ≤ (i 0).val / 128; omega) (by show (i 0).val / 128 < 107; omega)
  have hs' : (lit0 (unitOf i)).toNat * 16 + 13632 = 3648 + 128 * ((i 0).val / 128) := hs
  rw [result_apply, row_kept _ i ⟨3648 + ((i 0).val - 13632), by omega⟩ (by omega) (by show _ = 3648 + ((i 0).val - 13632); omega)]
  congr 1
  refine Eq.trans (b := val_main_v7 (F := F) x0 (ValueIdx.ix2 (i 1) ⟨(i 0).val - 13632, by omega⟩)) ?_ ?_
  · unfold val_main_v17
    refine concatenate_apply_piece (t := S2048x13824) (1 : Fin 2) _ _ _ 12 (by show 12 < 16; decide) S2048x16 (val_main_v7 (F := F) x0) rfl rfl 13632 (by sl_kernel_rfl) _ (fun b hb => ?_) ?_
    · match b with
      | ⟨0, _⟩ => rfl
      | ⟨1, _⟩ => exact absurd rfl hb
    · show 13632 + ((i 0).val - 13632) = (i 0).val
      omega
  · rw [val_main_v7_apply]
    refine congrArg (val_main_v0 (F := F) x0) (funext fun a => ?_)
    match a with
    | ⟨0, _⟩ => rfl
    | ⟨1, _⟩ => exact Fin.ext rfl

/-- Rows 13648 to 13695. -/
theorem seg13 (x0 : (⟨S1x2048x13712, .f32⟩ : BufTy).Contents (Elt F)) (i : S13824x2048.Idx)
    (h0 : 13648 ≤ (i 0).val) (h1 : (i 0).val < 13696) : val_main_v19 (F := F) x0 i = regrouped (columns x0) i := by
  have hu : ∀ u : Fin 108, 106 ≤ u.val → u.val < 107 → (lit1 u).toNat = 80 := by decide +kernel
  have hv := hu (unitOf i) (by show 106 ≤ (i 0).val / 128; omega) (by show (i 0).val / 128 < 107; omega)
  rw [result_apply, row_zero _ i (by omega)]
  congr 1
  refine Eq.trans (b := val_main_v15 (F := F) (ValueIdx.ix2 (i 1) ⟨(i 0).val - 13648, by omega⟩)) ?_ ?_
  · unfold val_main_v17
    refine concatenate_apply_piece (t := S2048x13824) (1 : Fin 2) _ _ _ 13 (by show 13 < 16; decide) S2048x48 (val_main_v15 (F := F)) rfl rfl 13648 (by sl_kernel_rfl) _ (fun b hb => ?_) ?_
    · match b with
      | ⟨0, _⟩ => rfl
      | ⟨1, _⟩ => exact absurd rfl hb
    · show 13648 + ((i 0).val - 13648) = (i 0).val
      omega
  · rw [val_main_v15_apply]
    rfl

/-- Rows 13696 to 13759. -/
theorem seg14 (x0 : (⟨S1x2048x13712, .f32⟩ : BufTy).Contents (Elt F)) (i : S13824x2048.Idx)
    (h0 : 13696 ≤ (i 0).val) (h1 : (i 0).val < 13760) : val_main_v19 (F := F) x0 i = regrouped (columns x0) i := by
  have hu : ∀ u : Fin 108, 107 ≤ u.val → u.val < 108 → (lit0 u).toNat * 16 + 13696 = 4432 + 128 * u.val ∧ (lit1 u).toNat = 64 := by decide +kernel
  obtain ⟨hs, hv⟩ := hu (unitOf i) (by show 107 ≤ (i 0).val / 128; omega) (by show (i 0).val / 128 < 108; omega)
  have hs' : (lit0 (unitOf i)).toNat * 16 + 13696 = 4432 + 128 * ((i 0).val / 128) := hs
  rw [result_apply, row_kept _ i ⟨4432 + ((i 0).val - 13696), by omega⟩ (by omega) (by show _ = 4432 + ((i 0).val - 13696); omega)]
  congr 1
  refine Eq.trans (b := val_main_v10 (F := F) x0 (ValueIdx.ix2 (i 1) ⟨(i 0).val - 13696, by omega⟩)) ?_ ?_
  · unfold val_main_v17
    refine concatenate_apply_piece (t := S2048x13824) (1 : Fin 2) _ _ _ 14 (by show 14 < 16; decide) S2048x64 (val_main_v10 (F := F) x0) rfl rfl 13696 (by sl_kernel_rfl) _ (fun b hb => ?_) ?_
    · match b with
      | ⟨0, _⟩ => rfl
      | ⟨1, _⟩ => exact absurd rfl hb
    · show 13696 + ((i 0).val - 13696) = (i 0).val
      omega
  · rw [val_main_v10_apply]
    refine congrArg (val_main_v0 (F := F) x0) (funext fun a => ?_)
    match a with
    | ⟨0, _⟩ => rfl
    | ⟨1, _⟩ => exact Fin.ext rfl

/-- Rows 13760 to 13823. -/
theorem seg15 (x0 : (⟨S1x2048x13712, .f32⟩ : BufTy).Contents (Elt F)) (i : S13824x2048.Idx)
    (h0 : 13760 ≤ (i 0).val) (h1 : (i 0).val < 13824) : val_main_v19 (F := F) x0 i = regrouped (columns x0) i := by
  have hu : ∀ u : Fin 108, 107 ≤ u.val → u.val < 108 → (lit1 u).toNat = 64 := by decide +kernel
  have hv := hu (unitOf i) (by show 107 ≤ (i 0).val / 128; omega) (by show (i 0).val / 128 < 108; omega)
  rw [result_apply, row_zero _ i (by omega)]
  congr 1
  refine Eq.trans (b := val_main_v16 (F := F) (ValueIdx.ix2 (i 1) ⟨(i 0).val - 13760, by omega⟩)) ?_ ?_
  · unfold val_main_v17
    refine concatenate_apply_piece (t := S2048x13824) (1 : Fin 2) _ _ _ 15 (by show 15 < 16; decide) S2048x64 (val_main_v16 (F := F)) rfl rfl 13760 (by sl_kernel_rfl) _ (fun b hb => ?_) ?_
    · match b with
      | ⟨0, _⟩ => rfl
      | ⟨1, _⟩ => exact absurd rfl hb
    · show 13760 + ((i 0).val - 13760) = (i 0).val
      omega
  · rw [val_main_v16_apply]
    rfl

/-- The reference's result is the regrouped array of the weight's columns. -/
theorem reference_eq (x0 : (⟨S1x2048x13712, .f32⟩ : BufTy).Contents (Elt F)) : val_main_v19 (F := F) x0 = regrouped (columns x0) := by
  funext i
  have h : (i 0).val < 13824 := (i 0).isLt
  by_cases h0 : (i 0).val < 6144
  · exact seg0 x0 i (by omega) h0
  by_cases h1 : (i 0).val < 7168
  · exact seg1 x0 i (by omega) h1
  by_cases h2 : (i 0).val < 8192
  · exact seg2 x0 i (by omega) h2
  by_cases h3 : (i 0).val < 9216
  · exact seg3 x0 i (by omega) h3
  by_cases h4 : (i 0).val < 10240
  · exact seg4 x0 i (by omega) h4
  by_cases h5 : (i 0).val < 11264
  · exact seg5 x0 i (by omega) h5
  by_cases h6 : (i 0).val < 12288
  · exact seg6 x0 i (by omega) h6
  by_cases h7 : (i 0).val < 12800
  · exact seg7 x0 i (by omega) h7
  by_cases h8 : (i 0).val < 13056
  · exact seg8 x0 i (by omega) h8
  by_cases h9 : (i 0).val < 13312
  · exact seg9 x0 i (by omega) h9
  by_cases h10 : (i 0).val < 13568
  · exact seg10 x0 i (by omega) h10
  by_cases h11 : (i 0).val < 13632
  · exact seg11 x0 i (by omega) h11
  by_cases h12 : (i 0).val < 13648
  · exact seg12 x0 i (by omega) h12
  by_cases h13 : (i 0).val < 13696
  · exact seg13 x0 i (by omega) h13
  by_cases h14 : (i 0).val < 13760
  · exact seg14 x0 i (by omega) h14
  exact seg15 x0 i (by omega) h

end Cert.Regroup
-- ==== Proof.Regroup.Claims.lean ====
/- The regrouping call's claims: it is its reference, at the ideal instance and bit for bit. -/
module

public import proofs.«01_k».proof.Proof.Regroup.Array
public import proofs.«01_k».proof.Proof.Regroup.Reference
public import proofs.«01_k».proof.Proof.Gen.ReferenceIdeal.Run
public import proofs.«01_k».proof.Proof.Gen.Kernel
public import proofs.«01_k».proof.Proof.Gen.Reference
public import proofs.«01_k».proof.Defs

@[expose] public section

set_option maxRecDepth 16384

noncomputable section

namespace Cert.Regroup

open Idealize.ShloMosaic.Tactic
open Idealize.ShloMosaic Idealize.ShloMosaic.TcCoe Idealize.SL.Sem

variable {F : FTy → Type} [FloatOps F]

/-- The regrouped array, read off the weight as the call is given it. -/
def result (w : Cert.KernelIdeal.S1x2048x13712.Idx → F .f32) : Cert.KernelIdeal.S13824x2048.Idx → F .bf16 :=
  regrouped (columns w)

/-- The call ends with the regrouped weight. -/
theorem run_result (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      fun r => ∀ c : Dev Cert.KernelIdeal.nD,
        r.2.mem ((c.tc : Thread Cert.KernelIdeal.nD Cert.KernelIdeal.τ).loc Cert.KernelIdeal.main_v2) = result (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) :=
  (θ_run _ _ _).mono (fun r h c => ⟨(h c).1.trans (congrArg regrouped (funext fun k => by
    conv_lhs => rw [ValueIdx.eq_ix2 k]
    exact source m c (k 0) (k 1))), (h c).2⟩) (run m ρ)

/-- The reference ends with the regrouped weight. -/
theorem reference_run (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v19)
          = result (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  (θ_run _ _ _).mono (fun r h c => ⟨(h c).1.trans
    ((Cert.ReferenceIdeal.Read.val_main_v19_eq _).trans (reference_eq _)), (h c).2⟩) (Cert.ReferenceIdeal.Value.run m ρ)

theorem algebraic : algebraic_KernelIdeal_ReferenceIdeal := fun m g m' g' _ hagree =>
  ⟨fun c => result (F := Ideal) (m ((c.tc : Thread Cert.KernelIdeal.nD Cert.KernelIdeal.τ).loc Cert.KernelIdeal.main_arg0)), run_result m g,
    (θ_run _ _ _).mono (fun r h c => ⟨(h c).1.trans (congrArg (result (F := Ideal)) (hagree c)), (h c).2⟩) (reference_run m' g')⟩

/-- The original program is the same text, so its run at the machine's floats is the one above. -/
theorem kernel_run_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      fun r => ∀ c : Dev Cert.Kernel.nD,
        r.2.mem ((c.tc : Thread Cert.Kernel.nD Cert.Kernel.τ).loc Cert.Kernel.main_v2)
          = result (F := Bits) (m ((c.tc : Thread Cert.Kernel.nD Cert.Kernel.τ).loc Cert.Kernel.main_arg0))
        ∧ r.2.mem ((c.tc : Thread Cert.Kernel.nD Cert.Kernel.τ).loc Cert.Kernel.main_arg0) = m ((c.tc : Thread Cert.Kernel.nD Cert.Kernel.τ).loc Cert.Kernel.main_arg0) :=
  cast (by sl_kernel_rfl) (run_result (F := Bits) m ρ)

/-- So is the original reference's. -/
theorem reference_run_bits (m : (ℓ : Loc Cert.Reference.nD Cert.Reference.τ Cert.Reference.sig) → Buf (Elt Bits) ℓ) (ρ : Dev Cert.Reference.nD → PrngReg) :
    θ_run (Cert.Reference.defs (F := Bits)) (onTc (τ := Cert.Reference.τ) (Cert.Reference.main (F := Bits))) ⟨m, fun _ => 0, ρ⟩
      fun r => ∀ c : Dev Cert.Reference.nD,
        r.2.mem ((c.tc : Thread Cert.Reference.nD Cert.Reference.τ).loc Cert.Reference.main_v19)
          = result (F := Bits) (m ((c.tc : Thread Cert.Reference.nD Cert.Reference.τ).loc Cert.Reference.main_arg0))
        ∧ r.2.mem ((c.tc : Thread Cert.Reference.nD Cert.Reference.τ).loc Cert.Reference.main_arg0) = m ((c.tc : Thread Cert.Reference.nD Cert.Reference.τ).loc Cert.Reference.main_arg0) :=
  cast (by sl_kernel_rfl) (reference_run (F := Bits) m ρ)

theorem bitexact : bitexact_Kernel_Reference := fun m g m' g' _ hagree =>
  ⟨fun c => result (F := Bits) (m ((c.tc : Thread Cert.Kernel.nD Cert.Kernel.τ).loc Cert.Kernel.main_arg0)), kernel_run_bits m g,
    (θ_run _ _ _).mono (fun r h c => ⟨(h c).1.trans (congrArg (result (F := Bits)) (hagree c)), (h c).2⟩) (reference_run_bits m' g')⟩

end Cert.Regroup
-- ==== Proof.InProj.Block.lean ====
/- The input projection: what one grid point leaves in the scratch rows and in the output block, element by element. -/
module

public import proofs.«01_k».proof.Proof.Gen.InProjIdeal.Value
public import Idealize.ShloMosaic.Lib.Pipeline.ValueKit
public import Idealize.ShloMosaic.Lib.Pointwise

@[expose] public section

set_option maxRecDepth 16384

noncomputable section

namespace Cert.InProj.Hand

open Cert.InProjIdeal Cert.InProjIdeal.Gen Idealize.ShloMosaic Idealize.ShloMosaic.TcCoe Idealize.SL.Sem
open Idealize.ShloMosaic.Pipeline (Dat)

/-- A row scaled by the reciprocal root of its mean square and by a gain, at one column. -/
def scaled (x g : Fin 2048 → EReal) (k : Fin 2048) : EReal :=
  x k * Ideal.rsqrt ((∑ l, x l * x l) * Ideal.ofBits .f32 0x3A000000#32 + Ideal.ofBits .f32 0x358637BD#32) * g k

theorem chunk0 (g : FVec Ideal S1x2048 .f32) (x : FVec Ideal S256x2048 .f32) (r : Fin 256) (k : Fin 2048) :
    k0_pay5 (F := Ideal) g x (ix2 r k) = scaled (fun l => x (ix2 r l)) (fun l => g (ix2 0 l)) k := by
  unfold scaled
  pointwise! [k0_pay5, k0_pay4]

theorem chunk1 (g : FVec Ideal S1x2048 .f32) (x : FVec Ideal S256x2048 .f32) (r : Fin 256) (k : Fin 2048) :
    k0_pay6 (F := Ideal) g x (ix2 r k) = scaled (fun l => x (ix2 r l)) (fun l => g (ix2 0 l)) k := by
  unfold scaled
  pointwise! [k0_pay6, k0_pay4]

theorem chunk2 (g : FVec Ideal S1x2048 .f32) (x : FVec Ideal S256x2048 .f32) (r : Fin 256) (k : Fin 2048) :
    k0_pay1 (F := Ideal) (k0_pay4 g) (k0_pay7 x) (ix2 r k) = scaled (fun l => x (ix2 r l)) (fun l => g (ix2 0 l)) k := by
  unfold scaled
  pointwise! [k0_pay1, k0_pay4, k0_pay7]

theorem chunk3 (g : FVec Ideal S1x2048 .f32) (x : FVec Ideal S256x2048 .f32) (r : Fin 256) (k : Fin 2048) :
    k0_pay2 (F := Ideal) (k0_pay4 g) x (ix2 r k) = scaled (fun l => x (ix2 r l)) (fun l => g (ix2 0 l)) k := by
  unfold scaled
  pointwise! [k0_pay2, k0_pay4]

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2304x2048 .bf16) (harg4 : arg4.IsWhole)
  (arg5 : Memref sig .tc .vmem S1024x2304 .bf16) (harg5 : arg5.IsWhole) (arg6 : Memref sig .tc .vmem S1024x2048 .bf16) (harg6 : arg6.IsWhole)

/-- The four pieces the first point of a row block stores into the scratch, last first. -/
def pieces (x0 : Vec Ideal S1024x2048 .f32) (x1 : Vec Ideal S1x2048 .f32) : List (View.Piece (Elt Ideal) S1024x2048 .bf16) :=
  [⟨Rect.unit ![768, 0] ![256, 2048] inb_S1024x2048_S256x2048_768_0,
      k0_pay2 (k0_pay4 x1) (View.ld x0 (Rect.unit ![768, 0] ![256, 2048] inb_S1024x2048_S256x2048_768_0))⟩,
    ⟨Rect.unit ![512, 0] ![256, 2048] inb_S1024x2048_S256x2048_512_0,
      k0_pay1 (k0_pay4 x1) (k0_pay7 (View.ld x0 (Rect.unit ![512, 0] ![256, 2048] inb_S1024x2048_S256x2048_512_0)))⟩,
    ⟨Rect.unit ![256, 0] ![256, 2048] inb_S1024x2048_S256x2048_256_0,
      k0_pay6 x1 (View.ld x0 (Rect.unit ![256, 0] ![256, 2048] inb_S1024x2048_S256x2048_256_0))⟩,
    ⟨Rect.unit ![0, 0] ![256, 2048] inb_S1024x2048_S256x2048_0_0,
      k0_pay5 x1 (View.ld x0 (Rect.unit ![0, 0] ![256, 2048] inb_S1024x2048_S256x2048_0_0))⟩]

theorem pieces_cover (x0 : Vec Ideal S1024x2048 .f32) (x1 : Vec Ideal S1x2048 .f32) (y : S1024x2048.Idx) :
    ∃ pc ∈ pieces x0 x1, y ∈ pc.1.set :=
  View.cover_of_tiledL (pieces x0 x1) S256x2048.size (by sl_kernel_rfl) y

theorem pieces_apply (x0 : Vec Ideal S1024x2048 .f32) (x1 : Vec Ideal S1x2048 .f32) (r : Fin 1024) (k : Fin 2048) :
    View.canon (pieces x0 x1) (ix2 r k) = scaled (fun l => x0 (ix2 r l)) (fun l => x1 (ix2 0 l)) k := by
  unfold pieces
  canon_tiles p h
  all_goals
    idx_vars p
    obtain rfl : k = p1 := Fin.ext h1
    first
      | refine (chunk3 _ _ _ _).trans ?_
      | refine (chunk2 _ _ _ _).trans ?_
      | refine (chunk1 _ _ _ _).trans ?_
      | refine (chunk0 _ _ _ _).trans ?_
    refine congrArg (fun f => scaled f _ k) (funext fun l => ?_)
    pointwise
    blk_ext

/-- The first point of a row block fills the scratch with its rows scaled. -/
theorem scratch_first (hc0 : cond0_0 i) (x0 : Vec Ideal S1024x2048 .f32) (x1 : Vec Ideal S1x2048 .f32) (x2 : Vec Ideal S2304x2048 .bf16)
    (r : Fin 1024) (k : Fin 2048) :
    sout0_A_0 c i arg2 harg2 arg3 harg3 arg4 harg4 arg5 harg5 arg6 harg6 hc0 x0 x1 x2 (ix2 r k)
      = scaled (fun l => x0 (ix2 r l)) (fun l => x1 (ix2 0 l)) k := by
  frame_out
  exact pieces_apply x0 x1 r k

theorem out_later (hc0 : ¬cond0_0 i) (x0 : Vec Ideal S1024x2048 .f32) (x1 : Vec Ideal S1x2048 .f32) (x2 : Vec Ideal S2304x2048 .bf16)
    (xs0 : Vec Ideal S1024x2048 .bf16) (r : Fin 1024) (n : Fin 2304) :
    out0_B_3 c i arg2 harg2 arg3 harg3 arg4 harg4 arg5 harg5 arg6 harg6 hc0 x0 x1 x2 xs0 (ix2 r n)
      = ∑ k : Fin 2048, (xs0 (ix2 r k) * x2 (ix2 n k) : EReal) := by
  frame_out
  pointwise! [k0_pay3]

theorem out_first (hc0 : cond0_0 i) (x0 : Vec Ideal S1024x2048 .f32) (x1 : Vec Ideal S1x2048 .f32) (x2 : Vec Ideal S2304x2048 .bf16)
    (r : Fin 1024) (n : Fin 2304) :
    out0_A_3 c i arg2 harg2 arg3 harg3 arg4 harg4 arg5 harg5 arg6 harg6 hc0 x0 x1 x2 (ix2 r n)
      = ∑ k : Fin 2048, (scaled (fun l => x0 (ix2 r l)) (fun l => x1 (ix2 0 l)) k * x2 (ix2 n k) : EReal) := by
  have h : k0_pay3 (F := Ideal) (View.canon (pieces x0 x1)) x2 (ix2 r n)
      = ∑ k : Fin 2048, (View.canon (pieces x0 x1) (ix2 r k) * x2 (ix2 n k) : EReal) := by
    generalize View.canon (pieces x0 x1) = z
    pointwise! [k0_pay3]
  frame_out
  rw [View.readCov_eq_canon_ld _ _ _ (by exact pieces_cover x0 x1), View.ld_unit_lit' _ _ (by decide)]
  refine Eq.trans h (Finset.sum_congr rfl fun k _ => ?_)
  rw [pieces_apply]

end Cert.InProj.Hand
-- ==== Proof.InProj.Array.lean ====
/- The input projection: the scratch rows carried along a row block, the array the call ends with, and its run. -/
module

public import proofs.«01_k».proof.Proof.InProj.Block

@[expose] public section

set_option maxRecDepth 16384

noncomputable section

namespace Cert.InProj.Hand

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem places : ∀ t : Fin cfg0.N, win0_0.index t = ![t.val / 6, 0] ∧ win0_1.index t = ![0, 0]
    ∧ win0_2.index t = ![t.val % 6, 0] ∧ win0_3.index t = ![t.val / 6, t.val % 6] :=
  (by decide +kernel : ∀ t : Fin grid0.N, _)

/-- The rows and the gain as the call finds them. -/
abbrev rows (c : Dev nD) : FVec Ideal S8192x2048 .f32 := V m c main_v0
abbrev gain (c : Dev nD) : FVec Ideal S1x2048 .f32 := V m c main_v2
abbrev weight (c : Dev nD) : FVec Ideal S13824x2048 .bf16 := m ((c : Thread nD τ).loc main_arg2)

/-- Row `r` of the normalised input, at column `k`. -/
def hidden (c : Dev nD) (r : Fin 8192) (k : Fin 2048) : EReal :=
  scaled (fun l => rows m c (ix2 r l)) (fun l => gain m c (ix2 0 l)) k

theorem hidden_block (c : Dev nD) (t : Fin cfg0.N) (r : Fin 1024) (R : Fin 8192) (hR : R.val = 1024 * (t.val / 6) + r.val) (k : Fin 2048) :
    scaled (fun l => (iblk m c 0 t : FVec Ideal S1024x2048 .f32) (ix2 r l)) (fun l => (iblk m c 1 t : FVec Ideal S1x2048 .f32) (ix2 0 l)) k
      = hidden m c R k := by
  unfold hidden
  have e0 : (fun l : Fin 2048 => (iblk m c 0 t : FVec Ideal S1024x2048 .f32) (ix2 r l)) = fun l => rows m c (ix2 R l) := by
    funext l
    blk_ext [iblk, places t]
  have e1 : (fun l : Fin 2048 => (iblk m c 1 t : FVec Ideal S1x2048 .f32) (ix2 0 l)) = fun l => gain m c (ix2 0 l) := by
    funext l
    blk_ext [iblk, places t]
  rw [e0, e1]

theorem weight_block (c : Dev nD) (t : Fin cfg0.N) (n : Fin 2304) (N : Fin 13824) (hN : N.val = 2304 * (t.val % 6) + n.val) (k : Fin 2048) :
    (iblk m c 2 t : FVec Ideal S2304x2048 .bf16) (ix2 n k) = weight m c (ix2 N k) := by
  blk_ext [iblk, V, places t]

theorem scratch_A (c : Dev nD) (t : Fin cfg0.N) (h0 : t.val % 6 = 0) (r : Fin 1024) (R : Fin 8192) (hR : R.val = 1024 * (t.val / 6) + r.val)
    (k : Fin 2048) : (outsAt0 m c t.val t.isLt).2 (ix2 r k) = hidden m c R k := by
  rw [outsAt0_A m c t h0]
  dsimp only
  rw [scratch_first]
  exact hidden_block m c t r R hR k

theorem scratch_B (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After every point of a row block the scratch holds the block's normalised rows. -/
theorem scratch (c : Dev nD) : ∀ (n : ℕ) (hn : n < cfg0.N) (r : Fin 1024) (R : Fin 8192), R.val = 1024 * (n / 6) + r.val →
    ∀ k : Fin 2048, (outsAt0 m c n hn).2 (ix2 r k) = hidden m c R k := by
  intro n
  induction n with
  | zero =>
    intro hn r R hR k
    exact scratch_A m c ⟨0, hn⟩ (Nat.zero_mod _) r R hR k
  | succ n ih =>
    intro hn r R hR k
    by_cases h0 : (n + 1) % 6 = 0
    · exact scratch_A m c ⟨n + 1, hn⟩ h0 r R hR k
    · exact (congrFun (scratch_B m c ⟨n + 1, hn⟩ h0) (ix2 r k)).trans (ih (Nat.lt_of_succ_lt hn) r R (by omega) k)

/-- The projected array. -/
def projected (c : Dev nD) : FVec Ideal S8192x13824 .bf16 := fun i =>
  ∑ k : Fin 2048, (hidden m c (i 0) k * weight m c (ix2 (i 1) k) : EReal)

theorem point (c : Dev nD) (t : Fin cfg0.N) (r : Fin 1024) (n : Fin 2304) (R : Fin 8192) (N : Fin 13824)
    (hR : R.val = 1024 * (t.val / 6) + r.val) (hN : N.val = 2304 * (t.val % 6) + n.val) :
    (outsAt0 m c t.val t.isLt).1 (ix2 r n) = projected m c (ix2 R N) := by
  have fin : (∑ k : Fin 2048, (hidden m c R k * (iblk m c 2 t : FVec Ideal S2304x2048 .bf16) (ix2 n k) : EReal)) = projected m c (ix2 R N) := by
    unfold projected
    refine Finset.sum_congr rfl fun k _ => ?_
    rw [weight_block m c t n N hN k]
    rfl
  by_cases h0 : t.val % 6 = 0
  · rw [outsAt0_A m c t h0]
    dsimp only
    rw [out_first]
    refine Eq.trans ?_ fin
    refine Finset.sum_congr rfl fun k _ => ?_
    rw [← hidden_block m c t r R hR k]
  · rw [outsAt0_B m c t h0]
    dsimp only
    rw [out_later]
    refine Eq.trans ?_ fin
    refine Finset.sum_congr rfl fun k _ => ?_
    rw [scratch m c (t.val - 1) _ r R (by omega) k]

theorem final (c : Dev nD) : (dats m 0 c).arrAt 3 (cfgs 0).N = projected m c := by
  refine (dats m 0 c).arrAt_eq_of_covers 3 _ (by decide +kernel) fun t _ y => ?_
  blk_simp
  rw [after0_3]
  idx_vars y
  exact point m c t y0 y1 _ _ (by blk_simp [places t]; omega) (by blk_simp [places t]; omega)

end Cert.InProj.Hand
-- ==== Proof.InProj.Claims.lean ====
/- The input projection: the reference read at an index, and the two runs side by side. -/
module

public import proofs.«01_k».proof.Defs
public import proofs.«01_k».proof.Proof.InProj.Array
public import proofs.«01_k».proof.Proof.Gen.RefInProjIdeal.Read
public import Idealize.ShloMosaic.Lib.IdealHost
public import Idealize.ShloMosaic.Lib.Claim

@[expose] public section

set_option maxRecDepth 16384

noncomputable section

namespace Cert.InProj.Hand

open Idealize.ShloMosaic Idealize.ShloMosaic.TcCoe Idealize.SL.Sem

/-- The pattern of 2 to the power −11. -/
theorem bits_recip : Ideal.ofBits .f32 0x3A000000#32 = ((1 / 2048 : ℝ) : EReal) := by
  simp [Ideal.ofBits, Ideal.ieee, -EReal.coe_mul]; norm_num

/-- The pattern of 2048. -/
theorem bits_width : Ideal.ofBits .f32 0x45000000#32 = ((2048 : ℝ) : EReal) := by
  simp [Ideal.ofBits, Ideal.ieee, -EReal.coe_mul]; norm_num

/-- Dividing by 2048 is multiplying by its reciprocal. -/
theorem mean_eq (s : EReal) : Ideal.div s (Ideal.ofBits .f32 0x45000000#32) = s * Ideal.ofBits .f32 0x3A000000#32 := by
  rw [bits_width, bits_recip, Ideal.div_coe (by norm_num)]

/-- The call's result as the arguments give it. -/
def result (x : FVec Ideal Cert.InProjIdeal.S1x8192x2048 .f32) (g : FVec Ideal Cert.InProjIdeal.S1x2048 .f32)
    (w : FVec Ideal Cert.InProjIdeal.S13824x2048 .bf16) : FVec Ideal Cert.InProjIdeal.S8192x13824 .bf16 := fun i =>
  ∑ k : Fin 2048, (scaled (fun l => x (ix3 0 (i 0) l)) (fun l => g (ix2 0 l)) k * w (ix2 (i 1) k) : EReal)

section
open Cert.InProjIdeal Cert.InProjIdeal.Gen

theorem rows_apply (m : (ℓ : Loc nD τ sig) → Buf (Elt Ideal) ℓ) (c : Dev nD) (r : Fin 8192) (l : Fin 2048) :
    rows m c (ix2 r l) = (m ((c : Thread nD τ).loc main_arg0) : FVec Ideal S1x8192x2048 .f32) (ix3 0 r l) := by
  unfold rows
  entry_read
  pointwise

theorem gain_apply (m : (ℓ : Loc nD τ sig) → Buf (Elt Ideal) ℓ) (c : Dev nD) (l : Fin 2048) :
    gain m c (ix2 0 l) = (m ((c : Thread nD τ).loc main_arg1) : FVec Ideal S1x2048 .f32) (ix2 0 l) := by
  unfold gain
  entry_read
  pointwise

theorem hidden_eq (m : (ℓ : Loc nD τ sig) → Buf (Elt Ideal) ℓ) (c : Dev nD) (r : Fin 8192) (k : Fin 2048) :
    hidden m c r k = scaled (fun l => (m ((c : Thread nD τ).loc main_arg0) : FVec Ideal S1x8192x2048 .f32) (ix3 0 r l))
      (fun l => (m ((c : Thread nD τ).loc main_arg1) : FVec Ideal S1x2048 .f32) (ix2 0 l)) k := by
  exact congrArg₂ (fun f h => scaled f h k) (funext fun l => rows_apply m c r l) (funext fun l => gain_apply m c l)

theorem projected_eq (m : (ℓ : Loc nD τ sig) → Buf (Elt Ideal) ℓ) (c : Dev nD) : projected m c
    = result (m ((c : Thread nD τ).loc main_arg0)) (m ((c : Thread nD τ).loc main_arg1)) (m ((c : Thread nD τ).loc main_arg2)) := by
  funext i
  exact Finset.sum_congr rfl fun k _ => congrArg (· * weight m c (ix2 (i 1) k)) (hidden_eq m c (i 0) k)

end

theorem reference_eq (x : FVec Ideal Cert.InProjIdeal.S1x8192x2048 .f32) (g : FVec Ideal Cert.InProjIdeal.S1x2048 .f32)
    (w : FVec Ideal Cert.InProjIdeal.S13824x2048 .bf16) : Cert.RefInProjIdeal.Read.val_main_v18 (F := Ideal) x g w = result x g w := by
  funext i
  unfold result scaled
  pointwise [Cert.RefInProjIdeal.Read.val_main_v18, Cert.RefInProjIdeal.Read.val_main_v17, Cert.RefInProjIdeal.Read.val_main_v16, Cert.RefInProjIdeal.Read.val_main_v15, Cert.RefInProjIdeal.Read.val_main_v14, Cert.RefInProjIdeal.Read.val_main_v13, Cert.RefInProjIdeal.Read.val_main_v12, Cert.RefInProjIdeal.Read.val_main_v11, Cert.RefInProjIdeal.Read.val_main_v10, Cert.RefInProjIdeal.Read.val_main_v9, Cert.RefInProjIdeal.Read.val_main_v8, Cert.RefInProjIdeal.Read.val_main_v7, Cert.RefInProjIdeal.Read.val_main_v6, Cert.RefInProjIdeal.Read.val_main_v5, Cert.RefInProjIdeal.Read.val_main_v4, Cert.RefInProjIdeal.Read.val_main_v3, Cert.RefInProjIdeal.Read.val_main_v2, Cert.RefInProjIdeal.Read.val_main_v1, Cert.RefInProjIdeal.Read.val_main_v0, Cert.RefInProjIdeal.Read.val_main_cst, Cert.RefInProjIdeal.Read.val_main_cst_0, Cert.RefInProjIdeal.Read.val_main_cst_1]
  simp only [mean_eq]

theorem kernel_run (m : (ℓ : Loc Cert.InProjIdeal.nD Cert.InProjIdeal.τ Cert.InProjIdeal.sig) → Buf (Elt Ideal) ℓ)
    (ρ : Dev Cert.InProjIdeal.nD → PrngReg) :
    θ_run Cert.InProjIdeal.defs (onTc (τ := Cert.InProjIdeal.τ) (Cert.InProjIdeal.main (F := Ideal))) ⟨m, fun _ => 0, ρ⟩
      fun r => ∀ c : Dev Cert.InProjIdeal.nD,
        r.2.mem ((c.tc : Thread Cert.InProjIdeal.nD Cert.InProjIdeal.τ).loc Cert.InProjIdeal.main_v3)
          = result (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
        ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
        ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
        ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2) :=
  (θ_run _ _ _).mono (fun r h c => ⟨(h c).1.trans ((final m c).trans (projected_eq m c)), (h c).2⟩) (Cert.InProjIdeal.Value.run_blocks m ρ)

theorem algebraic : algebraic_InProjIdeal_RefInProjIdeal := fun m g m' g' _ hagree =>
  ⟨_, kernel_run m g,
    (θ_run _ _ _).mono (fun r h c => ⟨(h c).1.trans ((Cert.RefInProjIdeal.Read.val_main_v18_eq _ _ _).trans ((reference_eq _ _ _).trans (by
      rw [(hagree c).1, (hagree c).2.1, (hagree c).2.2]))), (h c).2⟩) (Cert.RefInProjIdeal.Value.run m' g')⟩

end Cert.InProj.Hand
-- ==== Proof.MemKv.Block.lean ====
/- The memory tokens' keys and values: what one grid point leaves in the scratch and in the output block. -/
module

public import proofs.«01_k».proof.Proof.Gen.MemKvIdeal.Value
public import Idealize.ShloMosaic.Lib.Pipeline.ValueKit
public import Idealize.ShloMosaic.Lib.Pointwise
public import Idealize.ShloMosaic.Lib.Claim

@[expose] public section

set_option maxRecDepth 16384

noncomputable section

namespace Cert.MemKv.Hand

open Cert.MemKvIdeal Cert.MemKvIdeal.Gen Idealize.ShloMosaic Idealize.ShloMosaic.TcCoe Idealize.SL.Sem
open Idealize.ShloMosaic.Pipeline (Dat)

/-- A token scaled by the reciprocal root of its mean square and by a gain, at one column. -/
def scaled (x g : Fin 2048 → EReal) (k : Fin 2048) : EReal :=
  x k * Ideal.rsqrt ((∑ l, x l * x l) * Ideal.ofBits .f32 0x3A000000#32 + Ideal.ofBits .f32 0x358637BD#32) * g k

/-- A key of one head scaled likewise over the head's 256 columns. -/
def scaledKey (y g : Fin 256 → EReal) (n : Fin 256) : EReal :=
  y n * Ideal.rsqrt ((∑ e, y e * y e) * Ideal.ofBits .f32 0x3B800000#32 + Ideal.ofBits .f32 0x358637BD#32) * g n

theorem token (x : FVec Ideal S256x2048 .f32) (g : FVec Ideal S1x2048 .f32) (r : Fin 256) (k : Fin 2048) :
    k0_pay1 (F := Ideal) x g (ix2 r k) = scaled (fun l => x (ix2 r l)) (fun l => g (ix2 0 l)) k := by
  unfold scaled
  pointwise! [k0_pay1]

theorem product (h : FVec Ideal S256x2048 .bf16) (w : FVec Ideal S2048x256 .f32) (r n : Fin 256) :
    k0_pay2 (F := Ideal) h w (ix2 r n) = ∑ k : Fin 2048, (h (ix2 r k) * w (ix2 k n) : EReal) := by
  pointwise! [k0_pay2]

theorem key (h : FVec Ideal S256x2048 .bf16) (w : FVec Ideal S2048x256 .f32) (g : FVec Ideal S1x256 .f32) (r n : Fin 256) :
    k0_pay3 (F := Ideal) h w g (ix2 r n)
      = scaledKey (fun e => ∑ k : Fin 2048, (h (ix2 r k) * w (ix2 k e) : EReal)) (fun e => g (ix2 0 e)) n := by
  unfold scaledKey
  simp only [← product]
  unfold k0_pay3
  generalize k0_pay2 (F := Ideal) h w = y
  pointwise!

theorem value (h : FVec Ideal S256x2048 .bf16) (w : FVec Ideal S2048x256 .f32) (r n : Fin 256) :
    k0_pay4 (F := Ideal) h w (ix2 r n) = ∑ k : Fin 2048, (h (ix2 r k) * w (ix2 k n) : EReal) := by
  rw [← product]
  pointwise! [k0_pay4]

variable (c : Dev nD) (i : grid0.Coords) (arg1 : Memref sig .tc .vmem S256x2048 .f32) (harg1 : arg1.IsWhole)
  (arg2 : Memref sig .tc .vmem S1x2048 .f32) (harg2 : arg2.IsWhole) (arg3 : Memref sig .tc .vmem S2048x256 .f32) (harg3 : arg3.IsWhole)
  (arg4 : Memref sig .tc .vmem S1x256 .f32) (harg4 : arg4.IsWhole) (arg5 : Memref sig .tc .vmem S256x256 .bf16) (harg5 : arg5.IsWhole)
  (arg6 : Memref sig .tc .vmem S256x2048 .bf16) (harg6 : arg6.IsWhole)
  (x0 : Vec Ideal S256x2048 .f32) (x1 : Vec Ideal S1x2048 .f32) (x2 : Vec Ideal S2048x256 .f32) (x3 : Vec Ideal S1x256 .f32)

theorem scratch_first (hc0 : cond0_0 i) (hc1 : cond0_1 i) (hc2 : ¬cond0_2 i) :
    sout0_A_0 c i arg1 harg1 arg2 harg2 arg3 harg3 arg4 harg4 arg5 harg5 arg6 harg6 hc0 hc1 hc2 x0 x1 x2 x3 = k0_pay1 x0 x1 := by
  frame_out

theorem out_first (hc0 : cond0_0 i) (hc1 : cond0_1 i) (hc2 : ¬cond0_2 i) :
    out0_A_4 c i arg1 harg1 arg2 harg2 arg3 harg3 arg4 harg4 arg5 harg5 arg6 harg6 hc0 hc1 hc2 x0 x1 x2 x3 = k0_pay3 (k0_pay1 x0 x1) x2 x3 := by
  frame_out

theorem out_key (hc0 : ¬cond0_0 i) (hc1 : cond0_1 i) (hc2 : ¬cond0_2 i) (xs0 : Vec Ideal S256x2048 .bf16) :
    out0_B_4 c i arg1 harg1 arg2 harg2 arg3 harg3 arg4 harg4 arg5 harg5 arg6 harg6 hc0 hc1 hc2 x0 x1 x2 x3 xs0 = k0_pay3 xs0 x2 x3 := by
  frame_out

theorem out_value (hc0 : ¬cond0_0 i) (hc1 : ¬cond0_1 i) (hc2 : cond0_2 i) (xs0 : Vec Ideal S256x2048 .bf16) :
    out0_C_4 c i arg1 harg1 arg2 harg2 arg3 harg3 arg4 harg4 arg5 harg5 arg6 harg6 hc0 hc1 hc2 x0 x1 x2 x3 xs0 = k0_pay4 xs0 x2 := by
  frame_out

variable (m : (ℓ : Loc nD τ sig) → Buf (Elt Ideal) ℓ)

theorem places : ∀ t : Fin cfg0.N, win0_0.index t = ![0, 0] ∧ win0_1.index t = ![0, 0] ∧ win0_2.index t = ![0, t.val]
    ∧ win0_3.index t = ![0, 0] ∧ win0_4.index t = ![0, t.val] :=
  (by decide +kernel : ∀ t : Fin grid0.N, _)

/-- Token `r`, normalized, at column `k`. -/
def hidden (a0 : FVec Ideal S1x256x2048 .f32) (a1 : FVec Ideal S1x2048 .f32) (r : Fin 256) (k : Fin 2048) : EReal :=
  scaled (fun l => a0 (ix3 0 r l)) (fun l => a1 (ix2 0 l)) k

/-- The projection of token `r` at column `n`. -/
def projected (a0 : FVec Ideal S1x256x2048 .f32) (a1 : FVec Ideal S1x2048 .f32) (a2 : FVec Ideal S1x2048x2048 .f32)
    (r : Fin 256) (n : Fin 2048) : EReal :=
  ∑ k : Fin 2048, hidden a0 a1 r k * a2 (ix3 0 k n)

/-- The call's result: the first 1024 columns normalized head by head, the others as projected. -/
def result (a0 : FVec Ideal S1x256x2048 .f32) (a1 : FVec Ideal S1x2048 .f32) (a2 : FVec Ideal S1x2048x2048 .f32)
    (a3 : FVec Ideal S1x256 .f32) (r : Fin 256) (n : Fin 2048) : EReal :=
  if n.val < 1024 then
    scaledKey (fun e => projected a0 a1 a2 r ⟨256 * (n.val / 256) + e.val, by omega⟩) (fun e => a3 (ix2 0 e)) ⟨n.val % 256, by omega⟩
  else projected a0 a1 a2 r n

abbrev A0 (c : Dev nD) : FVec Ideal S1x256x2048 .f32 := m ((c : Thread nD τ).loc main_arg0)
abbrev A1 (c : Dev nD) : FVec Ideal S1x2048 .f32 := m ((c : Thread nD τ).loc main_arg1)
abbrev A2 (c : Dev nD) : FVec Ideal S1x2048x2048 .f32 := m ((c : Thread nD τ).loc main_arg2)
abbrev A3 (c : Dev nD) : FVec Ideal S1x256 .f32 := m ((c : Thread nD τ).loc main_arg3)

theorem block0 (c : Dev nD) (t : Fin cfg0.N) (r : Fin 256) (l : Fin 2048) :
    (iblk m c 0 t : FVec Ideal S256x2048 .f32) (ix2 r l) = A0 m c (ix3 0 r l) := by
  blk_simp [iblk, places t]
  entry_read
  pointwise
  blk_ext [places t]

theorem block1 (c : Dev nD) (t : Fin cfg0.N) (l : Fin 2048) :
    (iblk m c 1 t : FVec Ideal S1x2048 .f32) (ix2 0 l) = A1 m c (ix2 0 l) := by
  blk_simp [iblk, places t]
  entry_read
  pointwise
  blk_ext [places t]

theorem block2 (c : Dev nD) (t : Fin cfg0.N) (k : Fin 2048) (n : Fin 256) (N : Fin 2048) (hN : N.val = 256 * t.val + n.val) :
    (iblk m c 2 t : FVec Ideal S2048x256 .f32) (ix2 k n) = A2 m c (ix3 0 k N) := by
  blk_simp [iblk, places t]
  entry_read
  pointwise
  blk_ext [places t]

theorem block3 (c : Dev nD) (t : Fin cfg0.N) (e : Fin 256) :
    (iblk m c 3 t : FVec Ideal S1x256 .f32) (ix2 0 e) = A3 m c (ix2 0 e) := by
  blk_simp [iblk, places t]
  entry_read
  pointwise
  blk_ext [places t]

theorem hidden_block (c : Dev nD) (t : Fin cfg0.N) (r : Fin 256) (k : Fin 2048) :
    k0_pay1 (F := Ideal) (iblk m c 0 t) (iblk m c 1 t) (ix2 r k) = hidden (A0 m c) (A1 m c) r k := by
  refine (token _ _ r k).trans ?_
  unfold hidden
  simp only [block0 m c t, block1 m c t]

/-- After every point the scratch holds the normalized tokens. -/
theorem scratch (c : Dev nD) : ∀ (n : ℕ) (hn : n < cfg0.N) (r : Fin 256) (k : Fin 2048),
    (outsAt0 m c n hn).2 (ix2 r k) = hidden (A0 m c) (A1 m c) r k := by
  intro n
  induction n with
  | zero =>
    intro hn r k
    rw [outsAt0_A m c ⟨0, hn⟩ rfl (by show 0 < 4; omega) (by show ¬4 ≤ 0; omega)]
    dsimp only
    rw [scratch_first]
    exact hidden_block m c _ r k
  | succ n ih =>
    intro hn r k
    have hn8 : n + 1 < 8 := hn
    refine Eq.trans ?_ (ih (Nat.lt_of_succ_lt hn) r k)
    by_cases h1 : n + 1 < 4
    · rw [outsAt0_B m c ⟨n + 1, hn⟩ (by show ¬(n + 1) % 8 = 0; omega) h1 (by show ¬4 ≤ n + 1; omega)]
      rfl
    · rw [outsAt0_C m c ⟨n + 1, hn⟩ (by show ¬(n + 1) % 8 = 0; omega) h1 (by show 4 ≤ n + 1; omega)]
      rfl

/-- The product at a point, with the normalized tokens in the scratch, is the projection. -/
theorem projected_block (c : Dev nD) (t : Fin cfg0.N) (h : FVec Ideal S256x2048 .bf16)
    (hh : ∀ r k, h (ix2 r k) = hidden (A0 m c) (A1 m c) r k) (r e : Fin 256) (N : Fin 2048) (hN : N.val = 256 * t.val + e.val) :
    (∑ k : Fin 2048, (h (ix2 r k) * (iblk m c 2 t : FVec Ideal S2048x256 .f32) (ix2 k e) : EReal)) = projected (A0 m c) (A1 m c) (A2 m c) r N := by
  unfold projected
  exact Finset.sum_congr rfl fun k _ => by rw [hh, block2 m c t k e N hN]

theorem key_block (c : Dev nD) (t : Fin cfg0.N) (ht : t.val < 4) (h : FVec Ideal S256x2048 .bf16)
    (hh : ∀ r k, h (ix2 r k) = hidden (A0 m c) (A1 m c) r k) (r n : Fin 256) (N : Fin 2048) (hN : N.val = 256 * t.val + n.val) :
    k0_pay3 (F := Ideal) h (iblk m c 2 t) (iblk m c 3 t) (ix2 r n) = result (A0 m c) (A1 m c) (A2 m c) (A3 m c) r N := by
  refine (key _ _ _ r n).trans ?_
  unfold result
  rw [if_pos (by omega)]
  have hn : (⟨N.val % 256, by omega⟩ : Fin 256) = n := Fin.ext (by show N.val % 256 = n.val; omega)
  rw [hn]
  have e1 : (fun e => ∑ k : Fin 2048, (h (ix2 r k) * (iblk m c 2 t : FVec Ideal S2048x256 .f32) (ix2 k e) : EReal))
      = fun e : Fin 256 => projected (A0 m c) (A1 m c) (A2 m c) r ⟨256 * (N.val / 256) + e.val, by omega⟩ :=
    funext fun e => projected_block m c t h hh r e _ (by show 256 * (N.val / 256) + e.val = _; omega)
  exact congrArg₂ (fun f g => scaledKey f g n) e1 (funext fun e => block3 m c t e)

theorem point (c : Dev nD) (t : Fin cfg0.N) (r n : Fin 256) (R : Fin 256) (N : Fin 2048) (hR : R.val = r.val) (hN : N.val = 256 * t.val + n.val) :
    (outsAt0 m c t.val t.isLt).1 (ix2 r n) = result (A0 m c) (A1 m c) (A2 m c) (A3 m c) R N := by
  obtain rfl : R = r := Fin.ext hR
  have ht : t.val < 8 := t.isLt
  by_cases h0 : t.val % 8 = 0
  · rw [outsAt0_A m c t h0 (by omega) (by omega)]
    dsimp only
    rw [out_first]
    exact key_block m c t (by omega) _ (hidden_block m c t) _ _ _ hN
  · by_cases h1 : t.val < 4
    · rw [outsAt0_B m c t h0 h1 (by omega)]
      dsimp only
      rw [out_key]
      exact key_block m c t h1 _ (scratch m c _ _) _ _ _ hN
    · rw [outsAt0_C m c t h0 h1 (by omega)]
      dsimp only
      rw [out_value]
      refine (value _ _ _ n).trans ((projected_block m c t _ (scratch m c _ _) _ n N hN).trans ?_)
      unfold result
      rw [if_neg (by omega)]

/-- The whole result, as the array the call writes. -/
def resultArr (c : Dev nD) : FVec Ideal S256x2048 .bf16 := fun i => result (A0 m c) (A1 m c) (A2 m c) (A3 m c) (i 0) (i 1)

theorem final (c : Dev nD) : ((dats m 0 c).arrAt 4 cfg0.N : FVec Ideal S256x2048 .bf16) = resultArr m c := by
  refine (dats m 0 c).arrAt_eq_of_covers 4 _ (by decide +kernel) fun t _ y => ?_
  blk_simp
  rw [after0_4]
  idx_vars y
  exact point m c t y0 y1 _ _ (by blk_simp [places t]) (by blk_simp [places t]; omega)

end Cert.MemKv.Hand
-- ==== Proof.MemKv.Claims.lean ====
/- The memory tokens' keys and values: the reference read at an index, and the two runs side by side. -/
module

public import proofs.«01_k».proof.Defs
public import proofs.«01_k».proof.Proof.InProj.Claims
public import proofs.«01_k».proof.Proof.MemKv.Block
public import proofs.«01_k».proof.Proof.Gen.RefMemKvIdeal.Read
public import Idealize.ShloMosaic.Lib.IdealHost
public import Idealize.ShloMosaic.Lib.Claim

@[expose] public section

set_option maxRecDepth 16384

noncomputable section

namespace Cert.MemKv.Hand

open Idealize.ShloMosaic Idealize.ShloMosaic.TcCoe Idealize.SL.Sem

/-- The pattern of 2 to the power −8. -/
theorem bits_head_recip : Ideal.ofBits .f32 0x3B800000#32 = ((1 / 256 : ℝ) : EReal) := by
  simp [Ideal.ofBits, Ideal.ieee, -EReal.coe_mul]; norm_num

/-- The pattern of 256. -/
theorem bits_head : Ideal.ofBits .f32 0x43800000#32 = ((256 : ℝ) : EReal) := by
  simp [Ideal.ofBits, Ideal.ieee, -EReal.coe_mul]; norm_num

/-- Dividing by 256 is multiplying by its reciprocal. -/
theorem head_mean_eq (s : EReal) : Ideal.div s (Ideal.ofBits .f32 0x43800000#32) = s * Ideal.ofBits .f32 0x3B800000#32 := by
  rw [bits_head, bits_head_recip, Ideal.div_coe (by norm_num)]

section
open Cert.RefMemKvIdeal Cert.RefMemKvIdeal.Read

variable (a0 : FVec Ideal S1x256x2048 .f32) (a1 : FVec Ideal S1x2048 .f32) (a2 : FVec Ideal S1x2048x2048 .f32) (a3 : FVec Ideal S1x256 .f32)

theorem hidden_ref (r : Fin 256) (k : Fin 2048) : val_main_v14 (F := Ideal) a0 a1 (ix2 r k) = hidden a0 a1 r k := by
  unfold hidden scaled
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [Cert.InProj.Hand.mean_eq]

theorem projected_ref (r : Fin 256) (n : Fin 2048) : val_main_v16 (F := Ideal) a0 a1 a2 (ix2 r n) = projected a0 a1 a2 r n := by
  unfold projected
  simp only [← hidden_ref]
  unfold val_main_v16
  generalize val_main_v14 (F := Ideal) a0 a1 = h
  pointwise! [val_main_v15]

theorem key_ref (r : Fin 256) (h : Fin 4) (e : Fin 256) : val_main_v32 (F := Ideal) a0 a1 a2 a3 (ix3 r h e)
    = scaledKey (fun e => projected a0 a1 a2 r ⟨256 * h.val + e.val, by omega⟩) (fun e => a3 (ix2 0 e)) e := by
  have hy : ∀ e : Fin 256, val_main_v18 (F := Ideal) a0 a1 a2 (ix3 r h e) = projected a0 a1 a2 r ⟨256 * h.val + e.val, by omega⟩ := by
    intro e
    rw [← projected_ref]
    unfold val_main_v18 val_main_v17
    generalize val_main_v16 (F := Ideal) a0 a1 a2 = y
    pointwise!
  unfold scaledKey
  simp only [← hy, ← head_mean_eq]
  pointwise [val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]

theorem reference_eq (r : Fin 256) (n : Fin 2048) : val_main_v36 (F := Ideal) a0 a1 a2 a3 (ix2 r n) = result a0 a1 a2 a3 r n := by
  unfold result
  pointwise [val_main_v36, val_main_v35, val_main_v34, val_main_v33]
  by_cases hn : n.val < 1024
  · rw [dif_pos hn, if_pos hn]
    exact key_ref a0 a1 a2 a3 r ⟨n.val / 256, by omega⟩ ⟨n.val % 256, by omega⟩
  · rw [dif_neg hn, if_neg hn, projected_ref]
    exact congrArg (projected a0 a1 a2 r) (Fin.ext (by show 1024 + (n.val - 1024) = n.val; omega))

end

theorem kernel_run (m : (ℓ : Loc Cert.MemKvIdeal.nD Cert.MemKvIdeal.τ Cert.MemKvIdeal.sig) → Buf (Elt Ideal) ℓ)
    (ρ : Dev Cert.MemKvIdeal.nD → PrngReg) :
    θ_run Cert.MemKvIdeal.defs (onTc (τ := Cert.MemKvIdeal.τ) (Cert.MemKvIdeal.main (F := Ideal))) ⟨m, fun _ => 0, ρ⟩
      fun r => ∀ c : Dev Cert.MemKvIdeal.nD,
        r.2.mem ((c.tc : Thread Cert.MemKvIdeal.nD Cert.MemKvIdeal.τ).loc Cert.MemKvIdeal.main_v6) = resultArr m c
        ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
        ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
        ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
        ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3) :=
  (θ_run _ _ _).mono (fun r h c => ⟨(h c).1.trans (final m c), (h c).2⟩) (Cert.MemKvIdeal.Value.run_blocks m ρ)

theorem reference_arr (m : (ℓ : Loc Cert.MemKvIdeal.nD Cert.MemKvIdeal.τ Cert.MemKvIdeal.sig) → Buf (Elt Ideal) ℓ) (c : Dev Cert.MemKvIdeal.nD) :
    Cert.RefMemKvIdeal.Read.val_main_v36 (F := Ideal) (A0 m c) (A1 m c) (A2 m c) (A3 m c) = resultArr m c := by
  funext i
  idx_vars i
  exact reference_eq _ _ _ _ i0 i1

theorem algebraic : algebraic_MemKvIdeal_RefMemKvIdeal := fun m g m' g' _ hagree =>
  ⟨_, kernel_run m g,
    (θ_run _ _ _).mono (fun r h c => ⟨(h c).1.trans ((Cert.RefMemKvIdeal.Read.val_main_v36_eq _ _).trans (by
      rw [(hagree c).1, (hagree c).2.1, (hagree c).2.2.1, (hagree c).2.2.2]
      exact reference_arr m c)), (h c).2⟩) (Cert.RefMemKvIdeal.Value.run m' g')⟩

end Cert.MemKv.Hand
-- ==== Proof.lean ====
/- The claims of this certificate, each cited from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInProjIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.RefMemKvIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.RefMergeIdeal
public import proofs.«01_k».proof.Proof.Gen.Pre_finite_attention
public import proofs.«01_k».proof.Proof.Gen.AttnB
public import proofs.«01_k».proof.Proof.Gen.AttnB.Launch
public import proofs.«01_k».proof.Proof.Gen.AttnB.Points
public import proofs.«01_k».proof.Proof.Gen.AttnB.Skeleton
public import proofs.«01_k».proof.Proof.Gen.AttnBIdeal
public import proofs.«01_k».proof.Proof.Gen.AttnBIdeal.Skeleton
public import proofs.«01_k».proof.Proof.Gen.AttnBIdeal.Launch
public import proofs.«01_k».proof.Proof.Gen.AttnBIdeal.Points
public import proofs.«01_k».proof.Proof.Gen.AttnBIdeal.Loops
public import proofs.«01_k».proof.Proof.Gen.RefAttnBIdeal
public import proofs.«01_k».proof.Proof.Gen.Pre_finite_latent
public import proofs.«01_k».proof.Proof.Gen.RefAttnBIdeal.Run
public import proofs.«01_k».proof.Proof.Gen.RefAttnBIdeal.Read
public import proofs.«01_k».proof.Proof.AttnB.Frames
public import proofs.«01_k».proof.Proof.AttnB.Claims
public import proofs.«01_k».proof.Proof.Gen.InProjIdeal.Value
public import proofs.«01_k».proof.Proof.Gen.MemKvIdeal.Value
public import proofs.«01_k».proof.Proof.Gen.MergeIdeal.Value
public import proofs.«01_k».proof.Proof.Gen.ReferenceIdeal.Run
public import proofs.«01_k».proof.Proof.Gen.ReferenceIdeal.Read
public import proofs.«01_k».proof.Proof.Gen.RefInProjIdeal.Run
public import proofs.«01_k».proof.Proof.Gen.RefInProjIdeal.Read
public import proofs.«01_k».proof.Proof.Gen.RefMemKvIdeal.Run
public import proofs.«01_k».proof.Proof.Gen.RefMemKvIdeal.Read
public import proofs.«01_k».proof.Proof.Gen.RefMergeIdeal.Run
public import proofs.«01_k».proof.Proof.Gen.RefMergeIdeal.Read
public import proofs.«01_k».proof.Proof.Gen.Reference.Run
public import proofs.«01_k».proof.Proof.Gen.Reference.Read
public import proofs.«01_k».proof.Proof.Regroup.Claims
public import proofs.«01_k».proof.Proof.InProj.Claims
public import proofs.«01_k».proof.Proof.MemKv.Claims
public import proofs.«01_k».proof.Proof.Merge.Claims

@[expose] public section

noncomputable section

namespace Cert.Proof

open Idealize.ShloMosaic Idealize.ShloMosaic.Tactic Idealize.SL.Sem

theorem frame_Kernel : Cert.quiescent_Kernel := fun m g _ =>
  cast (by sl_kernel_rfl) (Cert.KernelIdeal.Gen.frame (F := Bits) m g (Cert.Regroup.ok m))

theorem frame_KernelIdeal : Cert.quiescent_KernelIdeal := fun m g _ =>
  Cert.KernelIdeal.Gen.frame m g (Cert.Regroup.ok m)

theorem frame_ReferenceIdeal : Cert.quiescent_ReferenceIdeal := fun m g _ =>
  (θ_run _ _ _).mono (fun r h => ⟨fun c => (h c).2, sem_eq_zero_of_no_sems (by decide) r.2⟩) (Cert.Regroup.reference_run m g)

theorem frame_Reference : Cert.quiescent_Reference := fun m g _ =>
  (θ_run _ _ _).mono (fun r h => ⟨fun c => (h c).2, sem_eq_zero_of_no_sems (by decide) r.2⟩) (Cert.Regroup.reference_run_bits m g)

theorem frame_InProj : Cert.quiescent_InProj := fun m g _ =>
  cast (by sl_kernel_rfl) (Cert.InProjIdeal.Gen.frame (F := Bits) m g)

theorem frame_InProjIdeal : Cert.quiescent_InProjIdeal := fun m g _ =>
  Cert.InProjIdeal.Gen.frame m g

theorem frame_RefInProjIdeal : Cert.quiescent_RefInProjIdeal := fun m g _ =>
  (θ_run _ _ _).mono (fun r h => ⟨fun c => (h c).2, sem_eq_zero_of_no_sems (by decide) r.2⟩) (Cert.RefInProjIdeal.Value.run m g)

theorem frame_MemKv : Cert.quiescent_MemKv := fun m g _ =>
  cast (by sl_kernel_rfl) (Cert.MemKvIdeal.Gen.frame (F := Bits) m g)

theorem frame_MemKvIdeal : Cert.quiescent_MemKvIdeal := fun m g _ =>
  Cert.MemKvIdeal.Gen.frame m g

theorem frame_RefMemKvIdeal : Cert.quiescent_RefMemKvIdeal := fun m g _ =>
  (θ_run _ _ _).mono (fun r h => ⟨fun c => (h c).2, sem_eq_zero_of_no_sems (by decide) r.2⟩) (Cert.RefMemKvIdeal.Value.run m g)

theorem frame_Merge : Cert.quiescent_Merge := fun m g _ =>
  cast (by sl_kernel_rfl) (Cert.MergeIdeal.Gen.frame (F := Bits) m g)

theorem frame_MergeIdeal : Cert.quiescent_MergeIdeal := fun m g _ =>
  Cert.MergeIdeal.Gen.frame m g

theorem frame_RefMergeIdeal : Cert.quiescent_RefMergeIdeal := fun m g _ =>
  (θ_run _ _ _).mono (fun r h => ⟨fun c => (h c).2, sem_eq_zero_of_no_sems (by decide) r.2⟩) (Cert.RefMergeIdeal.Value.run m g)

theorem frame_MergeIdeal_finite : Cert.quiescent_MergeIdeal_pre_finite_attention := fun m g _ =>
  Cert.MergeIdeal.Gen.frame m g

theorem frame_RefMergeIdeal_finite : Cert.quiescent_RefMergeIdeal_pre_finite_attention := fun m g _ =>
  frame_RefMergeIdeal m g trivial

theorem frame_AttnBIdeal : Cert.quiescent_AttnBIdeal := fun m g _ =>
  Cert.AttnBIdeal.Hand.frame m g

theorem frame_RefAttnBIdeal : Cert.quiescent_RefAttnBIdeal := fun m g _ =>
  (θ_run _ _ _).mono (fun r h => ⟨fun c => (h c).2, sem_eq_zero_of_no_sems (by decide) r.2⟩) (Cert.RefAttnBIdeal.Value.run m g)

theorem frame_AttnBIdeal_finite : Cert.quiescent_AttnBIdeal_pre_finite_latent := fun m g _ =>
  Cert.AttnBIdeal.Hand.frame m g

theorem frame_RefAttnBIdeal_finite : Cert.quiescent_RefAttnBIdeal_pre_finite_latent := fun m g _ =>
  frame_RefAttnBIdeal m g trivial

theorem claim : Cert.Claim :=
  ⟨Cert.Kernel.Gen.facts,
    Cert.KernelIdeal.Gen.facts,
    Cert.ReferenceIdeal.Gen.facts,
    Cert.Reference.Gen.facts,
    Cert.InProj.Gen.facts,
    Cert.InProjIdeal.Gen.facts,
    Cert.RefInProjIdeal.Gen.facts,
    Cert.MemKv.Gen.facts,
    Cert.MemKvIdeal.Gen.facts,
    Cert.RefMemKvIdeal.Gen.facts,
    Cert.Merge.Gen.facts,
    Cert.MergeIdeal.Gen.facts,
    Cert.RefMergeIdeal.Gen.facts,
    Cert.AttnB.Gen.facts,
    Cert.AttnBIdeal.Gen.facts,
    Cert.RefAttnBIdeal.Gen.facts,
    Cert.Pre_finite_attention.Gen.facts,
    Cert.Pre_finite_latent.Gen.facts,
    frame_Kernel,
    frame_KernelIdeal,
    frame_ReferenceIdeal,
    frame_Reference,
    frame_InProj,
    frame_InProjIdeal,
    frame_RefInProjIdeal,
    frame_MemKv,
    frame_MemKvIdeal,
    frame_RefMemKvIdeal,
    frame_Merge,
    frame_MergeIdeal,
    frame_MergeIdeal_finite,
    frame_RefMergeIdeal,
    frame_RefMergeIdeal_finite,
    Cert.AttnBIdeal.Hand.quiescent,
    frame_AttnBIdeal,
    frame_AttnBIdeal_finite,
    frame_RefAttnBIdeal,
    frame_RefAttnBIdeal_finite,
    trivial,
    Cert.Regroup.algebraic,
    Cert.Regroup.bitexact,
    trivial,
    Cert.InProj.Hand.algebraic,
    trivial,
    Cert.MemKv.Hand.algebraic,
    trivial,
    Cert.Merge.Hand.algebraic,
    Cert.AttnBIdeal.Hand.preserves,
    Cert.AttnBIdeal.Hand.algebraic⟩

end Cert.Proof

end
